-- ==== Defs.lean ====
def Pre_Kernel [hPre_node_bits : Cert.Pre_node_bits.Facts] (m : (ℓ : Loc Cert.Kernel.nD Cert.Kernel.τ Cert.Kernel.sig) → Buf (Elt Bits) ℓ) : Prop :=
  ∀ c : Dev Cert.Kernel.nD,
    (Cert.Pre_node_bits.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_node_bits : Cert.Pre_node_bits.Facts] (m : (ℓ : Loc Cert.KernelIdeal.nD Cert.KernelIdeal.τ Cert.KernelIdeal.sig) → Buf (Elt Ideal) ℓ) : Prop :=
  ∀ c : Dev Cert.KernelIdeal.nD,
    (Cert.Pre_node_bits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_node_bits [hPre_node_bits : Cert.Pre_node_bits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_node_bits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] [hPre_node_bits : Cert.Pre_node_bits.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] [hPre_node_bits : Cert.Pre_node_bits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_node_bits [hReferenceIdeal : Cert.ReferenceIdeal.Facts] [hPre_node_bits : Cert.Pre_node_bits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_node_bits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_node_bits : Cert.Pre_node_bits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v68)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_arg2)) (v3 : (c : Dev Cert.KernelIdeal.nD) → Buf (Elt Ideal) ((c.tc : Thread Cert.KernelIdeal.nD Cert.KernelIdeal.τ).loc Cert.KernelIdeal.main_arg3)) (v4 : (c : Dev Cert.KernelIdeal.nD) → Buf (Elt Ideal) ((c.tc : Thread Cert.KernelIdeal.nD Cert.KernelIdeal.τ).loc Cert.KernelIdeal.main_v69)) (v5 : (c : Dev Cert.KernelIdeal.nD) → Buf (Elt Ideal) ((c.tc : Thread Cert.KernelIdeal.nD Cert.KernelIdeal.τ).loc Cert.KernelIdeal.main_arg4)) (v6 : (c : Dev Cert.KernelIdeal.nD) → Buf (Elt Ideal) ((c.tc : Thread Cert.KernelIdeal.nD Cert.KernelIdeal.τ).loc Cert.KernelIdeal.main_arg5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg2) = v2 c
          ∧ r.2.mem ((c.tc : Thread Cert.KernelIdeal.nD Cert.KernelIdeal.τ).loc Cert.KernelIdeal.main_arg3) = v3 c
          ∧ r.2.mem ((c.tc : Thread Cert.KernelIdeal.nD Cert.KernelIdeal.τ).loc Cert.KernelIdeal.main_v69) = v4 c
          ∧ r.2.mem ((c.tc : Thread Cert.KernelIdeal.nD Cert.KernelIdeal.τ).loc Cert.KernelIdeal.main_arg4) = v5 c
          ∧ r.2.mem ((c.tc : Thread Cert.KernelIdeal.nD Cert.KernelIdeal.τ).loc Cert.KernelIdeal.main_arg5) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg2) = v2 c
          ∧ r.2.mem ((c.tc : Thread Cert.ReferenceIdeal.nD Cert.ReferenceIdeal.τ).loc Cert.ReferenceIdeal.main_arg3) = v3 c
          ∧ r.2.mem ((c.tc : Thread Cert.ReferenceIdeal.nD Cert.ReferenceIdeal.τ).loc Cert.ReferenceIdeal.main_v37) = v4 c
          ∧ r.2.mem ((c.tc : Thread Cert.ReferenceIdeal.nD Cert.ReferenceIdeal.τ).loc Cert.ReferenceIdeal.main_arg4) = v5 c
          ∧ r.2.mem ((c.tc : Thread Cert.ReferenceIdeal.nD Cert.ReferenceIdeal.τ).loc Cert.ReferenceIdeal.main_arg5) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_node_bits : Cert.Pre_node_bits.Facts),
    quiescent_Kernel (hKernel := hKernel) (hPre_node_bits := hPre_node_bits)
    ∧ quiescent_KernelIdeal (hKernelIdeal := hKernelIdeal) (hPre_node_bits := hPre_node_bits)
    ∧ quiescent_ReferenceIdeal (hReferenceIdeal := hReferenceIdeal)
    ∧ quiescent_ReferenceIdeal_pre_node_bits (hReferenceIdeal := hReferenceIdeal) (hPre_node_bits := hPre_node_bits)
    ∧ preserves_Kernel_KernelIdeal
    ∧ algebraic_KernelIdeal_ReferenceIdeal (hKernelIdeal := hKernelIdeal) (hReferenceIdeal := hReferenceIdeal) (hPre_node_bits := hPre_node_bits)
-- ==== Pre_node_bits.lean ====
abbrev S100000x9 : Shape := ⟨2, ![100000, 9]⟩
abbrev S1600000x4 : Shape := ⟨2, ![1600000, 4]⟩
abbrev S1600000 : Shape := ⟨1, ![1600000]⟩
abbrev S100000 : Shape := ⟨1, ![100000]⟩
abbrev S119x128 : Shape := ⟨2, ![119, 128]⟩
abbrev S4x128 : Shape := ⟨2, ![4, 128]⟩
abbrev S12x128 : Shape := ⟨2, ![12, 128]⟩
abbrev S10x128 : Shape := ⟨2, ![10, 128]⟩
abbrev S6x128 : Shape := ⟨2, ![6, 128]⟩
abbrev S2x128 : Shape := ⟨2, ![2, 128]⟩
abbrev S_ : Shape := ⟨0, ![]⟩

class Facts : Prop where
  bcast_S_S100000x9 : S_.BroadcastsInDim S100000x9 (![] : Fin 0 → Fin S100000x9.rank)
  reducesTo_S100000x9_S_d0_1 : S100000x9.ReducesTo [0, 1] S_
  h_S_ : 0 < S_.numel

variable [Facts]

def fn {F : FTy → Type} [FloatOps F] (main_arg0 : IVec S100000x9 32) (main_arg1 : FVec F S1600000x4 .f32) (main_arg2 : IVec S1600000 32) (main_arg3 : IVec S1600000 32) (main_arg4 : IVec S100000 32) (main_arg5 : IVec S1600000 32) (main_arg6 : FVec F S119x128 .f32) (main_arg7 : FVec F S4x128 .f32) (main_arg8 : FVec F S12x128 .f32) (main_arg9 : FVec F S12x128 .f32) (main_arg10 : FVec F S10x128 .f32) (main_arg11 : FVec F S6x128 .f32) (main_arg12 : FVec F S6x128 .f32) (main_arg13 : FVec F S2x128 .f32) (main_arg14 : FVec F S2x128 .f32) : IVec S_ 1 :=
  let main_c : IVec S_ 32 := constantI S_ 32 0#32
  let main_v0 : IVec S100000x9 32 := broadcastInDim S100000x9 ![] bcast_S_S100000x9 main_c
  let main_v1 : IVec S100000x9 1 := cmpi .sge main_arg0 main_v0
  let main_c_0 : IVec S_ 32 := constantI S_ 32 2#32
  let main_v2 : IVec S100000x9 32 := broadcastInDim S100000x9 ![] bcast_S_S100000x9 main_c_0
  let main_v3 : IVec S100000x9 1 := cmpi .slt main_arg0 main_v2
  let main_v4 : IVec S100000x9 1 := andi main_v1 main_v3
  let main_c_1 : IVec S_ 1 := constantI S_ 1 1#1
  let main_v5 : IVec S_ 1 := (fun x v => Host.reduce IntOp.andi x v reducesTo_S100000x9_S_d0_1 h_S_) main_v4 main_c_1
  main_v5
-- ==== Kernel.lean ====
abbrev S100000x9 : Shape := ⟨2, ![100000, 9]⟩
abbrev S1600000x4 : Shape := ⟨2, ![1600000, 4]⟩
abbrev S1600000 : Shape := ⟨1, ![1600000]⟩
abbrev S100000 : Shape := ⟨1, ![100000]⟩
abbrev S119x128 : Shape := ⟨2, ![119, 128]⟩
abbrev S4x128 : Shape := ⟨2, ![4, 128]⟩
abbrev S12x128 : Shape := ⟨2, ![12, 128]⟩
abbrev S10x128 : Shape := ⟨2, ![10, 128]⟩
abbrev S6x128 : Shape := ⟨2, ![6, 128]⟩
abbrev S2x128 : Shape := ⟨2, ![2, 128]⟩
abbrev S_ : Shape := ⟨0, ![]⟩
abbrev S512x128 : Shape := ⟨2, ![512, 128]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1x512x1x128 : Shape := ⟨4, ![1, 512, 1, 128]⟩
abbrev S32x512x1x128 : Shape := ⟨4, ![32, 512, 1, 128]⟩
abbrev S16384x128 : Shape := ⟨2, ![16384, 128]⟩
abbrev S9 : Shape := ⟨1, ![9]⟩
abbrev S1x9 : Shape := ⟨2, ![1, 9]⟩
abbrev S100000x128 : Shape := ⟨2, ![100000, 128]⟩
abbrev S416 : Shape := ⟨1, ![416]⟩
abbrev S5x80 : Shape := ⟨2, ![5, 80]⟩
abbrev S400x128 : Shape := ⟨2, ![400, 128]⟩
abbrev S400 : Shape := ⟨1, ![400]⟩
abbrev S16 : Shape := ⟨1, ![16]⟩
abbrev S1x16 : Shape := ⟨2, ![1, 16]⟩
abbrev S80x128 : Shape := ⟨2, ![80, 128]⟩
abbrev S1x80 : Shape := ⟨2, ![1, 80]⟩
abbrev S80 : Shape := ⟨1, ![80]⟩
abbrev S1024x1 : Shape := ⟨2, ![1024, 1]⟩

abbrev nBuf : Table → Nat
  | .hbm => 306
  | .local .scVector .vmem => 6
  | _ => 0

abbrev hbmTy0_0 (i : Nat) : BufTy := match i % 128 with
  | 0 => ⟨S100000x9, .i32⟩
  | 1 => ⟨S1600000x4, .f32⟩
  | 2 => ⟨S1600000, .i32⟩
  | 3 => ⟨S1600000, .i32⟩
  | 4 => ⟨S100000, .i32⟩
  | 5 => ⟨S1600000, .i32⟩
  | 6 => ⟨S119x128, .f32⟩
  | 7 => ⟨S4x128, .f32⟩
  | 8 => ⟨S12x128, .f32⟩
  | 9 => ⟨S12x128, .f32⟩
  | 10 => ⟨S10x128, .f32⟩
  | 11 => ⟨S6x128, .f32⟩
  | 12 => ⟨S6x128, .f32⟩
  | 13 => ⟨S2x128, .f32⟩
  | 14 => ⟨S2x128, .f32⟩
  | 15 => ⟨S_, .f32⟩
  | 16 => ⟨S512x128, .f32⟩
  | 17 => ⟨S512, .i32⟩
  | 18 => ⟨S_, .i32⟩
  | 19 => ⟨S512, .i32⟩
  | 20 => ⟨S512, .i32⟩
  | 21 => ⟨S_, .i32⟩
  | 22 => ⟨S512, .i32⟩
  | 23 => ⟨S512, .i32⟩
  | 24 => ⟨S_, .i32⟩
  | 25 => ⟨S512, .i32⟩
  | 26 => ⟨S512, .i1⟩
  | 27 => ⟨S_, .i32⟩
  | 28 => ⟨S512, .i32⟩
  | 29 => ⟨S512, .i32⟩
  | 30 => ⟨S512, .i32⟩
  | 31 => ⟨S512x1, .i32⟩
  | 32 => ⟨S1, .i32⟩
  | 33 => ⟨S_, .i32⟩
  | 34 => ⟨S512x1, .i32⟩
  | 35 => ⟨S512x1, .i1⟩
  | 36 => ⟨S1x1, .i32⟩
  | 37 => ⟨S512x1, .i32⟩
  | 38 => ⟨S512x1, .i1⟩
  | 39 => ⟨S512x1, .i1⟩
  | 40 => ⟨S_, .i1⟩
  | 41 => ⟨S512, .i1⟩
  | 42 => ⟨S512x128, .f32⟩
  | 43 => ⟨S512x128, .i1⟩
  | 44 => ⟨S_, .f32⟩
  | 45 => ⟨S512x128, .f32⟩
  | 46 => ⟨S512x128, .f32⟩
  | 47 => ⟨S512x128, .f32⟩
  | 48 => ⟨S_, .i32⟩
  | 49 => ⟨S512, .i32⟩
  | 50 => ⟨S512, .i32⟩
  | 51 => ⟨S_, .i32⟩
  | 52 => ⟨S512, .i32⟩
  | 53 => ⟨S512, .i32⟩
  | 54 => ⟨S_, .i32⟩
  | 55 => ⟨S512, .i32⟩
  | 56 => ⟨S512, .i1⟩
  | 57 => ⟨S_, .i32⟩
  | 58 => ⟨S512, .i32⟩
  | 59 => ⟨S512, .i32⟩
  | 60 => ⟨S512, .i32⟩
  | 61 => ⟨S512x1, .i32⟩
  | 62 => ⟨S1, .i32⟩
  | 63 => ⟨S_, .i32⟩
  | 64 => ⟨S512x1, .i32⟩
  | 65 => ⟨S512x1, .i1⟩
  | 66 => ⟨S1x1, .i32⟩
  | 67 => ⟨S512x1, .i32⟩
  | 68 => ⟨S512x1, .i1⟩
  | 69 => ⟨S512x1, .i1⟩
  | 70 => ⟨S_, .i1⟩
  | 71 => ⟨S512, .i1⟩
  | 72 => ⟨S512x128, .f32⟩
  | 73 => ⟨S512x128, .i1⟩
  | 74 => ⟨S_, .f32⟩
  | 75 => ⟨S512x128, .f32⟩
  | 76 => ⟨S512x128, .f32⟩
  | 77 => ⟨S512x128, .f32⟩
  | 78 => ⟨S_, .i32⟩
  | 79 => ⟨S512, .i32⟩
  | 80 => ⟨S512, .i32⟩
  | 81 => ⟨S_, .i32⟩
  | 82 => ⟨S512, .i32⟩
  | 83 => ⟨S512, .i32⟩
  | 84 => ⟨S_, .i32⟩
  | 85 => ⟨S512, .i32⟩
  | 86 => ⟨S512, .i1⟩
  | 87 => ⟨S_, .i32⟩
  | 88 => ⟨S512, .i32⟩
  | 89 => ⟨S512, .i32⟩
  | 90 => ⟨S512, .i32⟩
  | 91 => ⟨S512x1, .i32⟩
  | 92 => ⟨S1, .i32⟩
  | 93 => ⟨S_, .i32⟩
  | 94 => ⟨S512x1, .i32⟩
  | 95 => ⟨S512x1, .i1⟩
  | 96 => ⟨S1x1, .i32⟩
  | 97 => ⟨S512x1, .i32⟩
  | 98 => ⟨S512x1, .i1⟩
  | 99 => ⟨S512x1, .i1⟩
  | 100 => ⟨S_, .i1⟩
  | 101 => ⟨S512, .i1⟩
  | 102 => ⟨S512x128, .f32⟩
  | 103 => ⟨S512x128, .i1⟩
  | 104 => ⟨S_, .f32⟩
  | 105 => ⟨S512x128, .f32⟩
  | 106 => ⟨S512x128, .f32⟩
  | 107 => ⟨S512x128, .f32⟩
  | 108 => ⟨S_, .i32⟩
  | 109 => ⟨S512, .i32⟩
  | 110 => ⟨S512, .i32⟩
  | 111 => ⟨S_, .i32⟩
  | 112 => ⟨S512, .i32⟩
  | 113 => ⟨S512, .i32⟩
  | 114 => ⟨S_, .i32⟩
  | 115 => ⟨S512, .i32⟩
  | 116 => ⟨S512, .i1⟩
  | 117 => ⟨S_, .i32⟩
  | 118 => ⟨S512, .i32⟩
  | 119 => ⟨S512, .i32⟩
  | 120 => ⟨S512, .i32⟩
  | 121 => ⟨S512x1, .i32⟩
  | 122 => ⟨S1, .i32⟩
  | 123 => ⟨S_, .i32⟩
  | 124 => ⟨S512x1, .i32⟩
  | 125 => ⟨S512x1, .i1⟩
  | 126 => ⟨S1x1, .i32⟩
  | 127 => ⟨S512x1, .i32⟩
  | _ => ⟨S100000x9, .i32⟩

abbrev hbmTy0_1 (i : Nat) : BufTy := match i % 128 with
  | 0 => ⟨S512x1, .i1⟩
  | 1 => ⟨S512x1, .i1⟩
  | 2 => ⟨S_, .i1⟩
  | 3 => ⟨S512, .i1⟩
  | 4 => ⟨S512x128, .f32⟩
  | 5 => ⟨S512x128, .i1⟩
  | 6 => ⟨S_, .f32⟩
  | 7 => ⟨S512x128, .f32⟩
  | 8 => ⟨S512x128, .f32⟩
  | 9 => ⟨S512x128, .f32⟩
  | 10 => ⟨S_, .i32⟩
  | 11 => ⟨S512, .i32⟩
  | 12 => ⟨S512, .i32⟩
  | 13 => ⟨S_, .i32⟩
  | 14 => ⟨S512, .i32⟩
  | 15 => ⟨S512, .i32⟩
  | 16 => ⟨S_, .i32⟩
  | 17 => ⟨S512, .i32⟩
  | 18 => ⟨S512, .i1⟩
  | 19 => ⟨S_, .i32⟩
  | 20 => ⟨S512, .i32⟩
  | 21 => ⟨S512, .i32⟩
  | 22 => ⟨S512, .i32⟩
  | 23 => ⟨S512x1, .i32⟩
  | 24 => ⟨S1, .i32⟩
  | 25 => ⟨S_, .i32⟩
  | 26 => ⟨S512x1, .i32⟩
  | 27 => ⟨S512x1, .i1⟩
  | 28 => ⟨S1x1, .i32⟩
  | 29 => ⟨S512x1, .i32⟩
  | 30 => ⟨S512x1, .i1⟩
  | 31 => ⟨S512x1, .i1⟩
  | 32 => ⟨S_, .i1⟩
  | 33 => ⟨S512, .i1⟩
  | 34 => ⟨S512x128, .f32⟩
  | 35 => ⟨S512x128, .i1⟩
  | 36 => ⟨S_, .f32⟩
  | 37 => ⟨S512x128, .f32⟩
  | 38 => ⟨S512x128, .f32⟩
  | 39 => ⟨S512x128, .f32⟩
  | 40 => ⟨S_, .i32⟩
  | 41 => ⟨S512, .i32⟩
  | 42 => ⟨S512, .i32⟩
  | 43 => ⟨S_, .i32⟩
  | 44 => ⟨S512, .i32⟩
  | 45 => ⟨S512, .i32⟩
  | 46 => ⟨S_, .i32⟩
  | 47 => ⟨S512, .i32⟩
  | 48 => ⟨S512, .i1⟩
  | 49 => ⟨S_, .i32⟩
  | 50 => ⟨S512, .i32⟩
  | 51 => ⟨S512, .i32⟩
  | 52 => ⟨S512, .i32⟩
  | 53 => ⟨S512x1, .i32⟩
  | 54 => ⟨S1, .i32⟩
  | 55 => ⟨S_, .i32⟩
  | 56 => ⟨S512x1, .i32⟩
  | 57 => ⟨S512x1, .i1⟩
  | 58 => ⟨S1x1, .i32⟩
  | 59 => ⟨S512x1, .i32⟩
  | 60 => ⟨S512x1, .i1⟩
  | 61 => ⟨S512x1, .i1⟩
  | 62 => ⟨S_, .i1⟩
  | 63 => ⟨S512, .i1⟩
  | 64 => ⟨S512x128, .f32⟩
  | 65 => ⟨S512x128, .i1⟩
  | 66 => ⟨S_, .f32⟩
  | 67 => ⟨S512x128, .f32⟩
  | 68 => ⟨S512x128, .f32⟩
  | 69 => ⟨S512x128, .f32⟩
  | 70 => ⟨S_, .i32⟩
  | 71 => ⟨S512, .i32⟩
  | 72 => ⟨S512, .i32⟩
  | 73 => ⟨S_, .i32⟩
  | 74 => ⟨S512, .i32⟩
  | 75 => ⟨S512, .i32⟩
  | 76 => ⟨S_, .i32⟩
  | 77 => ⟨S512, .i32⟩
  | 78 => ⟨S512, .i1⟩
  | 79 => ⟨S_, .i32⟩
  | 80 => ⟨S512, .i32⟩
  | 81 => ⟨S512, .i32⟩
  | 82 => ⟨S512, .i32⟩
  | 83 => ⟨S512x1, .i32⟩
  | 84 => ⟨S1, .i32⟩
  | 85 => ⟨S_, .i32⟩
  | 86 => ⟨S512x1, .i32⟩
  | 87 => ⟨S512x1, .i1⟩
  | 88 => ⟨S1x1, .i32⟩
  | 89 => ⟨S512x1, .i32⟩
  | 90 => ⟨S512x1, .i1⟩
  | 91 => ⟨S512x1, .i1⟩
  | 92 => ⟨S_, .i1⟩
  | 93 => ⟨S512, .i1⟩
  | 94 => ⟨S512x128, .f32⟩
  | 95 => ⟨S512x128, .i1⟩
  | 96 => ⟨S_, .f32⟩
  | 97 => ⟨S512x128, .f32⟩
  | 98 => ⟨S512x128, .f32⟩
  | 99 => ⟨S512x128, .f32⟩
  | 100 => ⟨S_, .i32⟩
  | 101 => ⟨S512, .i32⟩
  | 102 => ⟨S512, .i32⟩
  | 103 => ⟨S_, .i32⟩
  | 104 => ⟨S512, .i32⟩
  | 105 => ⟨S512, .i32⟩
  | 106 => ⟨S_, .i32⟩
  | 107 => ⟨S512, .i32⟩
  | 108 => ⟨S512, .i1⟩
  | 109 => ⟨S_, .i32⟩
  | 110 => ⟨S512, .i32⟩
  | 111 => ⟨S512, .i32⟩
  | 112 => ⟨S512, .i32⟩
  | 113 => ⟨S512x1, .i32⟩
  | 114 => ⟨S1, .i32⟩
  | 115 => ⟨S_, .i32⟩
  | 116 => ⟨S512x1, .i32⟩
  | 117 => ⟨S512x1, .i1⟩
  | 118 => ⟨S1x1, .i32⟩
  | 119 => ⟨S512x1, .i32⟩
  | 120 => ⟨S512x1, .i1⟩
  | 121 => ⟨S512x1, .i1⟩
  | 122 => ⟨S_, .i1⟩
  | 123 => ⟨S512, .i1⟩
  | 124 => ⟨S512x128, .f32⟩
  | 125 => ⟨S512x128, .i1⟩
  | 126 => ⟨S_, .f32⟩
  | 127 => ⟨S512x128, .f32⟩
  | _ => ⟨S100000x9, .i32⟩

abbrev hbmTy0_2 (i : Nat) : BufTy := match i % 128 with
  | 0 => ⟨S512x128, .f32⟩
  | 1 => ⟨S512x128, .f32⟩
  | 2 => ⟨S_, .i32⟩
  | 3 => ⟨S512, .i32⟩
  | 4 => ⟨S512, .i32⟩
  | 5 => ⟨S_, .i32⟩
  | 6 => ⟨S512, .i32⟩
  | 7 => ⟨S512, .i32⟩
  | 8 => ⟨S_, .i32⟩
  | 9 => ⟨S512, .i32⟩
  | 10 => ⟨S512, .i1⟩
  | 11 => ⟨S_, .i32⟩
  | 12 => ⟨S512, .i32⟩
  | 13 => ⟨S512, .i32⟩
  | 14 => ⟨S512, .i32⟩
  | 15 => ⟨S512x1, .i32⟩
  | 16 => ⟨S1, .i32⟩
  | 17 => ⟨S_, .i32⟩
  | 18 => ⟨S512x1, .i32⟩
  | 19 => ⟨S512x1, .i1⟩
  | 20 => ⟨S1x1, .i32⟩
  | 21 => ⟨S512x1, .i32⟩
  | 22 => ⟨S512x1, .i1⟩
  | 23 => ⟨S512x1, .i1⟩
  | 24 => ⟨S_, .i1⟩
  | 25 => ⟨S512, .i1⟩
  | 26 => ⟨S512x128, .f32⟩
  | 27 => ⟨S512x128, .i1⟩
  | 28 => ⟨S_, .f32⟩
  | 29 => ⟨S512x128, .f32⟩
  | 30 => ⟨S512x128, .f32⟩
  | 31 => ⟨S512x128, .f32⟩
  | 32 => ⟨S1x512x1x128, .f32⟩
  | 33 => ⟨S32x512x1x128, .f32⟩
  | 34 => ⟨S16384x128, .f32⟩
  | 35 => ⟨S9, .i32⟩
  | 36 => ⟨S_, .i32⟩
  | 37 => ⟨S9, .i32⟩
  | 38 => ⟨S9, .i32⟩
  | 39 => ⟨S_, .i32⟩
  | 40 => ⟨S9, .i32⟩
  | 41 => ⟨S9, .i32⟩
  | 42 => ⟨S1x9, .i32⟩
  | 43 => ⟨S100000x9, .i32⟩
  | 44 => ⟨S100000x9, .i32⟩
  | 45 => ⟨S_, .i32⟩
  | 46 => ⟨S100000, .i32⟩
  | 47 => ⟨S100000x128, .f32⟩
  | 48 => ⟨S_, .f32⟩
  | 49 => ⟨S1024x1, .f32⟩
  | _ => ⟨S100000x9, .i32⟩

abbrev hbmTy (i : Nat) : BufTy := match i / 128 with
  | 0 => hbmTy0_0 i
  | 1 => hbmTy0_1 i
  | 2 => hbmTy0_2 i
  | _ => ⟨S100000x9, .i32⟩

abbrev bufTy : (tb : Table) → Fin (nBuf tb) → BufTy
  | .hbm, ⟨i, _⟩ => hbmTy i
  | .local .scVector .vmem, ⟨0, _⟩ => ⟨S416, .i32⟩
  | .local .scVector .vmem, ⟨1, _⟩ => ⟨S416, .i32⟩
  | .local .scVector .vmem, ⟨2, _⟩ => ⟨S5x80, .i32⟩
  | .local .scVector .vmem, ⟨3, _⟩ => ⟨S5x80, .i32⟩
  | .local .scVector .vmem, ⟨4, _⟩ => ⟨S400x128, .f32⟩
  | .local .scVector .vmem, ⟨5, _⟩ => ⟨S400x128, .f32⟩
  | _, _ => ⟨S100000x9, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_v3 : Ref sig .tc := ⟨.hbm, 20, rfl⟩
abbrev main_c_0 : Ref sig .tc := ⟨.hbm, 21, rfl⟩
abbrev main_v4 : Ref sig .tc := ⟨.hbm, 22, rfl⟩
abbrev main_v5 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v6 : Ref sig .tc := ⟨.hbm, 46, rfl⟩
abbrev main_v7 : Ref sig .tc := ⟨.hbm, 47, rfl⟩
abbrev main_c_1 : Ref sig .tc := ⟨.hbm, 48, rfl⟩
abbrev main_v8 : Ref sig .tc := ⟨.hbm, 49, rfl⟩
abbrev main_v9 : Ref sig .tc := ⟨.hbm, 50, rfl⟩
abbrev main_c_2 : Ref sig .tc := ⟨.hbm, 51, rfl⟩
abbrev main_v10 : Ref sig .tc := ⟨.hbm, 52, rfl⟩
abbrev main_v11 : Ref sig .tc := ⟨.hbm, 53, rfl⟩
abbrev main_call1_c : Ref sig .tc := ⟨.hbm, 54, rfl⟩
abbrev main_call1_v0 : Ref sig .tc := ⟨.hbm, 55, rfl⟩
abbrev main_call1_v1 : Ref sig .tc := ⟨.hbm, 56, rfl⟩
abbrev main_call1_c_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_c_1 : Ref sig .tc := ⟨.hbm, 62, rfl⟩
abbrev main_call1_c_2 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_c_3 : Ref sig .tc := ⟨.hbm, 70, rfl⟩
abbrev main_call1_v12 : Ref sig .tc := ⟨.hbm, 71, rfl⟩
abbrev main_call1_v13 : Ref sig .tc := ⟨.hbm, 72, rfl⟩
abbrev main_call1_v14 : Ref sig .tc := ⟨.hbm, 73, rfl⟩
abbrev main_call1_cst : Ref sig .tc := ⟨.hbm, 74, rfl⟩
abbrev main_call1_v15 : Ref sig .tc := ⟨.hbm, 75, rfl⟩
abbrev main_v12 : Ref sig .tc := ⟨.hbm, 76, rfl⟩
abbrev main_v13 : Ref sig .tc := ⟨.hbm, 77, rfl⟩
abbrev main_c_3 : Ref sig .tc := ⟨.hbm, 78, rfl⟩
abbrev main_v14 : Ref sig .tc := ⟨.hbm, 79, rfl⟩
abbrev main_v15 : Ref sig .tc := ⟨.hbm, 80, rfl⟩
abbrev main_c_4 : Ref sig .tc := ⟨.hbm, 81, rfl⟩
abbrev main_v16 : Ref sig .tc := ⟨.hbm, 82, rfl⟩
abbrev main_v17 : Ref sig .tc := ⟨.hbm, 83, rfl⟩
abbrev main_call2_c : Ref sig .tc := ⟨.hbm, 84, rfl⟩
abbrev main_call2_v0 : Ref sig .tc := ⟨.hbm, 85, rfl⟩
abbrev main_call2_v1 : Ref sig .tc := ⟨.hbm, 86, rfl⟩
abbrev main_call2_c_0 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_call2_v5 : Ref sig .tc := ⟨.hbm, 91, rfl⟩
abbrev main_call2_c_1 : Ref sig .tc := ⟨.hbm, 92, rfl⟩
abbrev main_call2_c_2 : Ref sig .tc := ⟨.hbm, 93, rfl⟩
abbrev main_call2_v6 : Ref sig .tc := ⟨.hbm, 94, rfl⟩
abbrev main_call2_v7 : Ref sig .tc := ⟨.hbm, 95, rfl⟩
abbrev main_call2_v8 : Ref sig .tc := ⟨.hbm, 96, rfl⟩
abbrev main_call2_v9 : Ref sig .tc := ⟨.hbm, 97, rfl⟩
abbrev main_call2_v10 : Ref sig .tc := ⟨.hbm, 98, rfl⟩
abbrev main_call2_v11 : Ref sig .tc := ⟨.hbm, 99, rfl⟩
abbrev main_call2_c_3 : Ref sig .tc := ⟨.hbm, 100, rfl⟩
abbrev main_call2_v12 : Ref sig .tc := ⟨.hbm, 101, rfl⟩
abbrev main_call2_v13 : Ref sig .tc := ⟨.hbm, 102, rfl⟩
abbrev main_call2_v14 : Ref sig .tc := ⟨.hbm, 103, rfl⟩
abbrev main_call2_cst : Ref sig .tc := ⟨.hbm, 104, rfl⟩
abbrev main_call2_v15 : Ref sig .tc := ⟨.hbm, 105, rfl⟩
abbrev main_v18 : Ref sig .tc := ⟨.hbm, 106, rfl⟩
abbrev main_v19 : Ref sig .tc := ⟨.hbm, 107, rfl⟩
abbrev main_c_5 : Ref sig .tc := ⟨.hbm, 108, rfl⟩
abbrev main_v20 : Ref sig .tc := ⟨.hbm, 109, rfl⟩
abbrev main_v21 : Ref sig .tc := ⟨.hbm, 110, rfl⟩
abbrev main_c_6 : Ref sig .tc := ⟨.hbm, 111, rfl⟩
abbrev main_v22 : Ref sig .tc := ⟨.hbm, 112, rfl⟩
abbrev main_v23 : Ref sig .tc := ⟨.hbm, 113, rfl⟩
abbrev main_call3_c : Ref sig .tc := ⟨.hbm, 114, rfl⟩
abbrev main_call3_v0 : Ref sig .tc := ⟨.hbm, 115, rfl⟩
abbrev main_call3_v1 : Ref sig .tc := ⟨.hbm, 116, rfl⟩
abbrev main_call3_c_0 : Ref sig .tc := ⟨.hbm, 117, rfl⟩
abbrev main_call3_v2 : Ref sig .tc := ⟨.hbm, 118, rfl⟩
abbrev main_call3_v3 : Ref sig .tc := ⟨.hbm, 119, rfl⟩
abbrev main_call3_v4 : Ref sig .tc := ⟨.hbm, 120, rfl⟩
abbrev main_call3_v5 : Ref sig .tc := ⟨.hbm, 121, rfl⟩
abbrev main_call3_c_1 : Ref sig .tc := ⟨.hbm, 122, rfl⟩
abbrev main_call3_c_2 : Ref sig .tc := ⟨.hbm, 123, rfl⟩
abbrev main_call3_v6 : Ref sig .tc := ⟨.hbm, 124, rfl⟩
abbrev main_call3_v7 : Ref sig .tc := ⟨.hbm, 125, rfl⟩
abbrev main_call3_v8 : Ref sig .tc := ⟨.hbm, 126, rfl⟩
abbrev main_call3_v9 : Ref sig .tc := ⟨.hbm, 127, rfl⟩
abbrev main_call3_v10 : Ref sig .tc := ⟨.hbm, 128, rfl⟩
abbrev main_call3_v11 : Ref sig .tc := ⟨.hbm, 129, rfl⟩
abbrev main_call3_c_3 : Ref sig .tc := ⟨.hbm, 130, rfl⟩
abbrev main_call3_v12 : Ref sig .tc := ⟨.hbm, 131, rfl⟩
abbrev main_call3_v13 : Ref sig .tc := ⟨.hbm, 132, rfl⟩
abbrev main_call3_v14 : Ref sig .tc := ⟨.hbm, 133, rfl⟩
abbrev main_call3_cst : Ref sig .tc := ⟨.hbm, 134, rfl⟩
abbrev main_call3_v15 : Ref sig .tc := ⟨.hbm, 135, rfl⟩
abbrev main_v24 : Ref sig .tc := ⟨.hbm, 136, rfl⟩
abbrev main_v25 : Ref sig .tc := ⟨.hbm, 137, rfl⟩
abbrev main_c_7 : Ref sig .tc := ⟨.hbm, 138, rfl⟩
abbrev main_v26 : Ref sig .tc := ⟨.hbm, 139, rfl⟩
abbrev main_v27 : Ref sig .tc := ⟨.hbm, 140, rfl⟩
abbrev main_c_8 : Ref sig .tc := ⟨.hbm, 141, rfl⟩
abbrev main_v28 : Ref sig .tc := ⟨.hbm, 142, rfl⟩
abbrev main_v29 : Ref sig .tc := ⟨.hbm, 143, rfl⟩
abbrev main_call4_c : Ref sig .tc := ⟨.hbm, 144, rfl⟩
abbrev main_call4_v0 : Ref sig .tc := ⟨.hbm, 145, rfl⟩
abbrev main_call4_v1 : Ref sig .tc := ⟨.hbm, 146, rfl⟩
abbrev main_call4_c_0 : Ref sig .tc := ⟨.hbm, 147, rfl⟩
abbrev main_call4_v2 : Ref sig .tc := ⟨.hbm, 148, rfl⟩
abbrev main_call4_v3 : Ref sig .tc := ⟨.hbm, 149, rfl⟩
abbrev main_call4_v4 : Ref sig .tc := ⟨.hbm, 150, rfl⟩
abbrev main_call4_v5 : Ref sig .tc := ⟨.hbm, 151, rfl⟩
abbrev main_call4_c_1 : Ref sig .tc := ⟨.hbm, 152, rfl⟩
abbrev main_call4_c_2 : Ref sig .tc := ⟨.hbm, 153, rfl⟩
abbrev main_call4_v6 : Ref sig .tc := ⟨.hbm, 154, rfl⟩
abbrev main_call4_v7 : Ref sig .tc := ⟨.hbm, 155, rfl⟩
abbrev main_call4_v8 : Ref sig .tc := ⟨.hbm, 156, rfl⟩
abbrev main_call4_v9 : Ref sig .tc := ⟨.hbm, 157, rfl⟩
abbrev main_call4_v10 : Ref sig .tc := ⟨.hbm, 158, rfl⟩
abbrev main_call4_v11 : Ref sig .tc := ⟨.hbm, 159, rfl⟩
abbrev main_call4_c_3 : Ref sig .tc := ⟨.hbm, 160, rfl⟩
abbrev main_call4_v12 : Ref sig .tc := ⟨.hbm, 161, rfl⟩
abbrev main_call4_v13 : Ref sig .tc := ⟨.hbm, 162, rfl⟩
abbrev main_call4_v14 : Ref sig .tc := ⟨.hbm, 163, rfl⟩
abbrev main_call4_cst : Ref sig .tc := ⟨.hbm, 164, rfl⟩
abbrev main_call4_v15 : Ref sig .tc := ⟨.hbm, 165, rfl⟩
abbrev main_v30 : Ref sig .tc := ⟨.hbm, 166, rfl⟩
abbrev main_v31 : Ref sig .tc := ⟨.hbm, 167, rfl⟩
abbrev main_c_9 : Ref sig .tc := ⟨.hbm, 168, rfl⟩
abbrev main_v32 : Ref sig .tc := ⟨.hbm, 169, rfl⟩
abbrev main_v33 : Ref sig .tc := ⟨.hbm, 170, rfl⟩
abbrev main_c_10 : Ref sig .tc := ⟨.hbm, 171, rfl⟩
abbrev main_v34 : Ref sig .tc := ⟨.hbm, 172, rfl⟩
abbrev main_v35 : Ref sig .tc := ⟨.hbm, 173, rfl⟩
abbrev main_call5_c : Ref sig .tc := ⟨.hbm, 174, rfl⟩
abbrev main_call5_v0 : Ref sig .tc := ⟨.hbm, 175, rfl⟩
abbrev main_call5_v1 : Ref sig .tc := ⟨.hbm, 176, rfl⟩
abbrev main_call5_c_0 : Ref sig .tc := ⟨.hbm, 177, rfl⟩
abbrev main_call5_v2 : Ref sig .tc := ⟨.hbm, 178, rfl⟩
abbrev main_call5_v3 : Ref sig .tc := ⟨.hbm, 179, rfl⟩
abbrev main_call5_v4 : Ref sig .tc := ⟨.hbm, 180, rfl⟩
abbrev main_call5_v5 : Ref sig .tc := ⟨.hbm, 181, rfl⟩
abbrev main_call5_c_1 : Ref sig .tc := ⟨.hbm, 182, rfl⟩
abbrev main_call5_c_2 : Ref sig .tc := ⟨.hbm, 183, rfl⟩
abbrev main_call5_v6 : Ref sig .tc := ⟨.hbm, 184, rfl⟩
abbrev main_call5_v7 : Ref sig .tc := ⟨.hbm, 185, rfl⟩
abbrev main_call5_v8 : Ref sig .tc := ⟨.hbm, 186, rfl⟩
abbrev main_call5_v9 : Ref sig .tc := ⟨.hbm, 187, rfl⟩
abbrev main_call5_v10 : Ref sig .tc := ⟨.hbm, 188, rfl⟩
abbrev main_call5_v11 : Ref sig .tc := ⟨.hbm, 189, rfl⟩
abbrev main_call5_c_3 : Ref sig .tc := ⟨.hbm, 190, rfl⟩
abbrev main_call5_v12 : Ref sig .tc := ⟨.hbm, 191, rfl⟩
abbrev main_call5_v13 : Ref sig .tc := ⟨.hbm, 192, rfl⟩
abbrev main_call5_v14 : Ref sig .tc := ⟨.hbm, 193, rfl⟩
abbrev main_call5_cst : Ref sig .tc := ⟨.hbm, 194, rfl⟩
abbrev main_call5_v15 : Ref sig .tc := ⟨.hbm, 195, rfl⟩
abbrev main_v36 : Ref sig .tc := ⟨.hbm, 196, rfl⟩
abbrev main_v37 : Ref sig .tc := ⟨.hbm, 197, rfl⟩
abbrev main_c_11 : Ref sig .tc := ⟨.hbm, 198, rfl⟩
abbrev main_v38 : Ref sig .tc := ⟨.hbm, 199, rfl⟩
abbrev main_v39 : Ref sig .tc := ⟨.hbm, 200, rfl⟩
abbrev main_c_12 : Ref sig .tc := ⟨.hbm, 201, rfl⟩
abbrev main_v40 : Ref sig .tc := ⟨.hbm, 202, rfl⟩
abbrev main_v41 : Ref sig .tc := ⟨.hbm, 203, rfl⟩
abbrev main_call6_c : Ref sig .tc := ⟨.hbm, 204, rfl⟩
abbrev main_call6_v0 : Ref sig .tc := ⟨.hbm, 205, rfl⟩
abbrev main_call6_v1 : Ref sig .tc := ⟨.hbm, 206, rfl⟩
abbrev main_call6_c_0 : Ref sig .tc := ⟨.hbm, 207, rfl⟩
abbrev main_call6_v2 : Ref sig .tc := ⟨.hbm, 208, rfl⟩
abbrev main_call6_v3 : Ref sig .tc := ⟨.hbm, 209, rfl⟩
abbrev main_call6_v4 : Ref sig .tc := ⟨.hbm, 210, rfl⟩
abbrev main_call6_v5 : Ref sig .tc := ⟨.hbm, 211, rfl⟩
abbrev main_call6_c_1 : Ref sig .tc := ⟨.hbm, 212, rfl⟩
abbrev main_call6_c_2 : Ref sig .tc := ⟨.hbm, 213, rfl⟩
abbrev main_call6_v6 : Ref sig .tc := ⟨.hbm, 214, rfl⟩
abbrev main_call6_v7 : Ref sig .tc := ⟨.hbm, 215, rfl⟩
abbrev main_call6_v8 : Ref sig .tc := ⟨.hbm, 216, rfl⟩
abbrev main_call6_v9 : Ref sig .tc := ⟨.hbm, 217, rfl⟩
abbrev main_call6_v10 : Ref sig .tc := ⟨.hbm, 218, rfl⟩
abbrev main_call6_v11 : Ref sig .tc := ⟨.hbm, 219, rfl⟩
abbrev main_call6_c_3 : Ref sig .tc := ⟨.hbm, 220, rfl⟩
abbrev main_call6_v12 : Ref sig .tc := ⟨.hbm, 221, rfl⟩
abbrev main_call6_v13 : Ref sig .tc := ⟨.hbm, 222, rfl⟩
abbrev main_call6_v14 : Ref sig .tc := ⟨.hbm, 223, rfl⟩
abbrev main_call6_cst : Ref sig .tc := ⟨.hbm, 224, rfl⟩
abbrev main_call6_v15 : Ref sig .tc := ⟨.hbm, 225, rfl⟩
abbrev main_v42 : Ref sig .tc := ⟨.hbm, 226, rfl⟩
abbrev main_v43 : Ref sig .tc := ⟨.hbm, 227, rfl⟩
abbrev main_c_13 : Ref sig .tc := ⟨.hbm, 228, rfl⟩
abbrev main_v44 : Ref sig .tc := ⟨.hbm, 229, rfl⟩
abbrev main_v45 : Ref sig .tc := ⟨.hbm, 230, rfl⟩
abbrev main_c_14 : Ref sig .tc := ⟨.hbm, 231, rfl⟩
abbrev main_v46 : Ref sig .tc := ⟨.hbm, 232, rfl⟩
abbrev main_v47 : Ref sig .tc := ⟨.hbm, 233, rfl⟩
abbrev main_call7_c : Ref sig .tc := ⟨.hbm, 234, rfl⟩
abbrev main_call7_v0 : Ref sig .tc := ⟨.hbm, 235, rfl⟩
abbrev main_call7_v1 : Ref sig .tc := ⟨.hbm, 236, rfl⟩
abbrev main_call7_c_0 : Ref sig .tc := ⟨.hbm, 237, rfl⟩
abbrev main_call7_v2 : Ref sig .tc := ⟨.hbm, 238, rfl⟩
abbrev main_call7_v3 : Ref sig .tc := ⟨.hbm, 239, rfl⟩
abbrev main_call7_v4 : Ref sig .tc := ⟨.hbm, 240, rfl⟩
abbrev main_call7_v5 : Ref sig .tc := ⟨.hbm, 241, rfl⟩
abbrev main_call7_c_1 : Ref sig .tc := ⟨.hbm, 242, rfl⟩
abbrev main_call7_c_2 : Ref sig .tc := ⟨.hbm, 243, rfl⟩
abbrev main_call7_v6 : Ref sig .tc := ⟨.hbm, 244, rfl⟩
abbrev main_call7_v7 : Ref sig .tc := ⟨.hbm, 245, rfl⟩
abbrev main_call7_v8 : Ref sig .tc := ⟨.hbm, 246, rfl⟩
abbrev main_call7_v9 : Ref sig .tc := ⟨.hbm, 247, rfl⟩
abbrev main_call7_v10 : Ref sig .tc := ⟨.hbm, 248, rfl⟩
abbrev main_call7_v11 : Ref sig .tc := ⟨.hbm, 249, rfl⟩
abbrev main_call7_c_3 : Ref sig .tc := ⟨.hbm, 250, rfl⟩
abbrev main_call7_v12 : Ref sig .tc := ⟨.hbm, 251, rfl⟩
abbrev main_call7_v13 : Ref sig .tc := ⟨.hbm, 252, rfl⟩
abbrev main_call7_v14 : Ref sig .tc := ⟨.hbm, 253, rfl⟩
abbrev main_call7_cst : Ref sig .tc := ⟨.hbm, 254, rfl⟩
abbrev main_call7_v15 : Ref sig .tc := ⟨.hbm, 255, rfl⟩
abbrev main_v48 : Ref sig .tc := ⟨.hbm, 256, rfl⟩
abbrev main_v49 : Ref sig .tc := ⟨.hbm, 257, rfl⟩
abbrev main_c_15 : Ref sig .tc := ⟨.hbm, 258, rfl⟩
abbrev main_v50 : Ref sig .tc := ⟨.hbm, 259, rfl⟩
abbrev main_v51 : Ref sig .tc := ⟨.hbm, 260, rfl⟩
abbrev main_c_16 : Ref sig .tc := ⟨.hbm, 261, rfl⟩
abbrev main_v52 : Ref sig .tc := ⟨.hbm, 262, rfl⟩
abbrev main_v53 : Ref sig .tc := ⟨.hbm, 263, rfl⟩
abbrev main_call8_c : Ref sig .tc := ⟨.hbm, 264, rfl⟩
abbrev main_call8_v0 : Ref sig .tc := ⟨.hbm, 265, rfl⟩
abbrev main_call8_v1 : Ref sig .tc := ⟨.hbm, 266, rfl⟩
abbrev main_call8_c_0 : Ref sig .tc := ⟨.hbm, 267, rfl⟩
abbrev main_call8_v2 : Ref sig .tc := ⟨.hbm, 268, rfl⟩
abbrev main_call8_v3 : Ref sig .tc := ⟨.hbm, 269, rfl⟩
abbrev main_call8_v4 : Ref sig .tc := ⟨.hbm, 270, rfl⟩
abbrev main_call8_v5 : Ref sig .tc := ⟨.hbm, 271, rfl⟩
abbrev main_call8_c_1 : Ref sig .tc := ⟨.hbm, 272, rfl⟩
abbrev main_call8_c_2 : Ref sig .tc := ⟨.hbm, 273, rfl⟩
abbrev main_call8_v6 : Ref sig .tc := ⟨.hbm, 274, rfl⟩
abbrev main_call8_v7 : Ref sig .tc := ⟨.hbm, 275, rfl⟩
abbrev main_call8_v8 : Ref sig .tc := ⟨.hbm, 276, rfl⟩
abbrev main_call8_v9 : Ref sig .tc := ⟨.hbm, 277, rfl⟩
abbrev main_call8_v10 : Ref sig .tc := ⟨.hbm, 278, rfl⟩
abbrev main_call8_v11 : Ref sig .tc := ⟨.hbm, 279, rfl⟩
abbrev main_call8_c_3 : Ref sig .tc := ⟨.hbm, 280, rfl⟩
abbrev main_call8_v12 : Ref sig .tc := ⟨.hbm, 281, rfl⟩
abbrev main_call8_v13 : Ref sig .tc := ⟨.hbm, 282, rfl⟩
abbrev main_call8_v14 : Ref sig .tc := ⟨.hbm, 283, rfl⟩
abbrev main_call8_cst : Ref sig .tc := ⟨.hbm, 284, rfl⟩
abbrev main_call8_v15 : Ref sig .tc := ⟨.hbm, 285, rfl⟩
abbrev main_v54 : Ref sig .tc := ⟨.hbm, 286, rfl⟩
abbrev main_v55 : Ref sig .tc := ⟨.hbm, 287, rfl⟩
abbrev main_v56 : Ref sig .tc := ⟨.hbm, 288, rfl⟩
abbrev main_v57 : Ref sig .tc := ⟨.hbm, 289, rfl⟩
abbrev main_v58 : Ref sig .tc := ⟨.hbm, 290, rfl⟩
abbrev main_v59 : Ref sig .tc := ⟨.hbm, 291, rfl⟩
abbrev main_c_17 : Ref sig .tc := ⟨.hbm, 292, rfl⟩
abbrev main_v60 : Ref sig .tc := ⟨.hbm, 293, rfl⟩
abbrev main_v61 : Ref sig .tc := ⟨.hbm, 294, rfl⟩
abbrev main_c_18 : Ref sig .tc := ⟨.hbm, 295, rfl⟩
abbrev main_v62 : Ref sig .tc := ⟨.hbm, 296, rfl⟩
abbrev main_v63 : Ref sig .tc := ⟨.hbm, 297, rfl⟩
abbrev main_v64 : Ref sig .tc := ⟨.hbm, 298, rfl⟩
abbrev main_v65 : Ref sig .tc := ⟨.hbm, 299, rfl⟩
abbrev main_v66 : Ref sig .tc := ⟨.hbm, 300, rfl⟩
abbrev main_c_19 : Ref sig .tc := ⟨.hbm, 301, rfl⟩
abbrev main_v67 : Ref sig .tc := ⟨.hbm, 302, rfl⟩
abbrev main_v68 : Ref sig .tc := ⟨.hbm, 303, rfl⟩
abbrev main_cst_20 : Ref sig .tc := ⟨.hbm, 304, rfl⟩
abbrev main_v69 : Ref sig .tc := ⟨.hbm, 305, rfl⟩
abbrev main_v58_scv : Ref sig .scVector := ⟨.hbm, 290, rfl⟩
abbrev main_v67_scv : Ref sig .scVector := ⟨.hbm, 302, rfl⟩
abbrev main_v68_scv : Ref sig .scVector := ⟨.hbm, 303, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v3 : BitVec 32 := Scalar.addi v1 c0_i32
  let c400_i32 : BitVec 32 := 400#32
  let v4 : BitVec 32 := Scalar.muli v3 c400_i32
  ![v4.toNat]
@[reducible] def k0_t1_loop : Scf.Loop 32 :=
  let c0_i32_6 : BitVec 32 := 0#32
  let c4_i32 : BitVec 32 := 4#32
  let v15 : BitVec 32 := Scalar.addi c0_i32_6 c4_i32
  let c1_i32 : BitVec 32 := 1#32
  ⟨c0_i32_6, v15, c1_i32⟩
def k0_cond1 (i : grid0.Coords) (k0_t1 : Fin k0_t1_loop.trips) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32_16 : BitVec 32 := 32#32
  let c2_i32 : BitVec 32 := 2#32
  let c0_i32_6 : BitVec 32 := 0#32
  let c1_i32 : BitVec 32 := 1#32
  let arg17 : BitVec 32 := Scf.iv c0_i32_6 c1_i32 k0_t1
  let v20 : BitVec 32 := Scalar.muli c2_i32 arg17
  let v21 : BitVec 32 := Scalar.muli c32_i32_16 v20
  let v22 : BitVec 32 := Scalar.addi v1 v21
  let c250_i32 : BitVec 32 := 250#32
  let v23 : BitVec 1 := Scalar.cmpi .slt v22 c250_i32
  let v24 : BitVec 32 := Scalar.extui v23
  let c0_i32_17 : BitVec 32 := 0#32
  let v25 : BitVec 1 := Scalar.cmpi .ne v24 c0_i32_17
  v25

def k0_off2 (i : grid0.Coords) (k0_t1 : Fin k0_t1_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32_37 : BitVec 32 := 32#32
  let c2_i32 : BitVec 32 := 2#32
  let c0_i32_6 : BitVec 32 := 0#32
  let c1_i32 : BitVec 32 := 1#32
  let arg17 : BitVec 32 := Scf.iv c0_i32_6 c1_i32 k0_t1
  let v20 : BitVec 32 := Scalar.muli c2_i32 arg17
  let v57 : BitVec 32 := Scalar.muli c32_i32_37 v20
  let v58 : BitVec 32 := Scalar.addi v1 v57
  let c400_i32_38 : BitVec 32 := 400#32
  let v59 : BitVec 32 := Scalar.muli v58 c400_i32_38
  ![v59.toNat]
def k0_cond2 (i : grid0.Coords) (k0_t1 : Fin k0_t1_loop.trips) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32_19 : BitVec 32 := 32#32
  let c2_i32 : BitVec 32 := 2#32
  let c0_i32_6 : BitVec 32 := 0#32
  let c1_i32 : BitVec 32 := 1#32
  let arg17 : BitVec 32 := Scf.iv c0_i32_6 c1_i32 k0_t1
  let v20 : BitVec 32 := Scalar.muli c2_i32 arg17
  let c2_i32_18 : BitVec 32 := 2#32
  let v26 : BitVec 32 := Scalar.addi v20 c2_i32_18
  let v27 : BitVec 32 := Scalar.muli c32_i32_19 v26
  let v28 : BitVec 32 := Scalar.addi v1 v27
  let c250_i32_20 : BitVec 32 := 250#32
  let v29 : BitVec 1 := Scalar.cmpi .slt v28 c250_i32_20
  let v30 : BitVec 32 := Scalar.extui v29
  let c0_i32_21 : BitVec 32 := 0#32
  let v31 : BitVec 1 := Scalar.cmpi .ne v30 c0_i32_21
  v31

def k0_off3 (i : grid0.Coords) (k0_t1 : Fin k0_t1_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32_38 : BitVec 32 := 32#32
  let c2_i32 : BitVec 32 := 2#32
  let c0_i32_6 : BitVec 32 := 0#32
  let c1_i32 : BitVec 32 := 1#32
  let arg17 : BitVec 32 := Scf.iv c0_i32_6 c1_i32 k0_t1
  let v20 : BitVec 32 := Scalar.muli c2_i32 arg17
  let c2_i32_37 : BitVec 32 := 2#32
  let v57 : BitVec 32 := Scalar.addi v20 c2_i32_37
  let v58 : BitVec 32 := Scalar.muli c32_i32_38 v57
  let v59 : BitVec 32 := Scalar.addi v1 v58
  let c400_i32_39 : BitVec 32 := 400#32
  let v60 : BitVec 32 := Scalar.muli v59 c400_i32_39
  ![v60.toNat]
def k0_cond3 (i : grid0.Coords) (k0_t1 : Fin k0_t1_loop.trips) : BitVec 1 :=
  let c2_i32 : BitVec 32 := 2#32
  let c0_i32_6 : BitVec 32 := 0#32
  let c1_i32 : BitVec 32 := 1#32
  let arg17 : BitVec 32 := Scf.iv c0_i32_6 c1_i32 k0_t1
  let v20 : BitVec 32 := Scalar.muli c2_i32 arg17
  let c2_i32_22 : BitVec 32 := 2#32
  let v32 : BitVec 1 := Scalar.cmpi .sge v20 c2_i32_22
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32_16 : BitVec 32 := 32#32
  let v21 : BitVec 32 := Scalar.muli c32_i32_16 v20
  let v22 : BitVec 32 := Scalar.addi v1 v21
  let c250_i32 : BitVec 32 := 250#32
  let v23 : BitVec 1 := Scalar.cmpi .slt v22 c250_i32
  let v33 : BitVec 1 := Scalar.andi v32 v23
  let v34 : BitVec 32 := Scalar.extui v33
  let c0_i32_23 : BitVec 32 := 0#32
  let v35 : BitVec 1 := Scalar.cmpi .ne v34 c0_i32_23
  v35

def k0_off4 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32_38 : BitVec 32 := 32#32
  let c2_i32 : BitVec 32 := 2#32
  let c0_i32_6 : BitVec 32 := 0#32
  let c1_i32 : BitVec 32 := 1#32
  let arg17 : BitVec 32 := Scf.iv c0_i32_6 c1_i32 k0_t1
  let v20 : BitVec 32 := Scalar.muli c2_i32 arg17
  let c2_i32_37 : BitVec 32 := 2#32
  let v57 : BitVec 32 := Scalar.subi v20 c2_i32_37
  let v58 : BitVec 32 := Scalar.muli c32_i32_38 v57
  let v59 : BitVec 32 := Scalar.addi v1 v58
  let c400_i32_39 : BitVec 32 := 400#32
  let v60 : BitVec 32 := Scalar.muli v59 c400_i32_39
  let c0_i32_40 : BitVec 32 := 0#32
  ![v60.toNat, 0]
def k0_cond4 (i : grid0.Coords) (k0_t1 : Fin k0_t1_loop.trips) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32_16 : BitVec 32 := 32#32
  let c2_i32 : BitVec 32 := 2#32
  let c0_i32_6 : BitVec 32 := 0#32
  let c1_i32 : BitVec 32 := 1#32
  let arg17 : BitVec 32 := Scf.iv c0_i32_6 c1_i32 k0_t1
  let v20 : BitVec 32 := Scalar.muli c2_i32 arg17
  let v21 : BitVec 32 := Scalar.muli c32_i32_16 v20
  let v22 : BitVec 32 := Scalar.addi v1 v21
  let c250_i32 : BitVec 32 := 250#32
  let v23 : BitVec 1 := Scalar.cmpi .slt v22 c250_i32
  let v36 : BitVec 32 := Scalar.extui v23
  let c0_i32_24 : BitVec 32 := 0#32
  let v37 : BitVec 1 := Scalar.cmpi .ne v36 c0_i32_24
  v37

def k0_off5 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32_92 : BitVec 32 := 32#32
  let c2_i32 : BitVec 32 := 2#32
  let c0_i32_6 : BitVec 32 := 0#32
  let c1_i32 : BitVec 32 := 1#32
  let arg17 : BitVec 32 := Scf.iv c0_i32_6 c1_i32 k0_t1
  let v20 : BitVec 32 := Scalar.muli c2_i32 arg17
  let v97 : BitVec 32 := Scalar.muli c32_i32_92 v20
  let v98 : BitVec 32 := Scalar.addi v1 v97
  let c400_i32_93 : BitVec 32 := 400#32
  let v99 : BitVec 32 := Scalar.muli v98 c400_i32_93
  let c0_i32_94 : BitVec 32 := 0#32
  ![v99.toNat, 0]
def k0_cond5 (i : grid0.Coords) (k0_t1 : Fin k0_t1_loop.trips) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32_27 : BitVec 32 := 32#32
  let c2_i32_25 : BitVec 32 := 2#32
  let c0_i32_6 : BitVec 32 := 0#32
  let c1_i32 : BitVec 32 := 1#32
  let arg17 : BitVec 32 := Scf.iv c0_i32_6 c1_i32 k0_t1
  let v38 : BitVec 32 := Scalar.muli c2_i32_25 arg17
  let c1_i32_26 : BitVec 32 := 1#32
  let v39 : BitVec 32 := Scalar.addi v38 c1_i32_26
  let v40 : BitVec 32 := Scalar.muli c32_i32_27 v39
  let v41 : BitVec 32 := Scalar.addi v1 v40
  let c250_i32_28 : BitVec 32 := 250#32
  let v42 : BitVec 1 := Scalar.cmpi .slt v41 c250_i32_28
  let v43 : BitVec 32 := Scalar.extui v42
  let c0_i32_29 : BitVec 32 := 0#32
  let v44 : BitVec 1 := Scalar.cmpi .ne v43 c0_i32_29
  v44

def k0_off6 (i : grid0.Coords) (k0_t1 : Fin k0_t1_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32_37 : BitVec 32 := 32#32
  let c2_i32_25 : BitVec 32 := 2#32
  let c0_i32_6 : BitVec 32 := 0#32
  let c1_i32 : BitVec 32 := 1#32
  let arg17 : BitVec 32 := Scf.iv c0_i32_6 c1_i32 k0_t1
  let v38 : BitVec 32 := Scalar.muli c2_i32_25 arg17
  let c1_i32_26 : BitVec 32 := 1#32
  let v39 : BitVec 32 := Scalar.addi v38 c1_i32_26
  let v57 : BitVec 32 := Scalar.muli c32_i32_37 v39
  let v58 : BitVec 32 := Scalar.addi v1 v57
  let c400_i32_38 : BitVec 32 := 400#32
  let v59 : BitVec 32 := Scalar.muli v58 c400_i32_38
  ![v59.toNat]
def k0_cond6 (i : grid0.Coords) (k0_t1 : Fin k0_t1_loop.trips) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32_31 : BitVec 32 := 32#32
  let c2_i32_25 : BitVec 32 := 2#32
  let c0_i32_6 : BitVec 32 := 0#32
  let c1_i32 : BitVec 32 := 1#32
  let arg17 : BitVec 32 := Scf.iv c0_i32_6 c1_i32 k0_t1
  let v38 : BitVec 32 := Scalar.muli c2_i32_25 arg17
  let c1_i32_26 : BitVec 32 := 1#32
  let v39 : BitVec 32 := Scalar.addi v38 c1_i32_26
  let c2_i32_30 : BitVec 32 := 2#32
  let v45 : BitVec 32 := Scalar.addi v39 c2_i32_30
  let v46 : BitVec 32 := Scalar.muli c32_i32_31 v45
  let v47 : BitVec 32 := Scalar.addi v1 v46
  let c250_i32_32 : BitVec 32 := 250#32
  let v48 : BitVec 1 := Scalar.cmpi .slt v47 c250_i32_32
  let v49 : BitVec 32 := Scalar.extui v48
  let c0_i32_33 : BitVec 32 := 0#32
  let v50 : BitVec 1 := Scalar.cmpi .ne v49 c0_i32_33
  v50

def k0_off7 (i : grid0.Coords) (k0_t1 : Fin k0_t1_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32_38 : BitVec 32 := 32#32
  let c2_i32_25 : BitVec 32 := 2#32
  let c0_i32_6 : BitVec 32 := 0#32
  let c1_i32 : BitVec 32 := 1#32
  let arg17 : BitVec 32 := Scf.iv c0_i32_6 c1_i32 k0_t1
  let v38 : BitVec 32 := Scalar.muli c2_i32_25 arg17
  let c1_i32_26 : BitVec 32 := 1#32
  let v39 : BitVec 32 := Scalar.addi v38 c1_i32_26
  let c2_i32_37 : BitVec 32 := 2#32
  let v57 : BitVec 32 := Scalar.addi v39 c2_i32_37
  let v58 : BitVec 32 := Scalar.muli c32_i32_38 v57
  let v59 : BitVec 32 := Scalar.addi v1 v58
  let c400_i32_39 : BitVec 32 := 400#32
  let v60 : BitVec 32 := Scalar.muli v59 c400_i32_39
  ![v60.toNat]
def k0_cond7 (i : grid0.Coords) (k0_t1 : Fin k0_t1_loop.trips) : BitVec 1 :=
  let c2_i32_25 : BitVec 32 := 2#32
  let c0_i32_6 : BitVec 32 := 0#32
  let c1_i32 : BitVec 32 := 1#32
  let arg17 : BitVec 32 := Scf.iv c0_i32_6 c1_i32 k0_t1
  let v38 : BitVec 32 := Scalar.muli c2_i32_25 arg17
  let c1_i32_26 : BitVec 32 := 1#32
  let v39 : BitVec 32 := Scalar.addi v38 c1_i32_26
  let c2_i32_34 : BitVec 32 := 2#32
  let v51 : BitVec 1 := Scalar.cmpi .sge v39 c2_i32_34
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32_27 : BitVec 32 := 32#32
  let v40 : BitVec 32 := Scalar.muli c32_i32_27 v39
  let v41 : BitVec 32 := Scalar.addi v1 v40
  let c250_i32_28 : BitVec 32 := 250#32
  let v42 : BitVec 1 := Scalar.cmpi .slt v41 c250_i32_28
  let v52 : BitVec 1 := Scalar.andi v51 v42
  let v53 : BitVec 32 := Scalar.extui v52
  let c0_i32_35 : BitVec 32 := 0#32
  let v54 : BitVec 1 := Scalar.cmpi .ne v53 c0_i32_35
  v54

def k0_off8 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32_38 : BitVec 32 := 32#32
  let c2_i32_25 : BitVec 32 := 2#32
  let c0_i32_6 : BitVec 32 := 0#32
  let c1_i32 : BitVec 32 := 1#32
  let arg17 : BitVec 32 := Scf.iv c0_i32_6 c1_i32 k0_t1
  let v38 : BitVec 32 := Scalar.muli c2_i32_25 arg17
  let c1_i32_26 : BitVec 32 := 1#32
  let v39 : BitVec 32 := Scalar.addi v38 c1_i32_26
  let c2_i32_37 : BitVec 32 := 2#32
  let v57 : BitVec 32 := Scalar.subi v39 c2_i32_37
  let v58 : BitVec 32 := Scalar.muli c32_i32_38 v57
  let v59 : BitVec 32 := Scalar.addi v1 v58
  let c400_i32_39 : BitVec 32 := 400#32
  let v60 : BitVec 32 := Scalar.muli v59 c400_i32_39
  let c0_i32_40 : BitVec 32 := 0#32
  ![v60.toNat, 0]
def k0_cond8 (i : grid0.Coords) (k0_t1 : Fin k0_t1_loop.trips) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32_27 : BitVec 32 := 32#32
  let c2_i32_25 : BitVec 32 := 2#32
  let c0_i32_6 : BitVec 32 := 0#32
  let c1_i32 : BitVec 32 := 1#32
  let arg17 : BitVec 32 := Scf.iv c0_i32_6 c1_i32 k0_t1
  let v38 : BitVec 32 := Scalar.muli c2_i32_25 arg17
  let c1_i32_26 : BitVec 32 := 1#32
  let v39 : BitVec 32 := Scalar.addi v38 c1_i32_26
  let v40 : BitVec 32 := Scalar.muli c32_i32_27 v39
  let v41 : BitVec 32 := Scalar.addi v1 v40
  let c250_i32_28 : BitVec 32 := 250#32
  let v42 : BitVec 1 := Scalar.cmpi .slt v41 c250_i32_28
  let v55 : BitVec 32 := Scalar.extui v42
  let c0_i32_36 : BitVec 32 := 0#32
  let v56 : BitVec 1 := Scalar.cmpi .ne v55 c0_i32_36
  v56

def k0_off9 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32_92 : BitVec 32 := 32#32
  let c2_i32_25 : BitVec 32 := 2#32
  let c0_i32_6 : BitVec 32 := 0#32
  let c1_i32 : BitVec 32 := 1#32
  let arg17 : BitVec 32 := Scf.iv c0_i32_6 c1_i32 k0_t1
  let v38 : BitVec 32 := Scalar.muli c2_i32_25 arg17
  let c1_i32_26 : BitVec 32 := 1#32
  let v39 : BitVec 32 := Scalar.addi v38 c1_i32_26
  let v97 : BitVec 32 := Scalar.muli c32_i32_92 v39
  let v98 : BitVec 32 := Scalar.addi v1 v97
  let c400_i32_93 : BitVec 32 := 400#32
  let v99 : BitVec 32 := Scalar.muli v98 c400_i32_93
  let c0_i32_94 : BitVec 32 := 0#32
  ![v99.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x9 : Shape := ⟨2, ![100000, 9]⟩
abbrev S1600000x4 : Shape := ⟨2, ![1600000, 4]⟩
abbrev S1600000 : Shape := ⟨1, ![1600000]⟩
abbrev S100000 : Shape := ⟨1, ![100000]⟩
abbrev S119x128 : Shape := ⟨2, ![119, 128]⟩
abbrev S4x128 : Shape := ⟨2, ![4, 128]⟩
abbrev S12x128 : Shape := ⟨2, ![12, 128]⟩
abbrev S10x128 : Shape := ⟨2, ![10, 128]⟩
abbrev S6x128 : Shape := ⟨2, ![6, 128]⟩
abbrev S2x128 : Shape := ⟨2, ![2, 128]⟩
abbrev S_ : Shape := ⟨0, ![]⟩
abbrev S100000x128 : Shape := ⟨2, ![100000, 128]⟩
abbrev S100000x1 : Shape := ⟨2, ![100000, 1]⟩
abbrev S1 : Shape := ⟨1, ![1]⟩
abbrev S1x1 : Shape := ⟨2, ![1, 1]⟩
abbrev S1024x1 : Shape := ⟨2, ![1024, 1]⟩

abbrev nBuf : Space → Nat
  | .hbm => 253
  | .vmem => 0
  | .smem => 0
  | _ => 0

abbrev hbmTy0_0 (i : Nat) : BufTy := match i % 128 with
  | 0 => ⟨S100000x9, .i32⟩
  | 1 => ⟨S1600000x4, .f32⟩
  | 2 => ⟨S1600000, .i32⟩
  | 3 => ⟨S1600000, .i32⟩
  | 4 => ⟨S100000, .i32⟩
  | 5 => ⟨S1600000, .i32⟩
  | 6 => ⟨S119x128, .f32⟩
  | 7 => ⟨S4x128, .f32⟩
  | 8 => ⟨S12x128, .f32⟩
  | 9 => ⟨S12x128, .f32⟩
  | 10 => ⟨S10x128, .f32⟩
  | 11 => ⟨S6x128, .f32⟩
  | 12 => ⟨S6x128, .f32⟩
  | 13 => ⟨S2x128, .f32⟩
  | 14 => ⟨S2x128, .f32⟩
  | 15 => ⟨S_, .f32⟩
  | 16 => ⟨S100000x128, .f32⟩
  | 17 => ⟨S100000x1, .i32⟩
  | 18 => ⟨S100000, .i32⟩
  | 19 => ⟨S_, .i32⟩
  | 20 => ⟨S100000, .i32⟩
  | 21 => ⟨S100000, .i1⟩
  | 22 => ⟨S_, .i32⟩
  | 23 => ⟨S100000, .i32⟩
  | 24 => ⟨S100000, .i32⟩
  | 25 => ⟨S100000, .i32⟩
  | 26 => ⟨S100000x1, .i32⟩
  | 27 => ⟨S1, .i32⟩
  | 28 => ⟨S_, .i32⟩
  | 29 => ⟨S100000x1, .i32⟩
  | 30 => ⟨S100000x1, .i1⟩
  | 31 => ⟨S1x1, .i32⟩
  | 32 => ⟨S100000x1, .i32⟩
  | 33 => ⟨S100000x1, .i1⟩
  | 34 => ⟨S100000x1, .i1⟩
  | 35 => ⟨S_, .i1⟩
  | 36 => ⟨S100000, .i1⟩
  | 37 => ⟨S100000x128, .f32⟩
  | 38 => ⟨S100000x128, .i1⟩
  | 39 => ⟨S_, .f32⟩
  | 40 => ⟨S100000x128, .f32⟩
  | 41 => ⟨S100000x128, .f32⟩
  | 42 => ⟨S100000x128, .f32⟩
  | 43 => ⟨S100000x1, .i32⟩
  | 44 => ⟨S100000, .i32⟩
  | 45 => ⟨S_, .i32⟩
  | 46 => ⟨S100000, .i32⟩
  | 47 => ⟨S100000, .i1⟩
  | 48 => ⟨S_, .i32⟩
  | 49 => ⟨S100000, .i32⟩
  | 50 => ⟨S100000, .i32⟩
  | 51 => ⟨S100000, .i32⟩
  | 52 => ⟨S100000x1, .i32⟩
  | 53 => ⟨S1, .i32⟩
  | 54 => ⟨S_, .i32⟩
  | 55 => ⟨S100000x1, .i32⟩
  | 56 => ⟨S100000x1, .i1⟩
  | 57 => ⟨S1x1, .i32⟩
  | 58 => ⟨S100000x1, .i32⟩
  | 59 => ⟨S100000x1, .i1⟩
  | 60 => ⟨S100000x1, .i1⟩
  | 61 => ⟨S_, .i1⟩
  | 62 => ⟨S100000, .i1⟩
  | 63 => ⟨S100000x128, .f32⟩
  | 64 => ⟨S100000x128, .i1⟩
  | 65 => ⟨S_, .f32⟩
  | 66 => ⟨S100000x128, .f32⟩
  | 67 => ⟨S100000x128, .f32⟩
  | 68 => ⟨S100000x128, .f32⟩
  | 69 => ⟨S100000x1, .i32⟩
  | 70 => ⟨S100000, .i32⟩
  | 71 => ⟨S_, .i32⟩
  | 72 => ⟨S100000, .i32⟩
  | 73 => ⟨S100000, .i1⟩
  | 74 => ⟨S_, .i32⟩
  | 75 => ⟨S100000, .i32⟩
  | 76 => ⟨S100000, .i32⟩
  | 77 => ⟨S100000, .i32⟩
  | 78 => ⟨S100000x1, .i32⟩
  | 79 => ⟨S1, .i32⟩
  | 80 => ⟨S_, .i32⟩
  | 81 => ⟨S100000x1, .i32⟩
  | 82 => ⟨S100000x1, .i1⟩
  | 83 => ⟨S1x1, .i32⟩
  | 84 => ⟨S100000x1, .i32⟩
  | 85 => ⟨S100000x1, .i1⟩
  | 86 => ⟨S100000x1, .i1⟩
  | 87 => ⟨S_, .i1⟩
  | 88 => ⟨S100000, .i1⟩
  | 89 => ⟨S100000x128, .f32⟩
  | 90 => ⟨S100000x128, .i1⟩
  | 91 => ⟨S_, .f32⟩
  | 92 => ⟨S100000x128, .f32⟩
  | 93 => ⟨S100000x128, .f32⟩
  | 94 => ⟨S100000x128, .f32⟩
  | 95 => ⟨S100000x1, .i32⟩
  | 96 => ⟨S100000, .i32⟩
  | 97 => ⟨S_, .i32⟩
  | 98 => ⟨S100000, .i32⟩
  | 99 => ⟨S100000, .i1⟩
  | 100 => ⟨S_, .i32⟩
  | 101 => ⟨S100000, .i32⟩
  | 102 => ⟨S100000, .i32⟩
  | 103 => ⟨S100000, .i32⟩
  | 104 => ⟨S100000x1, .i32⟩
  | 105 => ⟨S1, .i32⟩
  | 106 => ⟨S_, .i32⟩
  | 107 => ⟨S100000x1, .i32⟩
  | 108 => ⟨S100000x1, .i1⟩
  | 109 => ⟨S1x1, .i32⟩
  | 110 => ⟨S100000x1, .i32⟩
  | 111 => ⟨S100000x1, .i1⟩
  | 112 => ⟨S100000x1, .i1⟩
  | 113 => ⟨S_, .i1⟩
  | 114 => ⟨S100000, .i1⟩
  | 115 => ⟨S100000x128, .f32⟩
  | 116 => ⟨S100000x128, .i1⟩
  | 117 => ⟨S_, .f32⟩
  | 118 => ⟨S100000x128, .f32⟩
  | 119 => ⟨S100000x128, .f32⟩
  | 120 => ⟨S100000x128, .f32⟩
  | 121 => ⟨S100000x1, .i32⟩
  | 122 => ⟨S100000, .i32⟩
  | 123 => ⟨S_, .i32⟩
  | 124 => ⟨S100000, .i32⟩
  | 125 => ⟨S100000, .i1⟩
  | 126 => ⟨S_, .i32⟩
  | 127 => ⟨S100000, .i32⟩
  | _ => ⟨S100000x9, .i32⟩

abbrev hbmTy0_1 (i : Nat) : BufTy := match i % 128 with
  | 0 => ⟨S100000, .i32⟩
  | 1 => ⟨S100000, .i32⟩
  | 2 => ⟨S100000x1, .i32⟩
  | 3 => ⟨S1, .i32⟩
  | 4 => ⟨S_, .i32⟩
  | 5 => ⟨S100000x1, .i32⟩
  | 6 => ⟨S100000x1, .i1⟩
  | 7 => ⟨S1x1, .i32⟩
  | 8 => ⟨S100000x1, .i32⟩
  | 9 => ⟨S100000x1, .i1⟩
  | 10 => ⟨S100000x1, .i1⟩
  | 11 => ⟨S_, .i1⟩
  | 12 => ⟨S100000, .i1⟩
  | 13 => ⟨S100000x128, .f32⟩
  | 14 => ⟨S100000x128, .i1⟩
  | 15 => ⟨S_, .f32⟩
  | 16 => ⟨S100000x128, .f32⟩
  | 17 => ⟨S100000x128, .f32⟩
  | 18 => ⟨S100000x128, .f32⟩
  | 19 => ⟨S100000x1, .i32⟩
  | 20 => ⟨S100000, .i32⟩
  | 21 => ⟨S_, .i32⟩
  | 22 => ⟨S100000, .i32⟩
  | 23 => ⟨S100000, .i1⟩
  | 24 => ⟨S_, .i32⟩
  | 25 => ⟨S100000, .i32⟩
  | 26 => ⟨S100000, .i32⟩
  | 27 => ⟨S100000, .i32⟩
  | 28 => ⟨S100000x1, .i32⟩
  | 29 => ⟨S1, .i32⟩
  | 30 => ⟨S_, .i32⟩
  | 31 => ⟨S100000x1, .i32⟩
  | 32 => ⟨S100000x1, .i1⟩
  | 33 => ⟨S1x1, .i32⟩
  | 34 => ⟨S100000x1, .i32⟩
  | 35 => ⟨S100000x1, .i1⟩
  | 36 => ⟨S100000x1, .i1⟩
  | 37 => ⟨S_, .i1⟩
  | 38 => ⟨S100000, .i1⟩
  | 39 => ⟨S100000x128, .f32⟩
  | 40 => ⟨S100000x128, .i1⟩
  | 41 => ⟨S_, .f32⟩
  | 42 => ⟨S100000x128, .f32⟩
  | 43 => ⟨S100000x128, .f32⟩
  | 44 => ⟨S100000x128, .f32⟩
  | 45 => ⟨S100000x1, .i32⟩
  | 46 => ⟨S100000, .i32⟩
  | 47 => ⟨S_, .i32⟩
  | 48 => ⟨S100000, .i32⟩
  | 49 => ⟨S100000, .i1⟩
  | 50 => ⟨S_, .i32⟩
  | 51 => ⟨S100000, .i32⟩
  | 52 => ⟨S100000, .i32⟩
  | 53 => ⟨S100000, .i32⟩
  | 54 => ⟨S100000x1, .i32⟩
  | 55 => ⟨S1, .i32⟩
  | 56 => ⟨S_, .i32⟩
  | 57 => ⟨S100000x1, .i32⟩
  | 58 => ⟨S100000x1, .i1⟩
  | 59 => ⟨S1x1, .i32⟩
  | 60 => ⟨S100000x1, .i32⟩
  | 61 => ⟨S100000x1, .i1⟩
  | 62 => ⟨S100000x1, .i1⟩
  | 63 => ⟨S_, .i1⟩
  | 64 => ⟨S100000, .i1⟩
  | 65 => ⟨S100000x128, .f32⟩
  | 66 => ⟨S100000x128, .i1⟩
  | 67 => ⟨S_, .f32⟩
  | 68 => ⟨S100000x128, .f32⟩
  | 69 => ⟨S100000x128, .f32⟩
  | 70 => ⟨S100000x128, .f32⟩
  | 71 => ⟨S100000x1, .i32⟩
  | 72 => ⟨S100000, .i32⟩
  | 73 => ⟨S_, .i32⟩
  | 74 => ⟨S100000, .i32⟩
  | 75 => ⟨S100000, .i1⟩
  | 76 => ⟨S_, .i32⟩
  | 77 => ⟨S100000, .i32⟩
  | 78 => ⟨S100000, .i32⟩
  | 79 => ⟨S100000, .i32⟩
  | 80 => ⟨S100000x1, .i32⟩
  | 81 => ⟨S1, .i32⟩
  | 82 => ⟨S_, .i32⟩
  | 83 => ⟨S100000x1, .i32⟩
  | 84 => ⟨S100000x1, .i1⟩
  | 85 => ⟨S1x1, .i32⟩
  | 86 => ⟨S100000x1, .i32⟩
  | 87 => ⟨S100000x1, .i1⟩
  | 88 => ⟨S100000x1, .i1⟩
  | 89 => ⟨S_, .i1⟩
  | 90 => ⟨S100000, .i1⟩
  | 91 => ⟨S100000x128, .f32⟩
  | 92 => ⟨S100000x128, .i1⟩
  | 93 => ⟨S_, .f32⟩
  | 94 => ⟨S100000x128, .f32⟩
  | 95 => ⟨S100000x128, .f32⟩
  | 96 => ⟨S100000x128, .f32⟩
  | 97 => ⟨S100000x1, .i32⟩
  | 98 => ⟨S100000, .i32⟩
  | 99 => ⟨S_, .i32⟩
  | 100 => ⟨S100000, .i32⟩
  | 101 => ⟨S100000, .i1⟩
  | 102 => ⟨S_, .i32⟩
  | 103 => ⟨S100000, .i32⟩
  | 104 => ⟨S100000, .i32⟩
  | 105 => ⟨S100000, .i32⟩
  | 106 => ⟨S100000x1, .i32⟩
  | 107 => ⟨S1, .i32⟩
  | 108 => ⟨S_, .i32⟩
  | 109 => ⟨S100000x1, .i32⟩
  | 110 => ⟨S100000x1, .i1⟩
  | 111 => ⟨S1x1, .i32⟩
  | 112 => ⟨S100000x1, .i32⟩
  | 113 => ⟨S100000x1, .i1⟩
  | 114 => ⟨S100000x1, .i1⟩
  | 115 => ⟨S_, .i1⟩
  | 116 => ⟨S100000, .i1⟩
  | 117 => ⟨S100000x128, .f32⟩
  | 118 => ⟨S100000x128, .i1⟩
  | 119 => ⟨S_, .f32⟩
  | 120 => ⟨S100000x128, .f32⟩
  | 121 => ⟨S100000x128, .f32⟩
  | 122 => ⟨S100000x128, .f32⟩
  | 123 => ⟨S_, .f32⟩
  | 124 => ⟨S1024x1, .f32⟩
  | _ => ⟨S100000x9, .i32⟩

abbrev hbmTy (i : Nat) : BufTy := match i / 128 with
  | 0 => hbmTy0_0 i
  | 1 => hbmTy0_1 i
  | _ => ⟨S100000x9, .i32⟩

abbrev bufTy : (tb : Table) → Fin (tcTables nBuf tb) → BufTy
  | .hbm, ⟨i, _⟩ => hbmTy i
  | _, _ => ⟨S100000x9, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v3 : Ref sig .tc := ⟨.hbm, 41, rfl⟩
abbrev main_v4 : Ref sig .tc := ⟨.hbm, 42, rfl⟩
abbrev main_v5 : Ref sig .tc := ⟨.hbm, 43, rfl⟩
abbrev main_v6 : Ref sig .tc := ⟨.hbm, 44, rfl⟩
abbrev main_call1_c : Ref sig .tc := ⟨.hbm, 45, rfl⟩
abbrev main_call1_v0 : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_c_1 : Ref sig .tc := ⟨.hbm, 53, rfl⟩
abbrev main_call1_c_2 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_3 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_call1_cst : Ref sig .tc := ⟨.hbm, 65, rfl⟩
abbrev main_call1_v15 : Ref sig .tc := ⟨.hbm, 66, rfl⟩
abbrev main_v7 : Ref sig .tc := ⟨.hbm, 67, rfl⟩
abbrev main_v8 : Ref sig .tc := ⟨.hbm, 68, rfl⟩
abbrev main_v9 : Ref sig .tc := ⟨.hbm, 69, rfl⟩
abbrev main_v10 : Ref sig .tc := ⟨.hbm, 70, rfl⟩
abbrev main_call2_c : Ref sig .tc := ⟨.hbm, 71, rfl⟩
abbrev main_call2_v0 : Ref sig .tc := ⟨.hbm, 72, rfl⟩
abbrev main_call2_v1 : Ref sig .tc := ⟨.hbm, 73, rfl⟩
abbrev main_call2_c_0 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_v5 : Ref sig .tc := ⟨.hbm, 78, rfl⟩
abbrev main_call2_c_1 : Ref sig .tc := ⟨.hbm, 79, rfl⟩
abbrev main_call2_c_2 : Ref sig .tc := ⟨.hbm, 80, rfl⟩
abbrev main_call2_v6 : Ref sig .tc := ⟨.hbm, 81, rfl⟩
abbrev main_call2_v7 : Ref sig .tc := ⟨.hbm, 82, rfl⟩
abbrev main_call2_v8 : Ref sig .tc := ⟨.hbm, 83, rfl⟩
abbrev main_call2_v9 : Ref sig .tc := ⟨.hbm, 84, rfl⟩
abbrev main_call2_v10 : Ref sig .tc := ⟨.hbm, 85, rfl⟩
abbrev main_call2_v11 : Ref sig .tc := ⟨.hbm, 86, rfl⟩
abbrev main_call2_c_3 : Ref sig .tc := ⟨.hbm, 87, rfl⟩
abbrev main_call2_v12 : Ref sig .tc := ⟨.hbm, 88, rfl⟩
abbrev main_call2_v13 : Ref sig .tc := ⟨.hbm, 89, rfl⟩
abbrev main_call2_v14 : Ref sig .tc := ⟨.hbm, 90, rfl⟩
abbrev main_call2_cst : Ref sig .tc := ⟨.hbm, 91, rfl⟩
abbrev main_call2_v15 : Ref sig .tc := ⟨.hbm, 92, rfl⟩
abbrev main_v11 : Ref sig .tc := ⟨.hbm, 93, rfl⟩
abbrev main_v12 : Ref sig .tc := ⟨.hbm, 94, rfl⟩
abbrev main_v13 : Ref sig .tc := ⟨.hbm, 95, rfl⟩
abbrev main_v14 : Ref sig .tc := ⟨.hbm, 96, rfl⟩
abbrev main_call3_c : Ref sig .tc := ⟨.hbm, 97, rfl⟩
abbrev main_call3_v0 : Ref sig .tc := ⟨.hbm, 98, rfl⟩
abbrev main_call3_v1 : Ref sig .tc := ⟨.hbm, 99, rfl⟩
abbrev main_call3_c_0 : Ref sig .tc := ⟨.hbm, 100, rfl⟩
abbrev main_call3_v2 : Ref sig .tc := ⟨.hbm, 101, rfl⟩
abbrev main_call3_v3 : Ref sig .tc := ⟨.hbm, 102, rfl⟩
abbrev main_call3_v4 : Ref sig .tc := ⟨.hbm, 103, rfl⟩
abbrev main_call3_v5 : Ref sig .tc := ⟨.hbm, 104, rfl⟩
abbrev main_call3_c_1 : Ref sig .tc := ⟨.hbm, 105, rfl⟩
abbrev main_call3_c_2 : Ref sig .tc := ⟨.hbm, 106, rfl⟩
abbrev main_call3_v6 : Ref sig .tc := ⟨.hbm, 107, rfl⟩
abbrev main_call3_v7 : Ref sig .tc := ⟨.hbm, 108, rfl⟩
abbrev main_call3_v8 : Ref sig .tc := ⟨.hbm, 109, rfl⟩
abbrev main_call3_v9 : Ref sig .tc := ⟨.hbm, 110, rfl⟩
abbrev main_call3_v10 : Ref sig .tc := ⟨.hbm, 111, rfl⟩
abbrev main_call3_v11 : Ref sig .tc := ⟨.hbm, 112, rfl⟩
abbrev main_call3_c_3 : Ref sig .tc := ⟨.hbm, 113, rfl⟩
abbrev main_call3_v12 : Ref sig .tc := ⟨.hbm, 114, rfl⟩
abbrev main_call3_v13 : Ref sig .tc := ⟨.hbm, 115, rfl⟩
abbrev main_call3_v14 : Ref sig .tc := ⟨.hbm, 116, rfl⟩
abbrev main_call3_cst : Ref sig .tc := ⟨.hbm, 117, rfl⟩
abbrev main_call3_v15 : Ref sig .tc := ⟨.hbm, 118, rfl⟩
abbrev main_v15 : Ref sig .tc := ⟨.hbm, 119, rfl⟩
abbrev main_v16 : Ref sig .tc := ⟨.hbm, 120, rfl⟩
abbrev main_v17 : Ref sig .tc := ⟨.hbm, 121, rfl⟩
abbrev main_v18 : Ref sig .tc := ⟨.hbm, 122, rfl⟩
abbrev main_call4_c : Ref sig .tc := ⟨.hbm, 123, rfl⟩
abbrev main_call4_v0 : Ref sig .tc := ⟨.hbm, 124, rfl⟩
abbrev main_call4_v1 : Ref sig .tc := ⟨.hbm, 125, rfl⟩
abbrev main_call4_c_0 : Ref sig .tc := ⟨.hbm, 126, rfl⟩
abbrev main_call4_v2 : Ref sig .tc := ⟨.hbm, 127, rfl⟩
abbrev main_call4_v3 : Ref sig .tc := ⟨.hbm, 128, rfl⟩
abbrev main_call4_v4 : Ref sig .tc := ⟨.hbm, 129, rfl⟩
abbrev main_call4_v5 : Ref sig .tc := ⟨.hbm, 130, rfl⟩
abbrev main_call4_c_1 : Ref sig .tc := ⟨.hbm, 131, rfl⟩
abbrev main_call4_c_2 : Ref sig .tc := ⟨.hbm, 132, rfl⟩
abbrev main_call4_v6 : Ref sig .tc := ⟨.hbm, 133, rfl⟩
abbrev main_call4_v7 : Ref sig .tc := ⟨.hbm, 134, rfl⟩
abbrev main_call4_v8 : Ref sig .tc := ⟨.hbm, 135, rfl⟩
abbrev main_call4_v9 : Ref sig .tc := ⟨.hbm, 136, rfl⟩
abbrev main_call4_v10 : Ref sig .tc := ⟨.hbm, 137, rfl⟩
abbrev main_call4_v11 : Ref sig .tc := ⟨.hbm, 138, rfl⟩
abbrev main_call4_c_3 : Ref sig .tc := ⟨.hbm, 139, rfl⟩
abbrev main_call4_v12 : Ref sig .tc := ⟨.hbm, 140, rfl⟩
abbrev main_call4_v13 : Ref sig .tc := ⟨.hbm, 141, rfl⟩
abbrev main_call4_v14 : Ref sig .tc := ⟨.hbm, 142, rfl⟩
abbrev main_call4_cst : Ref sig .tc := ⟨.hbm, 143, rfl⟩
abbrev main_call4_v15 : Ref sig .tc := ⟨.hbm, 144, rfl⟩
abbrev main_v19 : Ref sig .tc := ⟨.hbm, 145, rfl⟩
abbrev main_v20 : Ref sig .tc := ⟨.hbm, 146, rfl⟩
abbrev main_v21 : Ref sig .tc := ⟨.hbm, 147, rfl⟩
abbrev main_v22 : Ref sig .tc := ⟨.hbm, 148, rfl⟩
abbrev main_call5_c : Ref sig .tc := ⟨.hbm, 149, rfl⟩
abbrev main_call5_v0 : Ref sig .tc := ⟨.hbm, 150, rfl⟩
abbrev main_call5_v1 : Ref sig .tc := ⟨.hbm, 151, rfl⟩
abbrev main_call5_c_0 : Ref sig .tc := ⟨.hbm, 152, rfl⟩
abbrev main_call5_v2 : Ref sig .tc := ⟨.hbm, 153, rfl⟩
abbrev main_call5_v3 : Ref sig .tc := ⟨.hbm, 154, rfl⟩
abbrev main_call5_v4 : Ref sig .tc := ⟨.hbm, 155, rfl⟩
abbrev main_call5_v5 : Ref sig .tc := ⟨.hbm, 156, rfl⟩
abbrev main_call5_c_1 : Ref sig .tc := ⟨.hbm, 157, rfl⟩
abbrev main_call5_c_2 : Ref sig .tc := ⟨.hbm, 158, rfl⟩
abbrev main_call5_v6 : Ref sig .tc := ⟨.hbm, 159, rfl⟩
abbrev main_call5_v7 : Ref sig .tc := ⟨.hbm, 160, rfl⟩
abbrev main_call5_v8 : Ref sig .tc := ⟨.hbm, 161, rfl⟩
abbrev main_call5_v9 : Ref sig .tc := ⟨.hbm, 162, rfl⟩
abbrev main_call5_v10 : Ref sig .tc := ⟨.hbm, 163, rfl⟩
abbrev main_call5_v11 : Ref sig .tc := ⟨.hbm, 164, rfl⟩
abbrev main_call5_c_3 : Ref sig .tc := ⟨.hbm, 165, rfl⟩
abbrev main_call5_v12 : Ref sig .tc := ⟨.hbm, 166, rfl⟩
abbrev main_call5_v13 : Ref sig .tc := ⟨.hbm, 167, rfl⟩
abbrev main_call5_v14 : Ref sig .tc := ⟨.hbm, 168, rfl⟩
abbrev main_call5_cst : Ref sig .tc := ⟨.hbm, 169, rfl⟩
abbrev main_call5_v15 : Ref sig .tc := ⟨.hbm, 170, rfl⟩
abbrev main_v23 : Ref sig .tc := ⟨.hbm, 171, rfl⟩
abbrev main_v24 : Ref sig .tc := ⟨.hbm, 172, rfl⟩
abbrev main_v25 : Ref sig .tc := ⟨.hbm, 173, rfl⟩
abbrev main_v26 : Ref sig .tc := ⟨.hbm, 174, rfl⟩
abbrev main_call6_c : Ref sig .tc := ⟨.hbm, 175, rfl⟩
abbrev main_call6_v0 : Ref sig .tc := ⟨.hbm, 176, rfl⟩
abbrev main_call6_v1 : Ref sig .tc := ⟨.hbm, 177, rfl⟩
abbrev main_call6_c_0 : Ref sig .tc := ⟨.hbm, 178, rfl⟩
abbrev main_call6_v2 : Ref sig .tc := ⟨.hbm, 179, rfl⟩
abbrev main_call6_v3 : Ref sig .tc := ⟨.hbm, 180, rfl⟩
abbrev main_call6_v4 : Ref sig .tc := ⟨.hbm, 181, rfl⟩
abbrev main_call6_v5 : Ref sig .tc := ⟨.hbm, 182, rfl⟩
abbrev main_call6_c_1 : Ref sig .tc := ⟨.hbm, 183, rfl⟩
abbrev main_call6_c_2 : Ref sig .tc := ⟨.hbm, 184, rfl⟩
abbrev main_call6_v6 : Ref sig .tc := ⟨.hbm, 185, rfl⟩
abbrev main_call6_v7 : Ref sig .tc := ⟨.hbm, 186, rfl⟩
abbrev main_call6_v8 : Ref sig .tc := ⟨.hbm, 187, rfl⟩
abbrev main_call6_v9 : Ref sig .tc := ⟨.hbm, 188, rfl⟩
abbrev main_call6_v10 : Ref sig .tc := ⟨.hbm, 189, rfl⟩
abbrev main_call6_v11 : Ref sig .tc := ⟨.hbm, 190, rfl⟩
abbrev main_call6_c_3 : Ref sig .tc := ⟨.hbm, 191, rfl⟩
abbrev main_call6_v12 : Ref sig .tc := ⟨.hbm, 192, rfl⟩
abbrev main_call6_v13 : Ref sig .tc := ⟨.hbm, 193, rfl⟩
abbrev main_call6_v14 : Ref sig .tc := ⟨.hbm, 194, rfl⟩
abbrev main_call6_cst : Ref sig .tc := ⟨.hbm, 195, rfl⟩
abbrev main_call6_v15 : Ref sig .tc := ⟨.hbm, 196, rfl⟩
abbrev main_v27 : Ref sig .tc := ⟨.hbm, 197, rfl⟩
abbrev main_v28 : Ref sig .tc := ⟨.hbm, 198, rfl⟩
abbrev main_v29 : Ref sig .tc := ⟨.hbm, 199, rfl⟩
abbrev main_v30 : Ref sig .tc := ⟨.hbm, 200, rfl⟩
abbrev main_call7_c : Ref sig .tc := ⟨.hbm, 201, rfl⟩
abbrev main_call7_v0 : Ref sig .tc := ⟨.hbm, 202, rfl⟩
abbrev main_call7_v1 : Ref sig .tc := ⟨.hbm, 203, rfl⟩
abbrev main_call7_c_0 : Ref sig .tc := ⟨.hbm, 204, rfl⟩
abbrev main_call7_v2 : Ref sig .tc := ⟨.hbm, 205, rfl⟩
abbrev main_call7_v3 : Ref sig .tc := ⟨.hbm, 206, rfl⟩
abbrev main_call7_v4 : Ref sig .tc := ⟨.hbm, 207, rfl⟩
abbrev main_call7_v5 : Ref sig .tc := ⟨.hbm, 208, rfl⟩
abbrev main_call7_c_1 : Ref sig .tc := ⟨.hbm, 209, rfl⟩
abbrev main_call7_c_2 : Ref sig .tc := ⟨.hbm, 210, rfl⟩
abbrev main_call7_v6 : Ref sig .tc := ⟨.hbm, 211, rfl⟩
abbrev main_call7_v7 : Ref sig .tc := ⟨.hbm, 212, rfl⟩
abbrev main_call7_v8 : Ref sig .tc := ⟨.hbm, 213, rfl⟩
abbrev main_call7_v9 : Ref sig .tc := ⟨.hbm, 214, rfl⟩
abbrev main_call7_v10 : Ref sig .tc := ⟨.hbm, 215, rfl⟩
abbrev main_call7_v11 : Ref sig .tc := ⟨.hbm, 216, rfl⟩
abbrev main_call7_c_3 : Ref sig .tc := ⟨.hbm, 217, rfl⟩
abbrev main_call7_v12 : Ref sig .tc := ⟨.hbm, 218, rfl⟩
abbrev main_call7_v13 : Ref sig .tc := ⟨.hbm, 219, rfl⟩
abbrev main_call7_v14 : Ref sig .tc := ⟨.hbm, 220, rfl⟩
abbrev main_call7_cst : Ref sig .tc := ⟨.hbm, 221, rfl⟩
abbrev main_call7_v15 : Ref sig .tc := ⟨.hbm, 222, rfl⟩
abbrev main_v31 : Ref sig .tc := ⟨.hbm, 223, rfl⟩
abbrev main_v32 : Ref sig .tc := ⟨.hbm, 224, rfl⟩
abbrev main_v33 : Ref sig .tc := ⟨.hbm, 225, rfl⟩
abbrev main_v34 : Ref sig .tc := ⟨.hbm, 226, rfl⟩
abbrev main_call8_c : Ref sig .tc := ⟨.hbm, 227, rfl⟩
abbrev main_call8_v0 : Ref sig .tc := ⟨.hbm, 228, rfl⟩
abbrev main_call8_v1 : Ref sig .tc := ⟨.hbm, 229, rfl⟩
abbrev main_call8_c_0 : Ref sig .tc := ⟨.hbm, 230, rfl⟩
abbrev main_call8_v2 : Ref sig .tc := ⟨.hbm, 231, rfl⟩
abbrev main_call8_v3 : Ref sig .tc := ⟨.hbm, 232, rfl⟩
abbrev main_call8_v4 : Ref sig .tc := ⟨.hbm, 233, rfl⟩
abbrev main_call8_v5 : Ref sig .tc := ⟨.hbm, 234, rfl⟩
abbrev main_call8_c_1 : Ref sig .tc := ⟨.hbm, 235, rfl⟩
abbrev main_call8_c_2 : Ref sig .tc := ⟨.hbm, 236, rfl⟩
abbrev main_call8_v6 : Ref sig .tc := ⟨.hbm, 237, rfl⟩
abbrev main_call8_v7 : Ref sig .tc := ⟨.hbm, 238, rfl⟩
abbrev main_call8_v8 : Ref sig .tc := ⟨.hbm, 239, rfl⟩
abbrev main_call8_v9 : Ref sig .tc := ⟨.hbm, 240, rfl⟩
abbrev main_call8_v10 : Ref sig .tc := ⟨.hbm, 241, rfl⟩
abbrev main_call8_v11 : Ref sig .tc := ⟨.hbm, 242, rfl⟩
abbrev main_call8_c_3 : Ref sig .tc := ⟨.hbm, 243, rfl⟩
abbrev main_call8_v12 : Ref sig .tc := ⟨.hbm, 244, rfl⟩
abbrev main_call8_v13 : Ref sig .tc := ⟨.hbm, 245, rfl⟩
abbrev main_call8_v14 : Ref sig .tc := ⟨.hbm, 246, rfl⟩
abbrev main_call8_cst : Ref sig .tc := ⟨.hbm, 247, rfl⟩
abbrev main_call8_v15 : Ref sig .tc := ⟨.hbm, 248, rfl⟩
abbrev main_v35 : Ref sig .tc := ⟨.hbm, 249, rfl⟩
abbrev main_v36 : Ref sig .tc := ⟨.hbm, 250, rfl⟩
abbrev main_cst_0 : Ref sig .tc := ⟨.hbm, 251, rfl⟩
abbrev main_v37 : Ref sig .tc := ⟨.hbm, 252, rfl⟩

abbrev nD : Nat := 1
abbrev τ : Topo := Topo.v7x

variable {F : FTy → Type} [FloatOps F]
-- ==== Proof.GatherBatch.lean ====
/-
  Several indirect gathers outstanding on ONE DMA semaphore.

  A gather's engine moves the rows one at a time, each row paying the semaphore its own equal amount. So a group of
  gathers started one after another on one semaphore, before any of them is waited for, is read here as ONE counted batch
  whose units are the single rows: a gather of `o` rows takes the next `o` issue rights of the batch (`wp_gatherBatch`),
  a wait for one gather is a wait of several rows' units, and the wait that exhausts the batch returns every row, which
  `gatherRow_join` puts together again, gather by gather.
-/
module

public import Idealize.ShloMosaic.Lib.SparseCore.Stream
public import Idealize.ShloMosaic.Lib.Batch
public import Idealize.ShloMosaic.Lib.Tactic

@[expose] public section

noncomputable section

namespace Cert.Proof.GatherBatch

open Idealize.ShloMosaic Idealize.ShloMosaic.SparseCore
open Idealize.ShloMosaic.Transfers
open Idealize.SL Idealize.SL.RA
open Idealize.SL.BI (sProp Storable bigSep bigSep_map bigSep_congr)
open scoped Idealize.SL.BI
open Idealize.SL.BI.BIBase Idealize.SL.BI.Laws Idealize.SL.Sem Idealize.SL.ProofMode

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- The issue rights from the `j`-th on are the next `o` of them and those from the `(j + o)`-th on. -/
theorem pending_take {n : ℕ} (j o : ℕ) (h : j + o ≤ n) (Φ : Fin n → sProp 𝕄) :
    bigSep (pending j) Φ = iprop(bigSep Finset.univ (fun r : Fin o => Φ ⟨j + r.val, by omega⟩) ∗ bigSep (pending (j + o)) Φ) := by
  let em : Fin o ↪ Fin n := ⟨fun r => ⟨j + r.val, by omega⟩, fun x y hxy => Fin.ext (by have := congrArg Fin.val hxy; simpa using this)⟩
  have hset : pending (n := n) j = (Finset.univ.map em) ∪ pending (j + o) := by
    ext t
    simp only [pending, Finset.mem_filter, Finset.mem_univ, true_and, Finset.mem_union, Finset.mem_map]
    constructor
    · intro ht
      by_cases hlt : t.val < j + o
      · exact .inl ⟨⟨t.val - j, by omega⟩, Fin.ext (by show j + (t.val - j) = t.val; omega)⟩
      · exact .inr (by omega)
    · rintro (⟨r, rfl⟩ | ht)
      · show j ≤ j + r.val; omega
      · omega
  have hdis : Disjoint (Finset.univ.map em) (pending (n := n) (j + o)) := by
    refine Finset.disjoint_left.mpr fun t ht ht' => ?_
    obtain ⟨r, -, rfl⟩ := Finset.mem_map.mp ht
    have : j + o ≤ j + r.val := (Finset.mem_filter.mp ht').2
    omega
  rw [hset, bigSep_union' hdis, BI.bigSep_map]
  rfl

/-- What one row of a gather gives back once it has landed: the destination's row written with the source's row that
    the list's word names, the list's word, and the piece of the source's share the row was reading under. -/
def gatherRowOut (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) (j : Fin (s.size hg.axis')) : sProp 𝕄 :=
  iprop(((dst.view.loc c ↦[(dst.view.slice (s.rowRect hg.axis' j)).set]{fullShare}
            ((dst.view.slice (s.rowRect hg.axis' j)).write (Elt F) fd
              (fun i => src.view.read (Elt F) fs (hg.rowIdx (rows (offs.view.read (Elt F) fo) hn hin j) i)) Finset.univ))
          ∗ (offs.view.loc c ↦[{offs.view.emb (si.rowMajor.symm (j.cast hn.symm))}]{qo} fo))
        ∗ (src.view.loc c ↦[src.view.set]{pieceOf q _ ho j} fs))

instance gatherRowOut_storable (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) (j : Fin (s.size hg.axis')) :
    Storable (upEmb : UEmb _ 𝕄) (gatherRowOut (Name := Name) (U := U) (Lvl := Lvl) (Ix := Ix) c src dst hg offs hn ho q qo fs fd fo hin j) := by
  unfold gatherRowOut; infer_instance

/-- The rows of one gather, all landed, are its destination written with the gathered rows, the source's share and the
    list's share. -/
theorem gatherRow_join (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) :
    bigSep Finset.univ (gatherRowOut c src dst hg offs hn ho q qo fs fd fo hin)
      ⊢ (iprop((dst.view.loc c ↦[dst.view.set]{fullShare}
            (dst.view.write (Elt F) fd (gatherPayload hg (src.view.read (Elt F) fs) (rows (offs.view.read (Elt F) fo) hn hin)) Finset.univ))
          ∗ (src.view.loc c ↦[src.view.set]{q} fs) ∗ (offs.view.loc c ↦[offs.view.set]{qo} fo)) : sProp 𝕄) := by
  have hen : Function.Bijective (fun k : Fin (s.size hg.axis') => si.rowMajor.symm (k.cast hn.symm)) :=
    si.rowMajor.symm.bijective.comp (finCongr hn.symm).bijective
  have hW : ∀ (j : Fin (s.size hg.axis')) i, src.view.read (Elt F) fs (hg.rowIdx (rows (offs.view.read (Elt F) fo) hn hin j) i)
      = gatherPayload hg (src.view.read (Elt F) fs) (rows (offs.view.read (Elt F) fo) hn hin) ((s.rowRect hg.axis' j).emb i) := fun j i => by
    unfold gatherPayload; rw [Shape.Gathers.idx_rowRect_emb]
  have hjoin : bigSep Finset.univ (fun j => (dst.view.loc c ↦[(dst.view.slice (s.rowRect hg.axis' j)).set]{fullShare}
        ((dst.view.slice (s.rowRect hg.axis' j)).write (Elt F) fd
          (fun i => src.view.read (Elt F) fs (hg.rowIdx (rows (offs.view.read (Elt F) fo) hn hin j) i)) Finset.univ)))
      ⊢ (dst.view.loc c ↦[dst.view.set]{fullShare}
        (dst.view.write (Elt F) fd (gatherPayload hg (src.view.read (Elt F) fs) (rows (offs.view.read (Elt F) fo) hn hin)) Finset.univ) : sProp 𝕄) :=
    pointsTo_rows_write c dst.view hg.axis' fd _ _ hW
  unfold gatherRowOut
  iintro HD
  ihave H1 := Transfers.bigSep_sep_out _ _ _ $$ HD
  icases H1 with ⟨H2, Hsrc⟩
  ihave H3 := Transfers.bigSep_sep_out _ _ _ $$ H2
  icases H3 with ⟨Hrows, Hoffs⟩
  isplitl [Hrows]
  · iapply hjoin $$ Hrows
  isplitl [Hsrc]
  · iapply (Entails.of_eq (pointsTo_piecesOf (src.view.set) fs ho q).symm) $$ Hsrc
  iapply (Entails.of_eq (pointsTo_entries c offs.view _ hen qo fo).symm) $$ Hoffs

/-- A gather started as the NEXT `o` transfers of a batch of single rows (`j` of them issued before): holding a share of
    the source, the destination outright, a share of the offset list whose words are all in range, and the batch, the
    tile goes on holding the batch with `o` more issued, provided each row's delivery is what the batch promises there. -/
theorem wp_gatherBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    {n : ℕ} {D : Fin n → sProp 𝕄} {j u : ℕ} (ι : Ix) (N : ℕ)
    (hN : ∀ r, (dst.slice (s.rowRect hg.axis' r) (s.stride_rowRect hg.axis' r)).view.dmaCredit = N)
    (ho : 0 < s.size hg.axis') (hin : ∀ x, (offs.view.read (Elt F) fo x).toNat < s₀.size hg.axis)
    (hj : j + s.size hg.axis' ≤ n) (hu : u ≤ j * N)
    (hD : ∀ r : Fin (s.size hg.axis'), gatherRowOut c src dst hg offs hn ho q qo fs fd fo hin r ⊢ D ⟨j + r.val, by omega⟩) :
    iprop((src.view.loc c ↦[src.view.set]{q} fs) ∗ (dst.view.loc c ↦[dst.view.set]{fullShare} fd)
        ∗ (offs.view.loc c ↦[offs.view.set]{qo} fo) ∗ Batch EC c (.dma sem) ι N D j u)
      ⊢ iprop((Batch EC c (.dma sem) ι N D (j + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let rw' : Fin (s.size hg.axis') → Fin (s₀.size hg.axis) := rows (offs.view.read (Elt F) fo) hn hin
  let rd : Fin (s.size hg.axis') → RowDma τ sig (Elt F) c.2 sem := fun r => gatherRow c src dst hg sem hsrc he hsp hr r (rw' r)
  have hA : S.RowsAgree := by
    intro r x x' ρ ρ' h h'
    obtain ⟨_, _, rfl⟩ := Option.map_eq_some_iff.mp h
    obtain ⟨_, _, rfl⟩ := Option.map_eq_some_iff.mp h'
    rfl
  have hrd : ∀ r, S.row r (S.word fo r) = some (rd r) := fun r => by
    change (rowOf (s₀.size hg.axis) (offs.view.read (Elt F) fo (S.entry r))).map _ = _
    rw [rowOf_of_lt (hin _)]; rfl
  have hen : Function.Bijective S.entry := si.rowMajor.symm.bijective.comp (finCongr hn.symm).bijective
  have hsum : ∑ r, (rd r).dst.view.dmaCredit = s.size hg.axis' * N := by
    rw [Finset.sum_congr rfl fun r _ => hN r]; simp
  unfold Batch
  iintro ⟨Hs, Hd, Ho, ⟨%γ, %γ₀, %κ, #Hinv, HI, H0, Hcred⟩⟩ Hk
  ihave HI' := (Entails.of_eq (pending_take j (s.size hg.axis') hj (fun t => count EC (γ t) 0))) $$ HI
  icases HI' with ⟨Hγ, HI⟩
  ihave Hd' := (Entails.of_eq (pointsTo_rows c dst.view hg.axis' fullShare fd)) $$ Hd
  ihave Ho' := (Entails.of_eq (pointsTo_entries c offs.view S.entry hen qo fo)) $$ Ho
  ihave Hs' := (Entails.of_eq (pointsTo_piecesOf (src.view.set) fs ho q)) $$ Hs
  iapply (wp_enqueueIndirectDma 𝒱 c bd Set.univ (qo := qo) (fo := fo) (rd := rd) ι (s.size hg.axis' * N) hA hrd hsum) $$ [Hd' Ho' Hs' Hγ]
  · have hrow : ∀ r, iprop(inv κ (batchBody EC (c, SemLoc.dma sem) N D γ γ₀)
          ∗ ((((dst.view.loc c ↦[(dst.view.slice (s.rowRect hg.axis' r)).set]{fullShare} fd) ∗ S.heldEntry qo fo r)
          ∗ (src.view.loc c ↦[src.view.set]{pieceOf q _ ho r} fs)) ∗ count EC (γ ⟨j + r.val, by omega⟩) 0))
        ⊢ iprop(S.heldEntry qo fo r ∗ (S.heldEntry qo fo r -∗ rowRes c (rd r))) := fun r => by
      iintro ⟨#Hinv, ⟨⟨Hr, He⟩, Hsq⟩, Hγr⟩
      isplitl [He]; · iexact He
      iintro He
      unfold rowRes
      iexists pieceOf q _ ho r, fs, iprop((dst.view.loc c ↦[(dst.view.slice (s.rowRect hg.axis' r)).set]{fullShare}
        ((dst.view.slice (s.rowRect hg.axis' r)).write (Elt F) fd (fun i => src.view.read (Elt F) fs (hg.rowIdx (rw' r) i)) Finset.univ)) ∗ S.heldEntry qo fo r)
      isplitl [Hsq]; · iexact Hsq
      isplitl [Hr He]
      · iapply writeUpdate_frame
        isplitl [Hr]
        · iapply (pointsTo_writeUpdate c (v := dst.view.slice (s.rowRect hg.axis' r)) subset_rfl) $$ Hr
        · iexact He
      · rw [show (rd r).dst.view.amount (.dma sem) = N from hN r]
        iapply (batch_creditUpdate EC (D := D) (γ₀ := γ₀) ⟨j + r.val, by omega⟩ (hD r))
        isplitr; · iexact Hinv
        iexact Hγr
    unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun r _ => hrow r)
    isplitr; · iexact Hinv
    iexact H3
  · iintro Hcred'
    iapply Hk
    iexists γ, γ₀, κ
    isplitr; · iexact Hinv
    isplitl [HI]; · iexact HI
    isplitl [H0]; · iexact H0
    rw [show (j + s.size hg.axis') * N - u = (j * N - u) + s.size hg.axis' * N by rw [Nat.add_mul]; omega, ← tallyAt_add]
    icombine Hcred Hcred' as H
    iexact H

end Cert.Proof.GatherBatch

end
-- ==== Proof.Base.lean ====
/-
  The SparseCore call of `KernelIdeal` as the launch theorem sees it, and the words, rows and values its tasks are proved
  to move.

  The node list has 100 000 places; the call cuts it into 250 chunks of 400 and deals the chunks to the 32 tasks in turn:
  task `wid = 16 · core + subcore` handles the chunks `wid, wid + 32, wid + 64, …` below 250. The first operand holds 32
  copies of a 512-row table one under the other; task `wid` reads copy `wid`, that is rows `512 · wid + c` for the codes `c`
  of its nodes. What the call leaves at place `n` of the result is therefore row `c n + 512 · ((n / 400) mod 32)` of the
  first operand (`outVal`).
-/
module

public import proofs.«01_k».proof.Defs
public import proofs.«01_k».proof.Proof.GatherBatch
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Writes
public import Idealize.ShloMosaic.Lib.Batch
public import Idealize.ShloMosaic.Lib.ValueIdxCore
public import Idealize.ShloMosaic.Lib.Tactic
public import proofs.«01_k».proof.Proof.Gen.KernelIdeal

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open Idealize.SL.BI.BIBase Idealize.SL.BI.Laws Idealize.SL.ProofMode Idealize.SL.Sem
open Idealize.ShloMosaic.Rounds

variable {F : FTy → Type}

/-! ## The call's configuration and ghost state -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

/-- The model every statement about the call is made in. -/
abbrev MM (F : FTy → Type) : Type _ := MT nD τ sig (HIx 1) (Elt F) ℕ UU ℕ

abbrev EH : Emb UH (MT nD τ sig (HIx 1) (Elt F) ℕ UU ℕ) := embL

/-! ## Operands of the call -/

abbrev tLoc (d : Dev nD) : Loc nD τ sig := (SparseCore.T d).loc main_v58
abbrev cLoc (d : Dev nD) : Loc nD τ sig := (SparseCore.T d).loc main_v67
abbrev oLoc (d : Dev nD) : Loc nD τ sig := (SparseCore.T d).loc main_v68

/-- The three operands as a task addresses them: the table, the codes, the result. -/
abbrev tabV : Memref sig .scVector .hbm S16384x128 .f32 := Memref.whole main_v58_scv
abbrev codV : Memref sig .scVector .hbm S100000 .i32 := Memref.whole main_v67_scv
abbrev outV : Memref sig .scVector .hbm S100000x128 .f32 := Memref.whole main_v68_scv

section Coords

abbrev cV (L : grid0.Coords) : Fin τ.nSC := (L 0).castLE hcore0
abbrev jV (L : grid0.Coords) : Fin τ.nSub := (L 1).castLE hsub0

/-- The task's number: 16 times its core plus its subcore. -/
def wid (L : grid0.Coords) : ℕ := 16 * (L 0).val + (L 1).val

theorem wid_lt (L : grid0.Coords) : wid L < 32 := by
  have h0 : (L 0).val < 2 := (L 0).isLt
  have h1 : (L 1).val < 16 := (L 1).isLt
  unfold wid; omega

end Coords

/-! ## The values moved -/

/-- Place `n` of the node list. -/
abbrev pl (n : Fin 100000) : S100000.Idx := ValueIdx.ix1 n

/-- The word task `w` looks up for the node at place `n`. -/
def rowWord (fc : S100000.Idx → BitVec 32) (w : ℕ) (n : Fin 100000) : BitVec 32 :=
  fc (pl n) + BitVec.ofNat 32 (512 * w)

theorem rowWord_toNat {fc : S100000.Idx → BitVec 32} (hfc : ∀ x, (fc x).toNat < 512) {w : ℕ} (hw : w < 32) (n : Fin 100000) :
    (rowWord fc w n).toNat = (fc (pl n)).toNat + 512 * w := by
  have := hfc (pl n)
  unfold rowWord
  rw [BitVec.toNat_add, BitVec.toNat_ofNat]
  omega

/-- What a row of the result at place `n` is when task `w` looks it up. -/
def rowVal (ft : S16384x128.Idx → Elt F .f32) (fc : S100000.Idx → BitVec 32) (w : ℕ) (n : Fin 100000) (j : Fin 128) : Elt F .f32 :=
  ft (ValueIdx.ix2 ⟨(rowWord fc w n).toNat % 16384, Nat.mod_lt _ (by norm_num)⟩ j)

/-- What the call leaves in its result. -/
def outVal (ft : S16384x128.Idx → Elt F .f32) (fc : S100000.Idx → BitVec 32) (y : S100000x128.Idx) : Elt F .f32 :=
  rowVal ft fc ((y 0).val / 400 % 32) (y 0) (y 1)

/-- A place of chunk `ch`, from its place within the chunk. -/
def place (ch : ℕ) (hch : ch < 250) (x : ℕ) (hx : x < 400) : Fin 100000 := ⟨400 * ch + x, by omega⟩

end Cert.Proof

end
-- ==== Proof.Lists.lean ====
/-
  The list of looked-up words, written sixteen at a time.

  A task turns the 400 codes it fetched into 400 row numbers: 25 groups of sixteen, each loaded from the fetched codes,
  raised by the task's offset and stored to the list, whose five rows of 80 words hold five groups each. The program writes
  the 25 groups out one after another; `groups` is that text at a symbolic group, and `wp_groups` its run by induction.
-/
module

public import proofs.«01_k».proof.Proof.Base
public import Idealize.ShloMosaic.Lib.Pipeline.Value

@[expose] public section

noncomputable section

namespace Cert.Proof

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- The programs of a task at coordinates `L`. -/
abbrev TileProg (F : FTy → Type) (L : grid0.Coords) (α : Type) : Type 1 :=
  Prog (TpuEff nD τ sig (Elt F) Λ₀ (.scVector (cV L) (jV L))) α

theorem inb_codes (g : ℕ) (hg : g < 25) : ∀ a, (![16 * g] : Fin 1 → Nat) a + S16.size a ≤ S416.size a := by
  intro a; match a with | 0 => show 16 * g + 16 ≤ 416; omega

theorem inb_list (g : ℕ) (hg : g < 25) : ∀ a, (![g / 5, 16 * (g % 5)] : Fin 2 → Nat) a + S1x16.size a ≤ S5x80.size a := by
  intro a
  match a with
  | 0 => show g / 5 + 1 ≤ 5; omega
  | 1 => show 16 * (g % 5) + 16 ≤ 80; omega

/-- Where group `g` is read among the codes, and where it is stored in the list. -/
abbrev codesRect (g : ℕ) (hg : g < 25) : Rect S416 := Rect.unit (s := S416) ![16 * g] S16.size (inb_codes g hg)
abbrev listRect (g : ℕ) (hg : g < 25) : Rect S5x80 := Rect.unit (s := S5x80) ![g / 5, 16 * (g % 5)] S1x16.size (inb_list g hg)

variable [FloatOps F]

section

variable {L : grid0.Coords} {α : Type}

/-- One group: load sixteen codes, load (and drop) the list's sixteen places, store the raised codes there. -/
def group (mI : Memref sig .scVector .vmem S416 .i32) (mL : Memref sig .scVector .vmem S5x80 .i32) (v2 : BitVec 32) (g : ℕ) (hg : g < 25)
    (k : TileProg F L α) : TileProg F L α :=
  .op (.load mI (codesRect g hg).toLoadRect (View.loadsAt_vmem h_S16)) fun v =>
  .op (.load mL (listRect g hg).toLoadRect (View.loadsAt_vmem h_S1x16)) fun _ =>
  .op (.store mL (listRect g hg) (shapeCast S1x16 (addi v (broadcast S16 v2)) shapeCasts_S16_S1x16) Finset.univ
    (View.stores_vmem_bits_univ h_S1x16 rfl) (.inl rfl)) fun _ => k

/-- The last `n` groups. -/
def groups (mI : Memref sig .scVector .vmem S416 .i32) (mL : Memref sig .scVector .vmem S5x80 .i32) (v2 : BitVec 32)
    (k : TileProg F L α) : (n : ℕ) → n ≤ 25 → TileProg F L α
  | 0, _ => k
  | n + 1, h => group mI mL v2 (24 - n) (by omega) (groups mI mL v2 k n (by omega))

end

/-- Place `x` of the list, flat. -/
def flat (x : S5x80.Idx) : ℕ := 80 * (x 0).val + (x 1).val

theorem flat_lt (x : S5x80.Idx) : flat x < 400 := by
  have h0 : (x 0).val < 5 := (x 0).isLt
  have h1 : (x 1).val < 80 := (x 1).isLt
  unfold flat; omega

/-- The fetched codes: the first 400 words of the fetch buffer are `w`'s. -/
def Fetched (mI : Memref sig .scVector .vmem S416 .i32) (w : ℕ → BitVec 32) (f : mI.view.ty.Contents (Elt F)) : Prop :=
  ∀ x : S416.Idx, (x 0).val < 400 → (mI.view.read (Elt F) f x : BitVec 32) = w (x 0).val

/-- The list as far as it is written: its first `n` words are `w`'s raised by `v2`. -/
def Listed (mL : Memref sig .scVector .vmem S5x80 .i32) (w : ℕ → BitVec 32) (v2 : BitVec 32) (n : ℕ) (f : mL.view.ty.Contents (Elt F)) : Prop :=
  ∀ x : S5x80.Idx, flat x < n → (mL.view.read (Elt F) f x : BitVec 32) = w (flat x) + v2

/-- One more group stored. -/
theorem Listed.step {mI : Memref sig .scVector .vmem S416 .i32} {mL : Memref sig .scVector .vmem S5x80 .i32} {w : ℕ → BitVec 32} {v2 : BitVec 32}
    {g : ℕ} (hg : g < 25) {fI : mI.view.ty.Contents (Elt F)} {f : mL.view.ty.Contents (Elt F)} (hI : Fetched mI w fI) (hL : Listed mL w v2 (16 * g) f) :
    Listed mL w v2 (16 * (g + 1)) ((mL.access (listRect g hg)).write (Elt F) f
      (shapeCast S1x16 (addi (mI.view.readAt (Elt F) (codesRect g hg).toLoadRect fI) (broadcast S16 v2)) shapeCasts_S16_S1x16) Finset.univ) := by
  intro x hx
  have h0 : (x 0).val < 5 := (x 0).isLt
  have h1 : (x 1).val < 80 := (x 1).isLt
  by_cases hlt : flat x < 16 * g
  · refine Eq.trans ?_ (hL x hlt)
    have hm := View.read_writes_cons_miss (Val := Elt F) mL.view f ⟨listRect g hg, shapeCast S1x16 (addi (mI.view.readAt (Elt F) (codesRect g hg).toLoadRect fI) (broadcast S16 v2)) shapeCasts_S16_S1x16⟩ [] x ?_
    · exact hm
    · by_cases hr : (x 0).val = g / 5
      · refine (listRect g hg).not_mem_set_of_axis x 1 (16 * (g % 5)) 16 rfl rfl rfl (.inl ?_)
        unfold flat at hlt; omega
      · refine (listRect g hg).not_mem_set_of_axis x 0 (g / 5) 1 rfl rfl rfl ?_
        omega
  · have hr0 : (x 0).val = g / 5 := by unfold flat at hx hlt; omega
    have hr1 : 16 * (g % 5) ≤ (x 1).val ∧ (x 1).val < 16 * (g % 5) + 16 := by unfold flat at hx hlt; omega
    have hh := View.read_writes_cons_hit_of_coords (Val := Elt F) mL.view f (listRect g hg) (shapeCast S1x16 (addi (mI.view.readAt (Elt F) (codesRect g hg).toLoadRect fI) (broadcast S16 v2)) shapeCasts_S16_S1x16) []
      (ix2 (0 : Fin 1) (⟨(x 1).val - 16 * (g % 5), by omega⟩ : Fin 16)) x ?_
    · refine Eq.trans hh ?_
      have key : ∀ z : (codesRect g hg).toLoadRect.shape.Idx, (z 0).val = (x 1).val - 16 * (g % 5) →
          (mI.view.read (Elt F) fI ((codesRect g hg).toLoadRect.idx z) : BitVec 32) = w (flat x) := fun z hz => by
        have hi : (((codesRect g hg).toLoadRect.idx z) 0).val = flat x := by
          show 16 * g + 1 * (z 0).val = _
          unfold flat; omega
        rw [hI _ (hi ▸ flat_lt x), hi]
      rw [shapeCast_addUnit_apply]
      exact congrArg (· + v2) (key _ rfl)
    · intro a
      match a with
      | 0 => show (x 0).val = g / 5 + 1 * 0; omega
      | 1 => show (x 1).val = 16 * (g % 5) + 1 * ((x 1).val - 16 * (g % 5)); omega

section Run

variable (d : Dev nD) (L : grid0.Coords) {α : Type}

/-- One group's run. -/
theorem wp_group {Q' : α → sProp 𝕄} {mI : Memref sig .scVector .vmem S416 .i32} {mL : Memref sig .scVector .vmem S5x80 .i32} {w : ℕ → BitVec 32} {v2 : BitVec 32}
    {g : ℕ} (hg : g < 25) {fI : Buf (Elt F) (mI.view.loc (V d (cV L) (jV L)))} (hI : Fetched mI w fI) {k : TileProg F L α} :
    iprop((mI.view.loc (V d (cV L) (jV L)) ↦[mI.view.set]{fullShare} fI)
        ∗ ∃ f, ⌜Listed mL w v2 (16 * g) f⌝ ∗ (mL.view.loc (V d (cV L) (jV L)) ↦[mL.view.set]{fullShare} f))
      ⊢ iprop((iprop((mI.view.loc (V d (cV L) (jV L)) ↦[mI.view.set]{fullShare} fI)
            ∗ ∃ f, ⌜Listed mL w v2 (16 * (g + 1)) f⌝ ∗ (mL.view.loc (V d (cV L) (jV L)) ↦[mL.view.set]{fullShare} f))
          -∗ wp frame (wpE (defs₀ (F := F)) 𝒱₀ (V d (cV L) (jV L)) none) Set.univ k Q')
        -∗ wp frame (wpE (defs₀ (F := F)) 𝒱₀ (V d (cV L) (jV L)) none) Set.univ (group mI mL v2 g hg k) Q') := by
  unfold group
  iintro ⟨HI, %f, %hf, HL⟩ Hk
  iapply (wp_load 𝒱₀ (V d (cV L) (jV L)) none Set.univ (m := mI) (r := (codesRect g hg).toLoadRect) (S := mI.view.set) (q := fullShare) (f := fI)
    (mI.view.setOn_subset_set _)) $$ HI
  iintro HI
  iapply (wp_load 𝒱₀ (V d (cV L) (jV L)) none Set.univ (m := mL) (r := (listRect g hg).toLoadRect) (S := mL.view.set) (q := fullShare) (f := f)
    (mL.view.setOn_subset_set _)) $$ HL
  iintro HL
  iapply (wp_store 𝒱₀ (V d (cV L) (jV L)) none Set.univ (m := mL) (r := listRect g hg) (S := mL.view.set) (f := f)
    (Memref.setOn_access_subset mL _ _)) $$ HL
  iintro HL
  iapply Hk
  isplitl [HI]; · iexact HI
  iexists _
  isplitr
  · ipureintro; exact Listed.step hg hI hf
  · iexact HL

/-- All the groups still to do, in turn. -/
theorem wp_groups {Q' : α → sProp 𝕄} {mI : Memref sig .scVector .vmem S416 .i32} {mL : Memref sig .scVector .vmem S5x80 .i32} {w : ℕ → BitVec 32} {v2 : BitVec 32}
    {fI : Buf (Elt F) (mI.view.loc (V d (cV L) (jV L)))} (hI : Fetched mI w fI) {k : TileProg F L α} : ∀ (n : ℕ) (hn : n ≤ 25),
    iprop((mI.view.loc (V d (cV L) (jV L)) ↦[mI.view.set]{fullShare} fI)
        ∗ ∃ f, ⌜Listed mL w v2 (16 * (25 - n)) f⌝ ∗ (mL.view.loc (V d (cV L) (jV L)) ↦[mL.view.set]{fullShare} f))
      ⊢ iprop((iprop((mI.view.loc (V d (cV L) (jV L)) ↦[mI.view.set]{fullShare} fI)
            ∗ ∃ f, ⌜Listed mL w v2 400 f⌝ ∗ (mL.view.loc (V d (cV L) (jV L)) ↦[mL.view.set]{fullShare} f))
          -∗ wp frame (wpE (defs₀ (F := F)) 𝒱₀ (V d (cV L) (jV L)) none) Set.univ k Q')
        -∗ wp frame (wpE (defs₀ (F := F)) 𝒱₀ (V d (cV L) (jV L)) none) Set.univ (groups mI mL v2 k n hn) Q')
  | 0, _ => by
    iintro H Hk
    iapply Hk
    iexact H
  | n + 1, hn => by
    rw [show 25 - (n + 1) = 24 - n by omega]
    iintro H Hk
    iapply (wp_group d L (g := 24 - n) (by omega) hI) $$ H
    rw [show 24 - n + 1 = 25 - n by omega]
    iintro H
    iapply (wp_groups hI n (Nat.le_of_succ_le hn)) $$ H
    iexact Hk

end Run

end Cert.Proof

end
-- ==== Proof.Half.lean ====
/-
  The task's loop body as two halves of one text.

  A trip of the loop handles two chunks, each with buffers and semaphores of its own: the printed body is one text of four
  guarded steps written out twice. Here the four steps are written once, over whichever buffers and semaphores, and the
  printed body is shown to be them, twice.
-/
module

public import proofs.«01_k».proof.Proof.Lists
public import proofs.«01_k».proof.Proof.Gen.KernelIdeal.Skeleton

@[expose] public section

noncomputable section

namespace Cert.Proof

open Cert.KernelIdeal Cert.KernelIdeal.Gen

open Idealize.ShloMosaic Idealize.ShloMosaic.ValueIdx
open Idealize.SL.Sem
open Idealize.ShloMosaic.SparseCore (S V T)

variable {F : FTy → Type}

theorem inb_block (b : ℕ) (hb : b < 5) : ∀ a, (![80 * b, 0] : Fin 2 → Nat) a + S80x128.size a ≤ S400x128.size a := by
  intro a
  match a with
  | 0 => show 80 * b + 80 ≤ 400; omega
  | 1 => show 0 + 128 ≤ 128; omega

theorem inb_row (b : ℕ) (hb : b < 5) : ∀ a, (![b, 0] : Fin 2 → Nat) a + S1x80.size a ≤ S5x80.size a := by
  intro a
  match a with
  | 0 => show b + 1 ≤ 5; omega
  | 1 => show 0 + 80 ≤ 80; omega

/-- The table as the gathers name it. -/
abbrev tabW : Memref sig .scVector .hbm S16384x128 .f32 :=
  tabV.slice (Rect.unit (s := S16384x128) ![0, 0] S16384x128.size inb_S16384x128_S16384x128_0_0) (fun _ => rfl)

/-- The first 400 words of a fetch buffer. -/
abbrev head (mI : Memref sig .scVector .vmem S416 .i32) : Memref sig .scVector .vmem S400 .i32 :=
  mI.slice (Rect.unit (s := S416) ![0] S400.size inb_S416_S400_0) (fun _ => rfl)

/-- Block `b` of 80 rows of a row buffer. -/
abbrev blk (mR : Memref sig .scVector .vmem S400x128 .f32) (b : ℕ) (hb : b < 5) : Memref sig .scVector .vmem S80x128 .f32 :=
  mR.slice (Rect.unit (s := S400x128) ![80 * b, 0] S80x128.size (inb_block b hb)) (fun _ => rfl)

/-- Row `b` of a list. -/
abbrev lst (mL : Memref sig .scVector .vmem S5x80 .i32) (b : ℕ) (hb : b < 5) : Memref sig .scVector .vmem S80 .i32 :=
  (mL.slice (Rect.unit (s := S5x80) ![b, 0] S1x80.size (inb_row b hb)) (fun _ => rfl)).squeeze S80 squeezes_S1x80_S80

variable [FloatOps F]

section

variable {L : grid0.Coords} {α : Type}

/-- The last `n` of the five gathers. -/
def enqs (mL : Memref sig .scVector .vmem S5x80 .i32) (mR : Memref sig .scVector .vmem S400x128 .f32) (semG : DmaSem sig) (k : TileProg F L α) :
    (n : ℕ) → n ≤ 5 → TileProg F L α
  | 0, _ => k
  | n + 1, h => SparseCore.enqueueIndirectGather rfl tabW (blk mR (4 - n) (by omega)) gathers_S16384x128_S80x128 (lst mL (4 - n) (by omega)) rfl semG
      (View.wordExact_bits rfl) rfl (Or.inl rfl) >>= fun _ => enqs mL mR semG k n (by omega)

/-- The last `n` of the five waits for them. -/
def waits (mR : Memref sig .scVector .vmem S400x128 .f32) (semG : DmaSem sig) (k : TileProg F L α) :
    (n : ℕ) → n ≤ 5 → TileProg F L α
  | 0, _ => k
  | n + 1, h => SparseCore.waitIndirectGather semG tabW (blk mR (4 - n) (by omega)) (View.wordExact_bits rfl) (View.wordExact_bits rfl) >>= fun _ =>
      waits mR semG k n (by omega)

/-- First step: wait for the chunk's codes and write the list. -/
def listStep (mI : Memref sig .scVector .vmem S416 .i32) (mL : Memref sig .scVector .vmem S5x80 .i32) (semI : DmaSem sig) (v2 : BitVec 32)
    (b : BitVec 1) (r : b = 1#1 → Memref sig .scVector .hbm S400 .i32) : TileProg F L PUnit :=
  if h : b = 1#1 then
    .op (.waitDma2 semI (r h) (head mI) (View.wordExact_bits rfl) (View.wordExact_bits rfl)) fun _ => groups mI mL v2 (pure ⟨⟩) 25 le_rfl
  else pure ⟨⟩

/-- Second step: start fetching the codes of the chunk after. -/
def nextStep (mI : Memref sig .scVector .vmem S416 .i32) (semI : DmaSem sig)
    (b : BitVec 1) (r : b = 1#1 → Memref sig .scVector .hbm S400 .i32) : TileProg F L PUnit :=
  if h : b = 1#1 then
    .op (.enqueueDma (r h) (.here (head mI)) (.dma semI) (View.wordExact_bits rfl) (View.wordExact_bits rfl) ⟨Or.inl rfl, trivial⟩) fun _ => pure ⟨⟩
  else pure ⟨⟩

/-- Third step: wait until the rows of the chunk before have left the row buffer. -/
def freeStep (mR : Memref sig .scVector .vmem S400x128 .f32) (hR : mR.IsWhole) (semO : DmaSem sig)
    (b : BitVec 1) (r : b = 1#1 → Memref sig .scVector .hbm S400x128 .f32) : TileProg F L PUnit :=
  if h : b = 1#1 then
    .op (.waitDma2 semO mR (r h) hR.wordExact (View.wordExact_bits rfl)) fun _ => pure ⟨⟩
  else pure ⟨⟩

/-- Fourth step: gather the chunk's rows and start sending them to the result. -/
def rowStep (mL : Memref sig .scVector .vmem S5x80 .i32) (mR : Memref sig .scVector .vmem S400x128 .f32) (hR : mR.IsWhole) (semG semO : DmaSem sig)
    (b : BitVec 1) (r : b = 1#1 → Memref sig .scVector .hbm S400x128 .f32) : TileProg F L PUnit :=
  if h : b = 1#1 then
    enqs mL mR semG (waits mR semG
      (.op (.enqueueDma mR (.here (r h)) (.dma semO) hR.wordExact (View.wordExact_bits rfl) ⟨Or.inl rfl, trivial⟩) fun _ => pure ⟨⟩) 5 le_rfl) 5 le_rfl
  else pure ⟨⟩

end

/-! ## The printed body -/

section Printed

variable (L : grid0.Coords)

abbrev mI0 : Memref sig .scVector .vmem S416 .i32 := Memref.whole cc0_scratch0
abbrev mI1 : Memref sig .scVector .vmem S416 .i32 := Memref.whole cc0_scratch1
abbrev mL0 : Memref sig .scVector .vmem S5x80 .i32 := Memref.whole cc0_scratch2
abbrev mL1 : Memref sig .scVector .vmem S5x80 .i32 := Memref.whole cc0_scratch3
abbrev mR0 : Memref sig .scVector .vmem S400x128 .f32 := Memref.whole cc0_scratch4
abbrev mR1 : Memref sig .scVector .vmem S400x128 .f32 := Memref.whole cc0_scratch5

/-- The task's number as the program computes it, and its offset into the table. -/
abbrev widW : BitVec 32 := Scalar.addi (Scalar.muli (BitVec.ofNat 32 (L 0).val) 16#32) (BitVec.ofNat 32 (L 1).val)
abbrev offW : BitVec 32 := Scalar.muli (widW L) 512#32

/-- A stretch of 400 codes, and of 400 rows of the result. -/
abbrev codAt (o : Fin 1 → ℕ) (h : ∀ a, o a + S400.size a ≤ S100000.size a) : Memref sig .scVector .hbm S400 .i32 :=
  codV.slice (Rect.unit (s := S100000) o S400.size h) (fun _ => rfl)
abbrev outAt (o : Fin 2 → ℕ) (h : ∀ a, o a + S400x128.size a ≤ S100000x128.size a) : Memref sig .scVector .hbm S400x128 .f32 :=
  outV.slice (Rect.unit (s := S100000x128) o S400x128.size h) (fun _ => rfl)

/-- One trip of the loop, as the four steps twice. -/
def trip (t : Fin k0_t1_loop.trips) : TileProg F L PUnit := do
  listStep mI0 mL0 cc0_scratch6.sem (offW L) (k0_cond1 L t) fun h => codAt (k0_off2 L t) (k0_off2_inb L t h)
  nextStep mI0 cc0_scratch6.sem (k0_cond2 L t) fun h => codAt (k0_off3 L t) (k0_off3_inb L t h)
  freeStep mR0 (Memref.isWhole_whole _) cc0_scratch10.sem (k0_cond3 L t) fun h => outAt (k0_off4 L t) (k0_off4_inb L t h)
  rowStep mL0 mR0 (Memref.isWhole_whole _) cc0_scratch8.sem cc0_scratch10.sem (k0_cond4 L t) fun h => outAt (k0_off5 L t) (k0_off5_inb L t h)
  listStep mI1 mL1 cc0_scratch7.sem (offW L) (k0_cond5 L t) fun h => codAt (k0_off6 L t) (k0_off6_inb L t h)
  nextStep mI1 cc0_scratch7.sem (k0_cond6 L t) fun h => codAt (k0_off7 L t) (k0_off7_inb L t h)
  freeStep mR1 (Memref.isWhole_whole _) cc0_scratch11.sem (k0_cond7 L t) fun h => outAt (k0_off8 L t) (k0_off8_inb L t h)
  rowStep mL1 mR1 (Memref.isWhole_whole _) cc0_scratch9.sem cc0_scratch11.sem (k0_cond8 L t) fun h => outAt (k0_off9 L t) (k0_off9_inb L t h)

/-- The whole of a task. -/
def taskText : TileProg F L PUnit := do
  Prog.lift (.enqueueDma (codAt (k0_off1 L 0#32) (k0_off1_inb L 0)) (.here (head mI0)) (.dma cc0_scratch6.sem) (View.wordExact_bits rfl) (View.wordExact_bits rfl) ⟨Or.inl rfl, trivial⟩)
  Prog.lift (.enqueueDma (codAt (k0_off1 L 32#32) (k0_off1_inb L 1)) (.here (head mI1)) (.dma cc0_scratch7.sem) (View.wordExact_bits rfl) (View.wordExact_bits rfl) ⟨Or.inl rfl, trivial⟩)
  Scf.Loop.for k0_t1_loop k0_t1_ok ⟨⟩ fun t _ => trip L t
  Prog.lift (.waitDma2 cc0_scratch10.sem mR0 (outAt ![0, 0] inb_S100000x128_S400x128_0_0) (Memref.isWhole_whole _).wordExact (View.wordExact_bits rfl))
  Prog.lift (.waitDma2 cc0_scratch11.sem mR1 (outAt ![0, 0] inb_S100000x128_S400x128_0_0) (Memref.isWhole_whole _).wordExact (View.wordExact_bits rfl))
  pure ⟨⟩

/-- The number of a trip's second chunk among the task's chunks, as the program computes it. -/
abbrev tripW (t : Fin k0_t1_loop.trips) : BitVec 32 := Scalar.addi (Scalar.muli 2#32 (Scf.iv 0#32 1#32 t)) 1#32

/-- Texts agree after a common beginning if they agree from there on. -/
theorem rest_eq {L : grid0.Coords} {α β : Type} {x : TileProg F L α} {k k' : α → TileProg F L β} (hk : ∀ a, k a = k' a) : x >>= k = x >>= k' := by
  rw [funext hk]

/-- A guarded step in front of the rest of a text, as the printed text has it (the rest at the end of either branch) and as
    a step by itself. -/
theorem guard_eq {L : grid0.Coords} {β : Type} {p : Prop} [Decidable p] {A : p → TileProg F L β} {A' : p → TileProg F L PUnit} {J k : PUnit → TileProg F L β}
    (hJ : J = k) (hA : ∀ h, A h = A' h >>= J) :
    (if h : p then A h else J ⟨⟩) = (if h : p then A' h else pure ⟨⟩) >>= k := by
  subst hJ
  by_cases h : p
  · rw [dif_pos h, dif_pos h]; exact hA h
  · rw [dif_neg h, dif_neg h]; rfl

set_option maxRecDepth 65536 in
theorem half_texts_eq (t : Fin k0_t1_loop.trips) :
    k0_part13 (F := F) L tabV (Memref.isWhole_whole _) codV (Memref.isWhole_whole _) outV (Memref.isWhole_whole _) mI0 (Memref.isWhole_whole _) mI1 (Memref.isWhole_whole _)
      mL0 (Memref.isWhole_whole _) mL1 (Memref.isWhole_whole _) mR0 (Memref.isWhole_whole _) mR1 (Memref.isWhole_whole _)
      cc0_scratch6 cc0_scratch7 cc0_scratch8 cc0_scratch9 cc0_scratch10 cc0_scratch11 (widW L) (offW L) 0#32 1#32 t
    = (do
      listStep mI0 mL0 cc0_scratch6.sem (offW L) (k0_cond1 L t) fun h => codAt (k0_off2 L t) (k0_off2_inb L t h)
      nextStep mI0 cc0_scratch6.sem (k0_cond2 L t) fun h => codAt (k0_off3 L t) (k0_off3_inb L t h)
      freeStep mR0 (Memref.isWhole_whole _) cc0_scratch10.sem (k0_cond3 L t) fun h => outAt (k0_off4 L t) (k0_off4_inb L t h)
      rowStep mL0 mR0 (Memref.isWhole_whole _) cc0_scratch8.sem cc0_scratch10.sem (k0_cond4 L t) fun h => outAt (k0_off5 L t) (k0_off5_inb L t h)
      listStep mI1 mL1 cc0_scratch7.sem (offW L) (k0_cond5 L t) fun h => codAt (k0_off6 L t) (k0_off6_inb L t h)
      nextStep mI1 cc0_scratch7.sem (k0_cond6 L t) fun h => codAt (k0_off7 L t) (k0_off7_inb L t h)
      pure ⟨tripW t, Scalar.cmpi .slt (Scalar.addi (widW L) (Scalar.muli 32#32 (tripW t))) 250#32, Scalar.cmpi .sge (tripW t) 2#32⟩) := by
  rw [k0_part13_eq_skeleton]
  unfold k0_part13_skel listStep nextStep freeStep rowStep
  extract_lets
  rename_i K6 w1 K5 K4 K3 K2 w0 K1
  refine guard_eq (J := K1) (funext fun _ => guard_eq (J := K2) (funext fun _ => guard_eq (J := K3) (funext fun _ => guard_eq (J := K4)
    (funext fun _ => guard_eq (J := K5) (funext fun _ => guard_eq (J := K6) rfl fun h => rfl) fun h => ?_)
    fun h => ?_) fun h => rfl) fun h => rfl) fun h => ?_
  · rw [k0_part7_eq_skeleton, k0_part8_eq_skeleton, k0_part9_eq_skeleton, k0_part10_eq_skeleton]
    simp only [groups, group]
    rfl
  · rw [k0_part5_eq_skeleton, k0_part6_eq_skeleton]
    simp only [enqs, waits]
    rfl
  · rw [k0_part1_eq_skeleton, k0_part2_eq_skeleton, k0_part3_eq_skeleton, k0_part4_eq_skeleton]
    simp only [groups, group]
    rfl

set_option maxRecDepth 65536 in
/-- The printed trip is the four steps twice. -/
theorem trip_eq (t : Fin k0_t1_loop.trips) :
    k0_t1_body (F := F) L tabV (Memref.isWhole_whole _) codV (Memref.isWhole_whole _) outV (Memref.isWhole_whole _) mI0 (Memref.isWhole_whole _) mI1 (Memref.isWhole_whole _)
      mL0 (Memref.isWhole_whole _) mL1 (Memref.isWhole_whole _) mR0 (Memref.isWhole_whole _) mR1 (Memref.isWhole_whole _)
      cc0_scratch6 cc0_scratch7 cc0_scratch8 cc0_scratch9 cc0_scratch10 cc0_scratch11 (widW L) (offW L) t ⟨⟩ = trip L t := by
  unfold k0_t1_body trip
  rw [half_texts_eq]
  simp -zeta -zetaUnused only [bind_assoc, pure_bind]
  refine rest_eq fun _ => rest_eq fun _ => rest_eq fun _ => rest_eq fun _ => rest_eq fun _ => rest_eq fun _ => ?_
  rw [← bind_pure (rowStep _ _ _ _ _ _ _)]
  unfold freeStep rowStep
  extract_lets
  rename_i K2 K1
  refine guard_eq (J := K1) (funext fun _ => guard_eq (J := K2) rfl fun h => ?_) fun h => rfl
  rw [k0_part11_eq_skeleton, k0_part12_eq_skeleton]
  simp only [enqs, waits]
  rfl

/-- The printed task is the text above. -/
theorem body_eq : cc0_body (F := F) L tabV (Memref.isWhole_whole _) codV (Memref.isWhole_whole _) outV (Memref.isWhole_whole _) mI0 (Memref.isWhole_whole _) mI1 (Memref.isWhole_whole _)
      mL0 (Memref.isWhole_whole _) mL1 (Memref.isWhole_whole _) mR0 (Memref.isWhole_whole _) mR1 (Memref.isWhole_whole _)
      cc0_scratch6 cc0_scratch7 cc0_scratch8 cc0_scratch9 cc0_scratch10 cc0_scratch11 = taskText L := by
  rw [cc0_body_eq_skeleton]
  unfold cc0_body_skel taskText
  refine rest_eq fun _ => rest_eq fun _ => ?_
  rw [← funext fun t => funext fun _ => trip_eq L t]

end Printed

end Cert.Proof

end
-- ==== Proof.Gathers.lean ====
/-
  The five gathers of a chunk.

  With the list written, the task starts five gathers on one semaphore, 80 rows each, and waits five times. The 400 rows are
  one batch: each gather takes the next 80 issue rights, the first four waits give nothing back, and the fifth gives back
  every row, which together are the row buffer holding, row by row, the table's rows that the list names.
-/
module

public import proofs.«01_k».proof.Proof.Half

@[expose] public section

noncomputable section

namespace Cert.Proof

open Cert.KernelIdeal Cert.KernelIdeal.Gen

open Idealize.ShloMosaic Idealize.ShloMosaic.ValueIdx Idealize.ShloMosaic.Transfers
open Idealize.ShloMosaic.SparseCore (S V T)
open Idealize.ShloMosaic.SparseCore.Cfg (HIx)
open Idealize.SL Idealize.SL.RA
open Idealize.SL.BI (sProp Storable bigSep bigSep_map bigSep_congr bigSep_mono)
open scoped Idealize.SL.BI
open Idealize.SL.BI.BIBase Idealize.SL.BI.Laws Idealize.SL.ProofMode Idealize.SL.Sem
open Cert.Proof.GatherBatch

variable {F : FTy → Type}

local notation "𝕄" => MT nD τ sig (HIx 1) (Elt F) ℕ UU ℕ

/-! ## Pieces of a buffer -/

/-- A view's elements are those of the pieces its indices are divided into. -/
theorem biUnion_pieces {κ : Kind} {sp : Space} {s : Shape} {e : EltTy} (v : View sig κ sp s e) {I : Type} [Fintype I] (r : I → Rect s)
    (hcov : ∀ x : s.Idx, ∃ t, x ∈ (r t).set) : (Finset.univ.biUnion fun t => (v.slice (r t)).set) = v.set := by
  classical
  ext i
  simp only [View.set, Finset.mem_map, Finset.mem_univ, true_and, Finset.mem_biUnion]
  constructor
  · rintro ⟨t, z, hz⟩
    exact ⟨(r t).emb z, hz⟩
  · rintro ⟨x, rfl⟩
    obtain ⟨t, ht⟩ := hcov x
    rw [← Rect.map_emb_univ] at ht
    obtain ⟨z, -, hz⟩ := Finset.mem_map.mp ht
    exact ⟨t, z, by rw [← hz]; rfl⟩

/-- Ownership through a view is ownership of the pieces its indices are divided into. -/
theorem pointsTo_pieces {sp : Space} {s : Shape} {e : EltTy} {c : Thread nD τ} (v : View sig c.2.kind sp s e) {I : Type} [Fintype I] (r : I → Rect s)
    (hcov : ∀ x : s.Idx, ∃ t, x ∈ (r t).set) (hdis : ∀ t t', t ≠ t' → Disjoint (r t).set (r t').set) (q : PosShare TreeShare) (f : Buf (Elt F) (v.loc c)) :
    (v.loc c ↦[v.set]{q} f : sProp 𝕄) = bigSep Finset.univ fun t => v.loc c ↦[(v.slice (r t)).set]{q} f := by
  classical
  rw [← biUnion_pieces v r hcov]
  refine pointsTo_biUnion _ _ fun t _ t' _ hne => ?_
  rw [View.set_slice, View.set_slice]
  exact (Finset.disjoint_map _).mpr (hdis t t' hne)

/-- The rectangles of the five blocks of a row buffer and of the five rows of a list. -/
abbrev blkRect (b : Fin 5) : Rect S400x128 := Rect.unit (s := S400x128) ![80 * b.val, 0] S80x128.size (inb_block b b.isLt)
abbrev lstRect (b : Fin 5) : Rect S5x80 := Rect.unit (s := S5x80) ![b.val, 0] S1x80.size (inb_row b b.isLt)

theorem blkRect_cov (x : S400x128.Idx) : ∃ b, x ∈ (blkRect b).set := by
  have h0 : (x 0).val < 400 := (x 0).isLt
  have h1 : (x 1).val < 128 := (x 1).isLt
  refine ⟨⟨(x 0).val / 80, by omega⟩, ?_⟩
  rw [Rect.mem_set_unit]
  intro a
  match a with
  | 0 => show 80 * ((x 0).val / 80) ≤ (x 0).val ∧ (x 0).val < 80 * ((x 0).val / 80) + 80; omega
  | 1 => show 0 ≤ (x 1).val ∧ (x 1).val < 0 + 128; omega

theorem blkRect_dis (b b' : Fin 5) (h : b ≠ b') : Disjoint (blkRect b).set (blkRect b').set := by
  refine Finset.disjoint_left.mpr fun x hx hx' => h (Fin.ext ?_)
  have h1 := Rect.mem_set_unit.mp hx 0
  have h2 := Rect.mem_set_unit.mp hx' 0
  change 80 * b.val ≤ (x 0).val ∧ (x 0).val < 80 * b.val + 80 at h1
  change 80 * b'.val ≤ (x 0).val ∧ (x 0).val < 80 * b'.val + 80 at h2
  omega

theorem lstRect_cov (x : S5x80.Idx) : ∃ b, x ∈ (lstRect b).set := by
  have h0 : (x 0).val < 5 := (x 0).isLt
  have h1 : (x 1).val < 80 := (x 1).isLt
  refine ⟨⟨(x 0).val, by omega⟩, ?_⟩
  rw [Rect.mem_set_unit]
  intro a
  match a with
  | 0 => show (x 0).val ≤ (x 0).val ∧ (x 0).val < (x 0).val + 1; omega
  | 1 => show 0 ≤ (x 1).val ∧ (x 1).val < 0 + 80; omega

theorem lstRect_dis (b b' : Fin 5) (h : b ≠ b') : Disjoint (lstRect b).set (lstRect b').set := by
  refine Finset.disjoint_left.mpr fun x hx hx' => h (Fin.ext ?_)
  have h1 := Rect.mem_set_unit.mp hx 0
  have h2 := Rect.mem_set_unit.mp hx' 0
  change b.val ≤ (x 0).val ∧ (x 0).val < b.val + 1 at h1
  change b'.val ≤ (x 0).val ∧ (x 0).val < b'.val + 1 at h2
  omega

/-! ## What the waits a thread has made are recorded as -/

/-- The thread owes what it owed, and whatever it has waited for since is recorded at the kernel's own index. -/
def Waiting (thr : Thread nD τ) (O : CellTallies nD τ sig (HIx 1)) (W : Waits sig (HIx 1)) : sProp 𝕄 :=
  iprop(∃ W', ⌜∀ p ∈ W', p ∈ W ∨ p.2 = none⌝ ∗ owes thr O W')

theorem Waiting.elim (thr : Thread nD τ) (O : CellTallies nD τ sig (HIx 1)) (W : Waits sig (HIx 1)) :
    (Waiting thr O W : sProp 𝕄) ⊢ iprop(∃ W', ⌜∀ p ∈ W', p ∈ W ∨ p.2 = none⌝ ∗ owes thr O W') := by
  unfold Waiting
  exact .rfl

theorem Waiting.intro {thr : Thread nD τ} {O : CellTallies nD τ sig (HIx 1)} {W W' : Waits sig (HIx 1)} (h : ∀ p ∈ W', p ∈ W ∨ p.2 = none) (sm : SemLoc sig) :
    (owes thr O (insert (sm, (default : HIx 1)) W') : sProp 𝕄) ⊢ Waiting thr O W := by
  unfold Waiting
  iintro H
  iexists (insert (sm, (default : HIx 1)) W')
  isplitr
  · ipureintro
    intro p hp
    by_cases he : p ∈ W'
    · exact h p he
    · exact .inr (by rw [(Finset.mem_insert.mp hp).resolve_right he]; rfl)
  · iexact H

/-! ## The batch of 400 rows -/

abbrev hG := gathers_S16384x128_S80x128

theorem rows_pos : 0 < S80x128.size hG.axis' := by show 0 < 80; norm_num

section

variable (d : Dev nD) (L : grid0.Coords) (mL : Memref sig .scVector .vmem S5x80 .i32) (mR : Memref sig .scVector .vmem S400x128 .f32)
variable (q : PosShare TreeShare) (fT : Buf (Elt F) (tabV.view.loc (V d (cV L) (jV L)))) (fR : Buf (Elt F) (mR.view.loc (V d (cV L) (jV L))))
variable (fL : Buf (Elt F) (mL.view.loc (V d (cV L) (jV L))))

/-- Every word of the list names a row of the table. -/
def InRange : Prop := ∀ (b : Fin 5) (x : S80.Idx), ((lst mL b b.isLt).view.read (Elt F) fL x : BitVec 32).toNat < S16384x128.size hG.axis

variable {mL fL} (hin : InRange d L mL fL)

/-- What gather `b` is given: a fifth of the table's share, its block and its row of the list. -/
def given (b : Fin 5) : sProp 𝕄 :=
  iprop((tabW.view.loc (V d (cV L) (jV L)) ↦[tabW.view.set]{pieceOf q 5 (by norm_num) b} fT)
    ∗ ((blk mR b b.isLt).view.loc (V d (cV L) (jV L)) ↦[(blk mR b b.isLt).view.set]{fullShare} fR)
    ∗ ((lst mL b b.isLt).view.loc (V d (cV L) (jV L)) ↦[(lst mL b b.isLt).view.set]{fullShare} fL))

/-- What its row `r` gives back. -/
def rowBack (b : Fin 5) (r : Fin 80) : sProp 𝕄 :=
  gatherRowOut (V d (cV L) (jV L)) tabW (blk mR b b.isLt) hG (lst mL b b.isLt) rfl rows_pos (pieceOf q 5 (by norm_num) b) fullShare fT fR fL (hin b) r

/-- What the batch's unit `t` gives back: row `t % 80` of gather `t / 80`. -/
def unitBack (t : Fin 400) : sProp 𝕄 := rowBack d L mR q fT fR hin ⟨t.val / 80, by omega⟩ ⟨t.val % 80, by omega⟩

instance unitBack_storable (t : Fin 400) : Storable (upEmb : UEmb _ 𝕄) (unitBack d L mR q fT fR hin t) := by
  unfold unitBack rowBack
  exact gatherRowOut_storable _ _ _ _ _ _ _ _ _ _ _ _ _ _

theorem unitBack_eq (b : Fin 5) (r : Fin 80) (h : 80 * b.val + r.val < 400) :
    unitBack d L mR q fT fR hin ⟨80 * b.val + r.val, h⟩ = rowBack d L mR q fT fR hin b r := by
  have h1 : (⟨(80 * b.val + r.val) / 80, by omega⟩ : Fin 5) = b := Fin.ext (by show (80 * b.val + r.val) / 80 = b.val; omega)
  have h2 : (⟨(80 * b.val + r.val) % 80, by omega⟩ : Fin 80) = r := Fin.ext (by show (80 * b.val + r.val) % 80 = r.val; omega)
  show rowBack d L mR q fT fR hin ⟨(80 * b.val + r.val) / 80, by omega⟩ ⟨(80 * b.val + r.val) % 80, by omega⟩ = _
  rw [h1, h2]

/-- What a row of gather `b` gives back is what the batch promises of its unit. -/
theorem row_unit (b : Fin 5) (r : Fin (S80x128.size hG.axis')) (h : 80 * b.val + r.val < 400) :
    gatherRowOut (V d (cV L) (jV L)) tabW (blk mR b b.isLt) hG (lst mL b b.isLt) rfl rows_pos (pieceOf q 5 (by norm_num) b) fullShare fT fR fL (hin b) r
      ⊢ unitBack d L mR q fT fR hin ⟨80 * b.val + r.val, h⟩ :=
  Entails.of_eq (unitBack_eq d L mR q fT fR hin b r h).symm

variable [FloatOps F] {α : Type}

/-- One row's credit. -/
abbrev rowCredit : ℕ := mR.view.ref.dmaCredit (S80x128.rowShape hG.axis') .f32

/-- The next gather started. -/
theorem wp_enq {Q' : α → sProp 𝕄} {semG : DmaSem sig} (b : Fin 5) {k : TileProg F L α} :
    iprop(given d L mR q fT fR (fL := fL) b
        ∗ Batch countersEmb (V d (cV L) (jV L)) (.dma semG) (default : HIx 1) (rowCredit mR) (unitBack d L mR q fT fR hin) (80 * b.val) 0)
      ⊢ iprop((Batch countersEmb (V d (cV L) (jV L)) (.dma semG) (default : HIx 1) (rowCredit mR) (unitBack d L mR q fT fR hin) (80 * b.val + 80) 0
          -∗ wp frame (wpE (defs₀ (F := F)) 𝒱₀ (V d (cV L) (jV L)) none) Set.univ k Q')
        -∗ wp frame (wpE (defs₀ (F := F)) 𝒱₀ (V d (cV L) (jV L)) none) Set.univ
            (SparseCore.enqueueIndirectGather rfl tabW (blk mR b b.isLt) gathers_S16384x128_S80x128 (lst mL b b.isLt) rfl semG
              (View.wordExact_bits rfl) rfl (Or.inl rfl) >>= fun _ => k) Q') := by
  have hb : 80 * b.val + 80 ≤ 400 := by omega
  have hstep := wp_gatherBatch (defs := defs₀ (F := F)) (Q := Q') countersEmb 𝒱₀ (V d (cV L) (jV L)) none (src := tabW) (dst := blk mR b b.isLt) (hg := hG)
      (offs := lst mL b b.isLt) (hn := rfl) (sem := semG) (hp := rfl) (hsrc := View.wordExact_bits rfl) (he := rfl) (hsp := Or.inl rfl) (hr := by decide)
      (k := fun _ => k) (q := pieceOf q 5 (by norm_num) b) (qo := fullShare) (fs := fT) (fd := fR) (fo := fL)
      (n := 400) (D := unitBack d L mR q fT fR hin) (j := 80 * b.val) (u := 0) (default : HIx 1) (rowCredit mR) (fun _ => rfl) rows_pos (hin b)
      hb (Nat.zero_le _)
      (fun r => row_unit d L mR q fT fR hin b r _)
  unfold given
  iintro ⟨⟨HT, HR, HL⟩, HB⟩ Hk
  iapply hstep $$ [HT HR HL HB]
  · isplitl [HT]; · iexact HT
    isplitl [HR]; · iexact HR
    isplitl [HL]; · iexact HL
    iexact HB
  iexact Hk

/-- Starting the gathers still to start. -/
theorem wp_enqs {Q' : α → sProp 𝕄} {semG : DmaSem sig} {k : TileProg F L α} : ∀ (n : ℕ) (hn : n ≤ 5),
    iprop(bigSep (pending (5 - n)) (given d L mR q fT fR (fL := fL))
        ∗ Batch countersEmb (V d (cV L) (jV L)) (.dma semG) (default : HIx 1) (rowCredit mR) (unitBack d L mR q fT fR hin) (80 * (5 - n)) 0)
      ⊢ iprop((Batch countersEmb (V d (cV L) (jV L)) (.dma semG) (default : HIx 1) (rowCredit mR) (unitBack d L mR q fT fR hin) 400 0
          -∗ wp frame (wpE (defs₀ (F := F)) 𝒱₀ (V d (cV L) (jV L)) none) Set.univ k Q')
        -∗ wp frame (wpE (defs₀ (F := F)) 𝒱₀ (V d (cV L) (jV L)) none) Set.univ (enqs mL mR semG k n hn) Q')
  | 0, _ => by
    iintro ⟨-, HB⟩ Hk
    iapply Hk $$ HB
  | n + 1, hn => by
    rw [show 5 - (n + 1) = 4 - n by omega, bigSep_pending_step _ (4 - n) (by omega)]
    unfold enqs
    iintro ⟨⟨HG, Hrest⟩, HB⟩ Hk
    iapply (wp_enq d L mR q fT fR hin ⟨4 - n, by omega⟩) $$ [HG HB]
    · isplitl [HG]; · iexact HG
      iexact HB
    iintro HB
    iapply (wp_enqs n (Nat.le_of_succ_le hn)) $$ [Hrest HB]
    · rw [show 5 - n = 4 - n + 1 by omega]
      isplitl [Hrest]; · iexact Hrest
      iexact HB
    iexact Hk

/-- Waiting for the gathers: nothing comes back before the last wait, and then everything does. -/
theorem wp_waits {Q' : α → sProp 𝕄} {semG : DmaSem sig} {k : TileProg F L α} (hC : mR.view.ref.dmaCredit S80x128 .f32 = 80 * rowCredit mR)
    {O : CellTallies nD τ sig (HIx 1)} {W : Waits sig (HIx 1)} : ∀ (n : ℕ) (hn : n + 1 ≤ 5),
    iprop(Batch countersEmb (V d (cV L) (jV L)) (.dma semG) (default : HIx 1) (rowCredit mR) (unitBack d L mR q fT fR hin) 400 ((4 - n) * (80 * rowCredit mR))
        ∗ Waiting (V d (cV L) (jV L)) O W ∗ MayWaits (V d (cV L) (jV L)) (default : HIx 1) O)
      ⊢ iprop((iprop(bigSep Finset.univ (unitBack d L mR q fT fR hin) ∗ semVal ((V d (cV L) (jV L)), .dma semG) 0 ∗ Waiting (V d (cV L) (jV L)) O W)
          -∗ wp frame (wpE (defs₀ (F := F)) 𝒱₀ (V d (cV L) (jV L)) none) Set.univ k Q')
        -∗ wp frame (wpE (defs₀ (F := F)) 𝒱₀ (V d (cV L) (jV L)) none) Set.univ (waits mR semG k (n + 1) hn) Q')
  | 0, _ => by
    have hN0 : 0 < rowCredit mR := View.dmaCredit_pos ((blk mR 0 (by norm_num)).slice (S80x128.rowRect hG.axis' ⟨0, rows_pos⟩) (S80x128.stride_rowRect _ _)).view (by decide)
    have hu : (4 - 0) * (80 * rowCredit mR) + 80 * rowCredit mR = rowCredit mR * 400 := by ring
    have hstep (W' : Waits sig (HIx 1)) := wp_waitBatchAllO (defs := defs₀ (F := F)) (Q := Q') countersEmb 𝒱₀ (V d (cV L) (jV L)) none (sem := semG) (srcw := tabW) (dstw := blk mR (4 - 0) (by norm_num))
      (hsrc := View.wordExact_bits rfl) (hdst := View.wordExact_bits rfl) (k := fun _ => k) (default : HIx 1) hC hN0 (D := unitBack d L mR q fT fR hin) hu (O := O) (W := W')
    unfold Waiting
    iintro ⟨HB, ⟨%W', %hW, HO⟩, #Hmw⟩ Hk
    iapply (hstep W') $$ [HB HO]
    · isplitl [HB]; · iexact HB
      isplitl [HO]; · iexact HO
      iapply (MayWaits.elim (SemLoc.dma semG)) $$ Hmw
    iintro ⟨HD, HS, HO⟩
    iapply Hk
    isplitl [HD]; · iexact HD
    isplitl [HS]; · iexact HS
    have hi := Waiting.intro (F := F) (thr := V d (cV L) (jV L)) (O := O) hW (.dma semG)
    unfold Waiting at hi
    iapply hi $$ HO
  | n + 1, hn => by
    have hu : (4 - (n + 1)) * (80 * rowCredit mR) + 80 * rowCredit mR ≤ rowCredit mR * 400 := by
      rw [← Nat.succ_mul, show rowCredit mR * 400 = 5 * (80 * rowCredit mR) by ring]
      exact Nat.mul_le_mul_right _ (by omega)
    have hstep (W' : Waits sig (HIx 1)) := wp_waitBatchMulO (defs := defs₀ (F := F)) (Q := Q') countersEmb 𝒱₀ (V d (cV L) (jV L)) none (sem := semG) (srcw := tabW)
      (dstw := blk mR (4 - (n + 1)) (Nat.lt_of_le_of_lt (Nat.sub_le _ _) (by norm_num)))
      (hsrc := View.wordExact_bits rfl) (hdst := View.wordExact_bits rfl) (k := fun _ => waits mR semG k (n + 1) (Nat.le_of_succ_le hn)) (default : HIx 1) 80 hC
      (D := unitBack d L mR q fT fR hin) hu (O := O) (W := W')
    unfold Waiting
    iintro ⟨HB, ⟨%W', %hW, HO⟩, #Hmw⟩ Hk
    iapply (hstep W') $$ [HB HO]
    · isplitl [HB]; · iexact HB
      isplitl [HO]; · iexact HO
      iapply (MayWaits.elim (SemLoc.dma semG)) $$ Hmw
    iintro ⟨HB, HO⟩
    have hn' : (4 - (n + 1)) * (80 * rowCredit mR) + 80 * rowCredit mR = (4 - n) * (80 * rowCredit mR) := by
      rw [← Nat.succ_mul]; congr 1; omega
    rw [hn']
    iapply (wp_waits hC n (Nat.le_of_succ_le hn)) $$ [HB HO]
    · isplitl [HB]; · iexact HB
      isplitl [HO]; · iapply (Waiting.intro hW (.dma semG)) $$ HO
      iexact Hmw
    unfold Waiting
    iexact Hk

/-! ## Every row back -/

/-- The row buffer holds, row by row, the table's rows that `w` names. -/
def Rowed (w : ℕ → BitVec 32) (f : Buf (Elt F) (mR.view.loc (V d (cV L) (jV L)))) : Prop :=
  ∀ y : S400x128.Idx, mR.view.read (Elt F) f y = fT (ix2 ⟨(w (y 0).val).toNat % 16384, Nat.mod_lt _ (by norm_num)⟩ (y 1))

omit [FloatOps F] in
theorem read_tabW (x : S16384x128.Idx) : tabW.view.read (Elt F) fT x = fT x := by
  refine (View.read_apply _ _).trans ((cast_eq _ _).trans (congrArg fT (funext fun a => Fin.ext ?_)))
  match a with
  | 0 => show 0 + 1 * (x 0).val = _; omega
  | 1 => show 0 + 1 * (x 1).val = _; omega

omit [FloatOps F] in
theorem read_lst (b : Fin 5) (x : S80.Idx) : (lst mL b b.isLt).view.read (Elt F) fL x = mL.view.read (Elt F) fL (ix2 b (x 0)) := by
  have hx : (Rect.unit (s := S5x80) ![b.val, 0] S1x80.size (inb_row b b.isLt)).emb (Shape.reshapeEquiv squeezes_S1x80_S80.numel_eq x) = ix2 b (x 0) := by
    rw [Shape.reshapeEquiv_cons_one (d := ![80]) squeezes_S1x80_S80.numel_eq x]
    funext a
    refine Fin.ext ?_
    match a with
    | 0 => show b.val + 1 * 0 = b.val; omega
    | 1 => show 0 + 1 * (x 0).val = (x 0).val; omega
  exact congrArg (mL.view.read (Elt F) fL) hx

omit [FloatOps F] in
/-- A list written in full is in range when its words are. -/
theorem InRange.of_listed {w : ℕ → BitVec 32} {v2 : BitVec 32} (h : Listed mL w v2 400 fL) (hw : ∀ n < 400, (w n + v2).toNat < 16384) : InRange d L mL fL := by
  intro b x
  have hx : (x 0).val < 80 := (x 0).isLt
  rw [read_lst d L, h _ (by unfold flat; show 80 * b.val + (x 0).val < 400; omega)]
  exact hw _ (by unfold flat; show 80 * b.val + (x 0).val < 400; omega)

/-- What block `b` holds when its gather has landed. -/
def blkBack (b : Fin 5) : Buf (Elt F) (mR.view.loc (V d (cV L) (jV L))) :=
  (blk mR b b.isLt).view.write (Elt F) fR (SparseCore.gatherPayload hG (tabW.view.read (Elt F) fT) (SparseCore.rows ((lst mL b b.isLt).view.read (Elt F) fL) rfl (hin b))) Finset.univ

omit [FloatOps F] in
/-- The rows gather `b` reads are those its row of the list names. -/
theorem rows_lst {w : ℕ → BitVec 32} {v2 : BitVec 32} (h : Listed mL w v2 400 fL) (b : Fin 5) (k : Fin (S80x128.size hG.axis')) :
    (SparseCore.rows ((lst mL b b.isLt).view.read (Elt F) fL) rfl (hin b) k).val = (w (80 * b.val + k.val) + v2).toNat := by
  have hk : k.val < 80 := k.isLt
  have hx : (S80.rowMajor.symm (k.cast rfl) 0).val = k.val := by
    rw [← Shape.rowMajor_val_one, Equiv.apply_symm_apply]; rfl
  have hf : flat (ix2 (n0 := 5) (n1 := 80) b (S80.rowMajor.symm (k.cast rfl) 0)) = 80 * b.val + k.val := by
    unfold flat
    show 80 * b.val + (S80.rowMajor.symm (k.cast rfl) 0).val = _
    rw [hx]
  refine (congrArg BitVec.toNat (read_lst d L b (S80.rowMajor.symm (k.cast rfl)))).trans ?_
  refine (congrArg BitVec.toNat (h _ (hf ▸ by omega))).trans ?_
  exact congrArg (fun m => (w m + v2).toNat) hf

omit [FloatOps F] in
theorem Rowed.of_blocks {w : ℕ → BitVec 32} {v2 : BitVec 32} (h : Listed mL w v2 400 fL) {g : Buf (Elt F) (mR.view.loc (V d (cV L) (jV L)))}
    (hg : ∀ b : Fin 5, ∀ i ∈ (blk mR b b.isLt).view.set, g i = blkBack d L mR fT fR hin b i) : Rowed d L mR fT (fun n => w n + v2) g := by
  intro y
  obtain ⟨b, hb⟩ := blkRect_cov y
  rw [← Rect.map_emb_univ] at hb
  obtain ⟨z, -, rfl⟩ := Finset.mem_map.mp hb
  have hz : (z 0).val < 80 := (z 0).isLt
  refine (show _ = (blk mR b b.isLt).view.read (Elt F) g z from rfl).trans ?_
  rw [View.read_congr (v := (blk mR b b.isLt).view) (hg b)]
  unfold blkBack
  rw [View.read_write_univ]
  refine (read_tabW d L fT _).trans (congrArg fT ?_)
  have hrow : (SparseCore.rows ((lst mL b b.isLt).view.read (Elt F) fL) rfl (hin b) (z 0)).val = (w (80 * b.val + (z 0).val) + v2).toNat := rows_lst d L hin h b (z 0)
  have hlt : (w (80 * b.val + (z 0).val) + v2).toNat < 16384 := hrow ▸ (SparseCore.rows ((lst mL b b.isLt).view.read (Elt F) fL) rfl (hin b) (z 0)).isLt
  have h0 : ((blkRect b).emb z 0).val = 80 * b.val + (z 0).val := by show 80 * b.val + 1 * (z 0).val = _; omega
  funext a
  refine Fin.ext ?_
  match a with
  | 0 =>
    show (hG.idx (SparseCore.rows ((lst mL b b.isLt).view.read (Elt F) fL) rfl (hin b)) z 0).val = (w ((blkRect b).emb z 0).val + v2).toNat % 16384
    rw [h0, Nat.mod_eq_of_lt hlt, ← hrow]
    exact congrArg Fin.val (Shape.Gathers.idx_axis hG _ z)
  | 1 =>
    show (hG.idx (SparseCore.rows ((lst mL b b.isLt).view.read (Elt F) fL) rfl (hin b)) z 1).val = 0 + 1 * (z 1).val
    refine (Shape.Gathers.idx_of_ne hG _ z (1 : Fin 2) (by decide)).trans ?_
    show (z 1).val = _
    omega

omit [FloatOps F] in
/-- The list is its five rows, the row buffer its five blocks. -/
theorem lst_pieces : (mL.view.loc (V d (cV L) (jV L)) ↦[mL.view.set]{fullShare} fL : sProp 𝕄)
    = bigSep Finset.univ fun b : Fin 5 => (lst mL b b.isLt).view.loc (V d (cV L) (jV L)) ↦[(lst mL b b.isLt).view.set]{fullShare} fL := by
  refine (pointsTo_pieces (c := V d (cV L) (jV L)) mL.view lstRect lstRect_cov lstRect_dis fullShare fL).trans (bigSep_congr fun b _ => ?_)
  have hs : (lst mL b b.isLt).view.set = (mL.view.slice (lstRect b)).set := View.set_reshape _ _
  rw [hs]

omit [FloatOps F] in
theorem blk_pieces : (mR.view.loc (V d (cV L) (jV L)) ↦[mR.view.set]{fullShare} fR : sProp 𝕄)
    = bigSep Finset.univ fun b : Fin 5 => (blk mR b b.isLt).view.loc (V d (cV L) (jV L)) ↦[(blk mR b b.isLt).view.set]{fullShare} fR :=
  pointsTo_pieces (c := V d (cV L) (jV L)) mR.view blkRect blkRect_cov blkRect_dis fullShare fR

omit [FloatOps F] in
theorem given_pieces : bigSep Finset.univ (given d L mR q fT fR (fL := fL))
    = (iprop((tabW.view.loc (V d (cV L) (jV L)) ↦[tabW.view.set]{q} fT) ∗ (mR.view.loc (V d (cV L) (jV L)) ↦[mR.view.set]{fullShare} fR)
        ∗ (mL.view.loc (V d (cV L) (jV L)) ↦[mL.view.set]{fullShare} fL)) : sProp 𝕄) := by
  unfold given
  rw [BI.bigSep_sep', BI.bigSep_sep', ← lst_pieces d L, ← blk_pieces d L mR fR, ← pointsTo_piecesOf]

omit [FloatOps F] in
/-- The batch given back is the table's share, the list, and the row buffer holding the rows the list names. -/
theorem batch_back {w : ℕ → BitVec 32} {v2 : BitVec 32} (h : Listed mL w v2 400 fL) :
    bigSep Finset.univ (unitBack d L mR q fT fR hin)
      ⊢ (iprop((tabW.view.loc (V d (cV L) (jV L)) ↦[tabW.view.set]{q} fT) ∗ (mL.view.loc (V d (cV L) (jV L)) ↦[mL.view.set]{fullShare} fL)
          ∗ ∃ g, ⌜Rowed d L mR fT (fun n => w n + v2) g⌝ ∗ (mR.view.loc (V d (cV L) (jV L)) ↦[mR.view.set]{fullShare} g)) : sProp 𝕄) := by
  let e : Fin 5 × Fin 80 ≃ Fin 400 := finProdFinEquiv
  rw [BI.bigSep_univ_equiv e, BI.bigSep_univ_prod]
  have hrow : ∀ b : Fin 5, bigSep Finset.univ (fun r : Fin 80 => unitBack d L mR q fT fR hin (e (b, r)))
      ⊢ (iprop(((blk mR b b.isLt).view.loc (V d (cV L) (jV L)) ↦[(blk mR b b.isLt).view.set]{fullShare} blkBack d L mR fT fR hin b)
        ∗ (tabW.view.loc (V d (cV L) (jV L)) ↦[tabW.view.set]{pieceOf q 5 (by norm_num) b} fT)
        ∗ ((lst mL b b.isLt).view.loc (V d (cV L) (jV L)) ↦[(lst mL b b.isLt).view.set]{fullShare} fL)) : sProp 𝕄) := fun b => by
    have hu : (fun r : Fin 80 => unitBack d L mR q fT fR hin (e (b, r))) = rowBack d L mR q fT fR hin b := by
      funext r
      rw [← unitBack_eq d L mR q fT fR hin b r (by omega)]
      congr 1
      exact Fin.ext (by show r.val + 80 * b.val = 80 * b.val + r.val; omega)
    rw [hu]
    exact gatherRow_join (V d (cV L) (jV L)) tabW (blk mR b b.isLt) hG (lst mL b b.isLt) rfl rows_pos (pieceOf q 5 (by norm_num) b) fullShare fT fR fL (hin b)
  have hjoin := pointsTo_biUnion_join (q := fullShare) (ℓ := mR.view.loc (V d (cV L) (jV L))) (Val := Elt F) (Ix := HIx 1) (Name := ℕ) (U := UU) (Lvl := ℕ) Finset.univ
    (fun b : Fin 5 => (blk mR b b.isLt).view.set) (blkBack d L mR fT fR hin) fR
    (fun t _ t' _ hne => by
      rw [View.set_slice, View.set_slice]
      exact (Finset.disjoint_map _).mpr (blkRect_dis t t' hne))
  have hset : Finset.univ.biUnion (fun b : Fin 5 => (blk mR b b.isLt).view.set) = mR.view.set := biUnion_pieces mR.view blkRect blkRect_cov
  rw [hset] at hjoin
  refine (bigSep_mono fun b _ => hrow b).trans ?_
  refine (Entails.of_eq (BI.bigSep_sep' _ _ _)).trans ?_
  rw [BI.bigSep_sep', ← lst_pieces d L, ← pointsTo_piecesOf]
  refine (sep_mono hjoin .rfl).trans ?_
  iintro ⟨⟨%g, %hg, HR⟩, HT, HL⟩
  isplitl [HT]; · iexact HT
  isplitl [HL]; · iexact HL
  iexists g
  isplitr
  · ipureintro
    exact Rowed.of_blocks d L mR fT fR hin h fun b i hi => hg b (Finset.mem_univ b) i hi
  · iexact HR

/-- The chunk's gathers: from a written list whose words name rows of the table, to the row buffer holding those rows. -/
theorem wp_gathers {Q' : α → sProp 𝕄} {semG : DmaSem sig} {k : TileProg F L α} (hC : mR.view.ref.dmaCredit S80x128 .f32 = 80 * rowCredit mR)
    {O : CellTallies nD τ sig (HIx 1)} {W : Waits sig (HIx 1)} {w : ℕ → BitVec 32} {v2 : BitVec 32} (h : Listed mL w v2 400 fL)
    (hw : ∀ n < 400, (w n + v2).toNat < 16384) :
    iprop((tabW.view.loc (V d (cV L) (jV L)) ↦[tabW.view.set]{q} fT) ∗ (mR.view.loc (V d (cV L) (jV L)) ↦[mR.view.set]{fullShare} fR)
        ∗ (mL.view.loc (V d (cV L) (jV L)) ↦[mL.view.set]{fullShare} fL) ∗ semVal ((V d (cV L) (jV L)), .dma semG) 0
        ∗ Waiting (V d (cV L) (jV L)) O W ∗ MayWaits (V d (cV L) (jV L)) (default : HIx 1) O)
      ⊢ iprop((iprop((tabW.view.loc (V d (cV L) (jV L)) ↦[tabW.view.set]{q} fT)
            ∗ (∃ g, ⌜Rowed d L mR fT (fun n => w n + v2) g⌝ ∗ (mR.view.loc (V d (cV L) (jV L)) ↦[mR.view.set]{fullShare} g))
            ∗ (mL.view.loc (V d (cV L) (jV L)) ↦[mL.view.set]{fullShare} fL) ∗ semVal ((V d (cV L) (jV L)), .dma semG) 0
            ∗ Waiting (V d (cV L) (jV L)) O W)
          -∗ wp frame (wpE (defs₀ (F := F)) 𝒱₀ (V d (cV L) (jV L)) none) Set.univ k Q')
        -∗ wp frame (wpE (defs₀ (F := F)) 𝒱₀ (V d (cV L) (jV L)) none) Set.univ (enqs mL mR semG (waits mR semG k 5 le_rfl) 5 le_rfl) Q') := by
  have hin : InRange d L mL fL := InRange.of_listed d L h hw
  have hgive := given_pieces d L mR q fT fR (fL := fL)
  rw [bigSep_pending_zero] at hgive
  iintro ⟨HT, HR, HL, HS, HW, #Hmw⟩ Hk
  imod (batch_alloc' countersEmb (V d (cV L) (jV L)) (default : HIx 1) (rowCredit mR) (unitBack d L mR q fT fR hin)) $$ HS with HB
  iapply (wp_enqs d L mR q fT fR hin 5 le_rfl) $$ [HT HR HL HB]
  · isplitl [HT HR HL]
    · iapply (Entails.of_eq hgive.symm)
      isplitl [HT]; · iexact HT
      isplitl [HR]; · iexact HR
      iexact HL
    iexact HB
  iintro HB
  iapply (wp_waits d L mR q fT fR hin hC 4 le_rfl) $$ [HB HW]
  · isplitl [HB]; · iexact HB
    isplitl [HW]; · iexact HW
    iexact Hmw
  iintro ⟨HD, HS, HW⟩
  ihave H := (batch_back d L mR q fT fR hin h) $$ HD
  icases H with ⟨HT, HL, HR⟩
  iapply Hk
  isplitl [HT]; · iexact HT
  isplitl [HR]; · iexact HR
  isplitl [HL]; · iexact HL
  isplitl [HS]; · iexact HS
  iexact HW

end

end Cert.Proof

end
-- ==== Proof.Steps.lean ====
/-
  The four steps of a chunk, run.

  Task `wid` handles chunks `ch`: 400 codes and 400 rows of the result, from place `400 · ch` on. What a task holds of the
  result is described by sets of places: those of one chunk, those of its chunks already sent, those of its chunks to come.
-/
module

public import proofs.«01_k».proof.Proof.Gathers

@[expose] public section

noncomputable section

namespace Cert.Proof

open Cert.KernelIdeal Cert.KernelIdeal.Gen

open Idealize.ShloMosaic Idealize.ShloMosaic.ValueIdx Idealize.ShloMosaic.Transfers
open Idealize.ShloMosaic.SparseCore (S V T)
open Idealize.ShloMosaic.SparseCore.Cfg (HIx)
open Idealize.SL Idealize.SL.RA
open Idealize.SL.BI (sProp Storable bigSep bigSep_map bigSep_congr bigSep_mono)
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## Places -/

/-- The places of chunk `ch` among the codes, and in the result. -/
def codesOf (ch : ℕ) : Finset S100000.Idx := Finset.univ.filter fun y => (y 0).val / 400 = ch
def rowsOf (ch : ℕ) : Finset S100000x128.Idx := Finset.univ.filter fun y => (y 0).val / 400 = ch
/-- Of the chunks `a, a + 64, a + 128, …`: those before the `m`-th, and those from it on. -/
def rowsDone (a m : ℕ) : Finset S100000x128.Idx := Finset.univ.filter fun y => (y 0).val / 400 % 64 = a ∧ (y 0).val / 400 / 64 < m
def rowsTodo (a m : ℕ) : Finset S100000x128.Idx := Finset.univ.filter fun y => (y 0).val / 400 % 64 = a ∧ m ≤ (y 0).val / 400 / 64

theorem rowsDone_succ {a : ℕ} (ha : a < 64) (m : ℕ) : rowsDone a (m + 1) = rowsDone a m ∪ rowsOf (a + 64 * m) := by
  ext y
  simp only [rowsDone, rowsOf, Finset.mem_union, Finset.mem_filter, Finset.mem_univ, true_and]
  omega
theorem rowsTodo_succ {a : ℕ} (ha : a < 64) (m : ℕ) : rowsTodo a m = rowsOf (a + 64 * m) ∪ rowsTodo a (m + 1) := by
  ext y
  simp only [rowsTodo, rowsOf, Finset.mem_union, Finset.mem_filter, Finset.mem_univ, true_and]
  omega
theorem rowsDone_disjoint {a : ℕ} (ha : a < 64) (m : ℕ) : Disjoint (rowsDone a m) (rowsOf (a + 64 * m)) := by
  refine Finset.disjoint_left.mpr fun y hy hy' => ?_
  simp only [rowsDone, rowsOf, Finset.mem_filter, Finset.mem_univ, true_and] at hy hy'
  omega
theorem rowsTodo_disjoint {a : ℕ} (ha : a < 64) (m : ℕ) : Disjoint (rowsOf (a + 64 * m)) (rowsTodo a (m + 1)) := by
  refine Finset.disjoint_left.mpr fun y hy hy' => ?_
  simp only [rowsTodo, rowsOf, Finset.mem_filter, Finset.mem_univ, true_and] at hy hy'
  omega
theorem rowsDone_zero (a : ℕ) : rowsDone a 0 = ∅ := by
  refine Finset.eq_empty_of_forall_notMem fun y hy => ?_
  exact Nat.not_lt_zero _ (Finset.mem_filter.mp hy).2.2
theorem rowsOf_high {ch : ℕ} (h : 250 ≤ ch) : rowsOf ch = ∅ := by
  refine Finset.eq_empty_of_forall_notMem fun y hy => ?_
  have h0 : (y 0).val < 100000 := (y 0).isLt
  have h1 := (Finset.mem_filter.mp hy).2
  omega

/-- The stretch of 400 codes from place `400 · ch` on is chunk `ch`'s, and so for the result. -/
theorem codAt_set {o : Fin 1 → ℕ} {ch : ℕ} (ho : o = ![400 * ch]) (h : ∀ a, o a + S400.size a ≤ S100000.size a) : (codAt o h).view.set = codesOf ch := by
  subst ho
  show ((View.whole (main_v67_scv : Ref sig .scVector)).slice _).set = _
  rw [View.set_slice]
  refine Finset.map_refl.trans ?_
  ext y
  rw [Rect.mem_set_unit]
  simp only [codesOf, Finset.mem_filter, Finset.mem_univ, true_and]
  constructor
  · intro hy
    have h0 := hy 0
    change 400 * ch ≤ (y 0).val ∧ (y 0).val < 400 * ch + 400 at h0
    omega
  · intro hy a
    match a with
    | 0 => show 400 * ch ≤ (y 0).val ∧ (y 0).val < 400 * ch + 400; omega
theorem outAt_set {o : Fin 2 → ℕ} {ch : ℕ} (ho : o = ![400 * ch, 0]) (h : ∀ a, o a + S400x128.size a ≤ S100000x128.size a) : (outAt o h).view.set = rowsOf ch := by
  subst ho
  show ((View.whole (main_v68_scv : Ref sig .scVector)).slice _).set = _
  rw [View.set_slice]
  refine Finset.map_refl.trans ?_
  ext y
  have h1 : (y 1).val < 128 := (y 1).isLt
  rw [Rect.mem_set_unit]
  simp only [rowsOf, Finset.mem_filter, Finset.mem_univ, true_and]
  constructor
  · intro hy
    have h0 := hy 0
    change 400 * ch ≤ (y 0).val ∧ (y 0).val < 400 * ch + 400 at h0
    omega
  · intro hy a
    match a with
    | 0 => show 400 * ch ≤ (y 0).val ∧ (y 0).val < 400 * ch + 400; omega
    | 1 => show 0 ≤ (y 1).val ∧ (y 1).val < 0 + 128; omega

/-! ## Values -/

/-- The codes of chunk `ch`. -/
def codeW (fc : S100000.Idx → BitVec 32) (ch : ℕ) (n : ℕ) : BitVec 32 := fc (ix1 ⟨(400 * ch + n) % 100000, Nat.mod_lt _ (by norm_num)⟩)

section

variable (d : Dev nD) (L : grid0.Coords)
variable (mI : Memref sig .scVector .vmem S416 .i32) (mL : Memref sig .scVector .vmem S5x80 .i32) (mR : Memref sig .scVector .vmem S400x128 .f32)
variable (semI semG semO : DmaSem sig)
variable (q : PosShare TreeShare) (fT : Buf (Elt F) (tabV.view.loc (V d (cV L) (jV L)))) (fc : Buf (Elt F) (codV.view.loc (V d (cV L) (jV L))))
variable (f₀ : Buf (Elt F) (outV.view.loc (V d (cV L) (jV L))))

theorem fetched_of_write {o : Fin 1 → ℕ} {ch : ℕ} (ho : o = ![400 * ch]) (hch : ch < 250) (h : ∀ a, o a + S400.size a ≤ S100000.size a)
    (fd : Buf (Elt F) (mI.view.loc (V d (cV L) (jV L)))) :
    Fetched mI (codeW fc ch) ((head mI).view.write (Elt F) fd ((codAt o h).view.read (Elt F) fc) Finset.univ) := by
  subst ho
  intro x hx
  obtain ⟨z, hz⟩ : ∃ z : S400.Idx, (Rect.unit (s := S416) ![0] S400.size inb_S416_S400_0).emb z = x :=
    ⟨fun a => match a with | 0 => ⟨(x 0).val, hx⟩, funext fun a => Fin.ext (by match a with | 0 => show 0 + 1 * (x 0).val = _; omega)⟩
  have hz0 : (z 0).val = (x 0).val := by
    rw [← hz]; show (z 0).val = 0 + 1 * (z 0).val; omega
  have hzl : (z 0).val < 400 := (z 0).isLt
  subst hz
  refine (View.read_slice_write_emb (v := mI.view) _ fd _ (Finset.mem_univ z)).trans ?_
  refine (View.read_apply _ _).trans ((cast_eq _ _).trans (congrArg fc (funext fun a => Fin.ext ?_)))
  match a with
  | 0 =>
    show 400 * ch + 1 * (z 0).val = (400 * ch + ((Rect.unit (s := S416) ![0] S400.size inb_S416_S400_0).emb z 0).val) % 100000
    rw [← hz0]; omega

theorem outVal_of_write {o : Fin 2 → ℕ} {ch : ℕ} (ho : o = ![400 * ch, 0]) (hch : ch < 250) (hw : ch % 32 = wid L) (h : ∀ a, o a + S400x128.size a ≤ S100000x128.size a)
    {g : Buf (Elt F) (mR.view.loc (V d (cV L) (jV L)))} (hg : Rowed d L mR fT (fun n => codeW fc ch n + BitVec.ofNat 32 (512 * wid L)) g) :
    ∀ i ∈ (outAt o h).view.set, (outAt o h).view.write (Elt F) f₀ (mR.view.read (Elt F) g) Finset.univ i = outVal fT fc i := by
  subst ho
  intro i hi
  obtain ⟨z, -, rfl⟩ := Finset.mem_map.mp hi
  have hz0 : (z 0).val < 400 := (z 0).isLt
  refine (View.write_emb_of_mem _ _ (Finset.mem_univ z)).trans ((cast_eq _ _).trans ((hg z).trans ?_))
  have h0 : (((outAt ![400 * ch, 0] h).view.emb z) 0).val = 400 * ch + (z 0).val := by show 400 * ch + 1 * (z 0).val = _; omega
  have h1 : (((outAt ![400 * ch, 0] h).view.emb z) 1).val = (z 1).val := by show 0 + 1 * (z 1).val = _; omega
  have hcode : codeW fc ch (z 0).val + BitVec.ofNat 32 (512 * wid L)
      = rowWord fc ((((outAt ![400 * ch, 0] h).view.emb z) 0).val / 400 % 32) (((outAt ![400 * ch, 0] h).view.emb z) 0) := by
    unfold rowWord codeW
    have hp : (⟨(400 * ch + (z 0).val) % 100000, Nat.mod_lt _ (by norm_num)⟩ : Fin 100000) = ((outAt ![400 * ch, 0] h).view.emb z) 0 :=
      Fin.ext (by rw [h0]; show (400 * ch + (z 0).val) % 100000 = _; omega)
    rw [hp, h0, show (400 * ch + (z 0).val) / 400 % 32 = wid L by omega]
  unfold outVal rowVal
  refine congrArg fT (funext fun a => Fin.ext ?_)
  match a with
  | 0 =>
    show (codeW fc ch (z 0).val + BitVec.ofNat 32 (512 * wid L)).toNat % 16384 = _
    rw [hcode]
  | 1 => exact h1.symm

/-! ## What the steps hold -/

/-- A fetch in flight: chunk `ch`'s codes, on their way to the fetch buffer. -/
def Fetching (ch : ℕ) : sProp 𝕄 :=
  iprop(Flight countersEmb (V d (cV L) (jV L)) (.dma semI) (default : HIx 1) ((head mI).view.dmaCredit)
      iprop((∃ f, ⌜Fetched mI (codeW fc ch) f⌝ ∗ (mI.view.loc (V d (cV L) (jV L)) ↦[mI.view.set]{fullShare} f))
        ∗ (codV.view.loc (V d (cV L) (jV L)) ↦[codesOf ch]{q} fc))
    ∗ (codV.view.loc (V d (cV L) (jV L)) ↦[Finset.univ \ codesOf ch]{q} fc))
/-- No fetch in flight. -/
def FetchIdle : sProp 𝕄 :=
  iprop((∃ f, mI.view.loc (V d (cV L) (jV L)) ↦[mI.view.set]{fullShare} f) ∗ semVal ((V d (cV L) (jV L)), .dma semI) 0
    ∗ (codV.view.loc (V d (cV L) (jV L)) ↦[Finset.univ]{q} fc))
/-- Before chunk `ch`'s turn: its codes are being fetched, if there is such a chunk. -/
def FetchSt (ch : ℕ) : sProp 𝕄 := if ch < 250 then Fetching d L mI semI q fc ch else FetchIdle d L mI semI q fc

/-- A chunk's rows being sent: those of chunk `ch`, the others of `S` there already. -/
def Sending (S : Finset S100000x128.Idx) : sProp 𝕄 :=
  iprop(∃ A ch, ⌜S = A ∪ rowsOf ch ∧ Disjoint A (rowsOf ch)⌝
    ∗ Flight countersEmb (V d (cV L) (jV L)) (.dma semO) (default : HIx 1) ((outAt ![0, 0] inb_S100000x128_S400x128_0_0).view.dmaCredit)
        iprop((outV.view.loc (V d (cV L) (jV L)) ↦[rowsOf ch]{fullShare} outVal fT fc)
          ∗ ∃ f, (mR.view.loc (V d (cV L) (jV L)) ↦[mR.view.set]{fullShare} f))
    ∗ (outV.view.loc (V d (cV L) (jV L)) ↦[A]{fullShare} outVal fT fc))
/-- Nothing being sent: `S` is there. -/
def SendIdle (S : Finset S100000x128.Idx) : sProp 𝕄 :=
  iprop((∃ f, mR.view.loc (V d (cV L) (jV L)) ↦[mR.view.set]{fullShare} f) ∗ semVal ((V d (cV L) (jV L)), .dma semO) 0
    ∗ (outV.view.loc (V d (cV L) (jV L)) ↦[S]{fullShare} outVal fT fc))

variable [FloatOps F]

/-- Starting a fetch. -/
theorem wp_fetch {α : Type} {Q' : α → sProp 𝕄} {o : Fin 1 → ℕ} {ch : ℕ} (ho : o = ![400 * ch]) (hch : ch < 250) (h : ∀ a, o a + S400.size a ≤ S100000.size a)
    {k : PUnit → TileProg F L α} :
    FetchIdle d L mI semI q fc
      ⊢ iprop((Fetching d L mI semI q fc ch -∗ wp frame (wpE (defs₀ (F := F)) 𝒱₀ (V d (cV L) (jV L)) none) Set.univ (k ⟨⟩) Q')
        -∗ wp frame (wpE (defs₀ (F := F)) 𝒱₀ (V d (cV L) (jV L)) none) Set.univ
            (.op (.enqueueDma (codAt o h) (.here (head mI)) (.dma semI) (View.wordExact_bits rfl) (View.wordExact_bits rfl) ⟨Or.inl rfl, trivial⟩) k) Q') := by
  have hset := codAt_set ho h
  have hsub : (head mI).view.set ⊆ mI.view.set := mI.view.set_slice_subset _
  have hstep (fd : Buf (Elt F) (mI.view.loc (V d (cV L) (jV L)))) := wp_dmaLocal (defs := defs₀ (F := F)) (Q := Q') countersEmb 𝒱₀ (V d (cV L) (jV L)) none (src := codAt o h) (via := .same) (dst := head mI)
    (sm := .dma semI) (hsrc := View.wordExact_bits rfl) (hdst := View.wordExact_bits rfl) (hsem := ⟨Or.inl rfl, trivial⟩) (k := k) (q := q) (fs := fc) (Sd := mI.view.set) (fd := fd)
    (default : HIx 1) ((head mI).view.dmaCredit) rfl (View.dmaCredit_pos _ (by decide)) hsub
  rw [hset] at hstep
  unfold FetchIdle Fetching
  iintro ⟨⟨%fd, HI⟩, HS, HC⟩ Hk
  ihave HC' := (pointsTo_split_subset (q := q) (f := fc) (S := Finset.univ) (Finset.subset_univ (codesOf ch))).1 $$ HC
  icases HC' with ⟨HC, Hrest⟩
  iapply (hstep fd) $$ [HI HS HC]
  · isplitl [HC]; · iexact HC
    isplitl [HI]; · iexact HI
    iexact HS
  iintro HF
  iapply Hk
  isplitl [HF]
  · iapply (Flight_mono countersEmb (V d (cV L) (jV L)) ?_) $$ HF
    iintro ⟨HI, HC⟩
    isplitl [HI]
    · iexists _
      isplitr
      · ipureintro
        exact fetched_of_write d L mI fc ho hch h fd
      · iexact HI
    · iexact HC
  · iexact Hrest

/-- Waiting for a chunk's rows to be there. -/
theorem wp_sent {α : Type} {Q' : α → sProp 𝕄} {S : Finset S100000x128.Idx} {hR : mR.IsWhole} {o : Fin 2 → ℕ} (h : ∀ a, o a + S400x128.size a ≤ S100000x128.size a)
    {k : PUnit → TileProg F L α} {O : CellTallies nD τ sig (HIx 1)} {W : Waits sig (HIx 1)} :
    iprop(Sending d L mR semO fT fc S ∗ Waiting (V d (cV L) (jV L)) O W ∗ MayWaits (V d (cV L) (jV L)) (default : HIx 1) O)
      ⊢ iprop((iprop(SendIdle d L mR semO fT fc S ∗ Waiting (V d (cV L) (jV L)) O W)
          -∗ wp frame (wpE (defs₀ (F := F)) 𝒱₀ (V d (cV L) (jV L)) none) Set.univ (k ⟨⟩) Q')
        -∗ wp frame (wpE (defs₀ (F := F)) 𝒱₀ (V d (cV L) (jV L)) none) Set.univ
            (.op (.waitDma2 semO mR (outAt o h) hR.wordExact (View.wordExact_bits rfl)) k) Q') := by
  unfold Sending SendIdle
  iintro ⟨⟨%A, %ch, %hS, HF, HA⟩, HW, #Hmw⟩ Hk
  ihave HW' := (Waiting.elim (F := F) (V d (cV L) (jV L)) O W) $$ HW
  icases HW' with ⟨%W', %hW, HO⟩
  iapply (Transfers.wp_waitLocalO (defs := defs₀ (F := F)) (Q := Q') countersEmb 𝒱₀ (V d (cV L) (jV L)) none (sem := semO) (srcw := mR) (dstw := outAt o h)
    (hsrc := hR.wordExact) (hdst := View.wordExact_bits rfl) (k := k) (default : HIx 1) (N := (outAt ![0, 0] inb_S100000x128_S400x128_0_0).view.dmaCredit) rfl (O := O) (W := W')) $$ [HF HO]
  · isplitl [HF]; · iexact HF
    isplitl [HO]; · iexact HO
    iapply (MayWaits.elim (SemLoc.dma semO)) $$ Hmw
  iintro ⟨⟨HN, HR⟩, HS, HO⟩
  iapply Hk
  isplitr [HO]
  · isplitl [HR]; · iexact HR
    isplitl [HS]; · iexact HS
    rw [hS.1]
    iapply (pointsTo_union (q := fullShare) (f := outVal fT fc) hS.2).2
    isplitl [HA]; · iexact HA
    iexact HN
  · iapply (Waiting.intro hW (.dma semO)) $$ HO

/-- The first step. -/
theorem wp_listStep {Q' : PUnit → sProp 𝕄} {v2 : BitVec 32} {b : BitVec 1} {ch : ℕ} (hb : b = 1#1 ↔ ch < 250) (r : b = 1#1 → Memref sig .scVector .hbm S400 .i32)
    {O : CellTallies nD τ sig (HIx 1)} {W : Waits sig (HIx 1)} :
    iprop(FetchSt d L mI semI q fc ch ∗ (∃ f, mL.view.loc (V d (cV L) (jV L)) ↦[mL.view.set]{fullShare} f)
        ∗ Waiting (V d (cV L) (jV L)) O W ∗ MayWaits (V d (cV L) (jV L)) (default : HIx 1) O)
      ⊢ iprop((iprop(FetchIdle d L mI semI q fc
            ∗ (∃ f, ⌜ch < 250 → Listed mL (codeW fc ch) v2 400 f⌝ ∗ (mL.view.loc (V d (cV L) (jV L)) ↦[mL.view.set]{fullShare} f))
            ∗ Waiting (V d (cV L) (jV L)) O W) -∗ Q' ⟨⟩)
        -∗ wp frame (wpE (defs₀ (F := F)) 𝒱₀ (V d (cV L) (jV L)) none) Set.univ (listStep mI mL semI v2 b r) Q') := by
  by_cases hch : ch < 250
  · have hb1 := hb.mpr hch
    unfold listStep FetchSt
    rw [dif_pos hb1, if_pos hch]
    unfold Fetching FetchIdle
    iintro ⟨⟨HF, Hrest⟩, ⟨%fL, HL⟩, HW, #Hmw⟩ Hk
    ihave HW' := (Waiting.elim (F := F) (V d (cV L) (jV L)) O W) $$ HW
    icases HW' with ⟨%W', %hW, HO⟩
    iapply (Transfers.wp_waitLocalO (defs := defs₀ (F := F)) (Q := Q') countersEmb 𝒱₀ (V d (cV L) (jV L)) none (sem := semI) (srcw := r hb1) (dstw := head mI)
      (hsrc := View.wordExact_bits rfl) (hdst := View.wordExact_bits rfl) (k := fun _ => groups mI mL v2 (pure ⟨⟩) 25 le_rfl) (default : HIx 1) (N := (head mI).view.dmaCredit) rfl (O := O) (W := W')) $$ [HF HO]
    · isplitl [HF]; · iexact HF
      isplitl [HO]; · iexact HO
      iapply (MayWaits.elim (SemLoc.dma semI)) $$ Hmw
    iintro ⟨⟨⟨%fI, %hfI, HI⟩, HC⟩, HS, HO⟩
    have hz : Listed mL (codeW fc ch) v2 (16 * (25 - 25)) fL := fun x hx => absurd hx (Nat.not_lt_zero _)
    iapply (wp_groups d L hfI (mL := mL) (v2 := v2) 25 le_rfl) $$ [HI HL]
    · isplitl [HI]; · iexact HI
      iexists fL
      isplitr; · ipureintro; exact hz
      iexact HL
    iintro ⟨HI, %fL', %hfL, HL⟩
    rw [wp_pure]
    imodintro
    iapply Hk
    isplitl [HI HS HC Hrest]
    · isplitl [HI]; · iexists fI; iexact HI
      isplitl [HS]; · iexact HS
      iapply (pointsTo_split_subset (q := q) (f := fc) (S := Finset.univ) (Finset.subset_univ (codesOf ch))).2
      isplitl [HC]; · iexact HC
      iexact Hrest
    isplitl [HL]
    · iexists fL'
      isplitr; · ipureintro; exact fun _ => hfL
      iexact HL
    iapply (Waiting.intro hW (.dma semI)) $$ HO
  · have hb1 : ¬b = 1#1 := fun h => hch (hb.mp h)
    unfold listStep FetchSt
    rw [dif_neg hb1, if_neg hch, wp_pure]
    iintro ⟨HF, ⟨%fL, HL⟩, HW, -⟩ Hk
    imodintro
    iapply Hk
    isplitl [HF]; · iexact HF
    isplitl [HL]
    · iexists fL
      isplitr; · ipureintro; exact fun h => absurd h hch
      iexact HL
    iexact HW

/-- The second step: `ch` is the next chunk. -/
theorem wp_nextStep {Q' : PUnit → sProp 𝕄} {b : BitVec 1} {ch : ℕ} (hb : b = 1#1 ↔ ch < 250) {o : Fin 1 → ℕ} (ho : o = ![400 * ch])
    (h : b = 1#1 → ∀ a, o a + S400.size a ≤ S100000.size a) :
    FetchIdle d L mI semI q fc
      ⊢ iprop((FetchSt d L mI semI q fc ch -∗ Q' ⟨⟩)
        -∗ wp frame (wpE (defs₀ (F := F)) 𝒱₀ (V d (cV L) (jV L)) none) Set.univ (nextStep mI semI b fun hb => codAt o (h hb)) Q') := by
  by_cases hch : ch < 250
  · have hb1 := hb.mpr hch
    unfold nextStep FetchSt
    rw [dif_pos hb1, if_pos hch]
    iintro HF Hk
    iapply (wp_fetch d L mI semI q fc ho hch (h hb1)) $$ HF
    iintro HF
    rw [wp_pure]
    imodintro
    iapply Hk $$ HF
  · have hb1 : ¬b = 1#1 := fun h => hch (hb.mp h)
    unfold nextStep FetchSt
    rw [dif_neg hb1, if_neg hch, wp_pure]
    iintro HF Hk
    imodintro
    iapply Hk $$ HF

/-- Before the third step of the task's `m`-th chunk in the sequence from `a`: nothing is being sent the first time. -/
def SendSt (a m : ℕ) : sProp 𝕄 := if m = 0 then SendIdle d L mR semO fT fc (rowsDone a m) else Sending d L mR semO fT fc (rowsDone a m)
/-- After it: nothing is being sent, unless there is no such chunk. -/
def FreeSt (a m : ℕ) : sProp 𝕄 := if a + 64 * m < 250 then SendIdle d L mR semO fT fc (rowsDone a m) else Sending d L mR semO fT fc (rowsDone a m)

/-- The third step. -/
theorem wp_freeStep {Q' : PUnit → sProp 𝕄} {hR : mR.IsWhole} {b : BitVec 1} {a m : ℕ} (ha : a < 64) (hb : b = 1#1 ↔ 1 ≤ m ∧ a + 64 * m < 250) {o : Fin 2 → ℕ}
    (h : b = 1#1 → ∀ a, o a + S400x128.size a ≤ S100000x128.size a) {O : CellTallies nD τ sig (HIx 1)} {W : Waits sig (HIx 1)} :
    iprop(SendSt d L mR semO fT fc a m ∗ Waiting (V d (cV L) (jV L)) O W ∗ MayWaits (V d (cV L) (jV L)) (default : HIx 1) O)
      ⊢ iprop((iprop(FreeSt d L mR semO fT fc a m ∗ Waiting (V d (cV L) (jV L)) O W) -∗ Q' ⟨⟩)
        -∗ wp frame (wpE (defs₀ (F := F)) 𝒱₀ (V d (cV L) (jV L)) none) Set.univ (freeStep mR hR semO b fun hb => outAt o (h hb)) Q') := by
  by_cases hm : 1 ≤ m ∧ a + 64 * m < 250
  · have hb1 := hb.mpr hm
    unfold freeStep SendSt FreeSt
    rw [dif_pos hb1, if_neg (by omega), if_pos hm.2]
    iintro H Hk
    iapply (wp_sent d L mR semO fT fc (hR := hR) (h hb1)) $$ H
    iintro H
    rw [wp_pure]
    imodintro
    iapply Hk $$ H
  · have hb1 : ¬b = 1#1 := fun h => hm (hb.mp h)
    have hst : SendSt d L mR semO fT fc a m = FreeSt d L mR semO fT fc a m := by
      unfold SendSt FreeSt
      by_cases h0 : m = 0
      · rw [if_pos h0, if_pos (by omega)]
      · rw [if_neg h0, if_neg (by omega)]
    unfold freeStep
    rw [dif_neg hb1, hst, wp_pure]
    iintro ⟨HF, HW, -⟩ Hk
    imodintro
    iapply Hk
    isplitl [HF]; · iexact HF
    iexact HW

/-- The fourth step. -/
theorem wp_rowStep {Q' : PUnit → sProp 𝕄} {hR : mR.IsWhole} (hC : mR.view.ref.dmaCredit S80x128 .f32 = 80 * rowCredit mR) (hfc : ∀ x, (fc x : BitVec 32).toNat < 512)
    {b : BitVec 1} {a m : ℕ} (ha : a < 64) (haw : a % 32 = wid L) (hb : b = 1#1 ↔ a + 64 * m < 250) {o : Fin 2 → ℕ} (ho : o = ![400 * (a + 64 * m), 0])
    (h : b = 1#1 → ∀ a, o a + S400x128.size a ≤ S100000x128.size a) {O : CellTallies nD τ sig (HIx 1)} {W : Waits sig (HIx 1)} :
    iprop((tabW.view.loc (V d (cV L) (jV L)) ↦[tabW.view.set]{q} fT)
        ∗ (∃ f, ⌜a + 64 * m < 250 → Listed mL (codeW fc (a + 64 * m)) (BitVec.ofNat 32 (512 * wid L)) 400 f⌝ ∗ (mL.view.loc (V d (cV L) (jV L)) ↦[mL.view.set]{fullShare} f))
        ∗ semVal ((V d (cV L) (jV L)), .dma semG) 0 ∗ FreeSt d L mR semO fT fc a m ∗ (outV.view.loc (V d (cV L) (jV L)) ↦[rowsTodo a m]{fullShare} f₀)
        ∗ Waiting (V d (cV L) (jV L)) O W ∗ MayWaits (V d (cV L) (jV L)) (default : HIx 1) O)
      ⊢ iprop((iprop((tabW.view.loc (V d (cV L) (jV L)) ↦[tabW.view.set]{q} fT)
            ∗ (∃ f, mL.view.loc (V d (cV L) (jV L)) ↦[mL.view.set]{fullShare} f)
            ∗ semVal ((V d (cV L) (jV L)), .dma semG) 0 ∗ SendSt d L mR semO fT fc a (m + 1) ∗ (outV.view.loc (V d (cV L) (jV L)) ↦[rowsTodo a (m + 1)]{fullShare} f₀)
            ∗ Waiting (V d (cV L) (jV L)) O W) -∗ Q' ⟨⟩)
        -∗ wp frame (wpE (defs₀ (F := F)) 𝒱₀ (V d (cV L) (jV L)) none) Set.univ (rowStep mL mR hR semG semO b fun hb => outAt o (h hb)) Q') := by
  have hdone := rowsDone_succ ha m
  have htodo := rowsTodo_succ ha m
  by_cases hch : a + 64 * m < 250
  · have hb1 := hb.mpr hch
    have hset := outAt_set ho (h hb1)
    have hw : ∀ n < 400, (codeW fc (a + 64 * m) n + BitVec.ofNat 32 (512 * wid L)).toNat < 16384 := fun n _ => by
      have h1 := rowWord_toNat hfc (wid_lt L) ⟨(400 * (a + 64 * m) + n) % 100000, Nat.mod_lt _ (by norm_num)⟩
      have h2 := hfc (pl ⟨(400 * (a + 64 * m) + n) % 100000, Nat.mod_lt _ (by norm_num)⟩)
      have h3 := wid_lt L
      refine lt_of_eq_of_lt h1 ?_
      omega
    have hstep (g : Buf (Elt F) (mR.view.loc (V d (cV L) (jV L)))) := wp_dmaLocal (defs := defs₀ (F := F)) (Q := Q') countersEmb 𝒱₀ (V d (cV L) (jV L)) none (src := mR) (via := .same) (dst := outAt o (h hb1))
      (sm := .dma semO) (hsrc := hR.wordExact) (hdst := View.wordExact_bits rfl) (hsem := ⟨Or.inl rfl, trivial⟩) (k := fun _ => pure ⟨⟩) (q := fullShare) (fs := g) (Sd := (outAt o (h hb1)).view.set) (fd := f₀)
      (default : HIx 1) ((outAt ![0, 0] inb_S100000x128_S400x128_0_0).view.dmaCredit) rfl (View.dmaCredit_pos _ (by decide)) (Finset.Subset.refl _)
    unfold rowStep FreeSt SendSt
    rw [dif_pos hb1, if_pos hch, if_neg (Nat.succ_ne_zero m), htodo, hdone]
    unfold SendIdle Sending
    iintro ⟨HT, ⟨%fL, %hfL, HL⟩, HG, ⟨⟨%fR, HR⟩, HO, HD⟩, Hout, HW, #Hmw⟩ Hk
    ihave Hout' := (pointsTo_union (q := fullShare) (f := f₀) (rowsTodo_disjoint ha m)).1 $$ Hout
    icases Hout' with ⟨HN, Htodo⟩
    iapply (wp_gathers d L mR q fT fR hC (hfL hch) hw) $$ [HT HR HL HG HW]
    · isplitl [HT]; · iexact HT
      isplitl [HR]; · iexact HR
      isplitl [HL]; · iexact HL
      isplitl [HG]; · iexact HG
      isplitl [HW]; · iexact HW
      iexact Hmw
    iintro ⟨HT, ⟨%g, %hg, HR⟩, HL, HG, HW⟩
    iapply (hstep g) $$ [HR HN HO]
    · isplitl [HR]; · iexact HR
      isplitl [HN]; · rw [hset]; iexact HN
      iexact HO
    iintro HF
    rw [wp_pure]
    imodintro
    iapply Hk
    isplitl [HT]; · iexact HT
    isplitl [HL]; · iexists fL; iexact HL
    isplitl [HG]; · iexact HG
    isplitl [HF HD]
    · iexists (rowsDone a m), (a + 64 * m)
      isplitr; · ipureintro; exact ⟨rfl, rowsDone_disjoint ha m⟩
      isplitl [HF]
      · iapply (Flight_mono countersEmb (V d (cV L) (jV L)) ?_) $$ HF
        rw [pointsTo_congr (outVal_of_write d L mR fT fc f₀ ho hch (by omega) (h hb1) hg), hset]
        iintro ⟨HN, HR⟩
        isplitl [HN]; · iexact HN
        iexists g; iexact HR
      · iexact HD
    isplitl [Htodo]; · iexact Htodo
    iexact HW
  · have hb1 : ¬b = 1#1 := fun h => hch (hb.mp h)
    rw [rowsOf_high (by omega), Finset.union_empty] at hdone
    rw [rowsOf_high (by omega), Finset.empty_union] at htodo
    unfold rowStep FreeSt SendSt
    rw [dif_neg hb1, if_neg hch, if_neg (Nat.succ_ne_zero m), htodo, hdone, wp_pure]
    iintro ⟨HT, ⟨%fL, -, HL⟩, HG, HS, Hout, HW, -⟩ Hk
    imodintro
    iapply Hk
    isplitl [HT]; · iexact HT
    isplitl [HL]; · iexists fL; iexact HL
    isplitl [HG]; · iexact HG
    isplitl [HS]; · iexact HS
    isplitl [Hout]; · iexact Hout
    iexact HW

end

end Cert.Proof

end
-- ==== Proof.Tile.lean ====
/-
  A task, run whole.

  A task's chunks alternate between two sets of buffers and semaphores. `Half` is what one set holds before its `m`-th
  chunk; `wp_half` runs the four steps on it, whichever set it is; a trip of the loop does so for either set in turn.
-/
module

public import proofs.«01_k».proof.Proof.Steps

@[expose] public section

noncomputable section

namespace Cert.Proof

open Cert.KernelIdeal Cert.KernelIdeal.Gen

open Idealize.ShloMosaic Idealize.ShloMosaic.ValueIdx Idealize.ShloMosaic.Transfers
open Idealize.ShloMosaic.SparseCore (S V T)
open Idealize.ShloMosaic.SparseCore.Cfg (HIx)
open Idealize.SL Idealize.SL.RA
open Idealize.SL.BI (sProp Storable bigSep bigSep_map bigSep_congr bigSep_mono)
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## When the steps act, and where -/

theorem trips_eq : k0_t1_loop.trips = 4 := by decide +kernel
theorem cond1_iff : ∀ (L : grid0.Coords) (t : Fin k0_t1_loop.trips), k0_cond1 L t = 1#1 ↔ wid L + 64 * t.val < 250 := by decide +kernel
theorem cond2_iff : ∀ (L : grid0.Coords) (t : Fin k0_t1_loop.trips), k0_cond2 L t = 1#1 ↔ wid L + 64 * (t.val + 1) < 250 := by decide +kernel
theorem cond3_iff : ∀ (L : grid0.Coords) (t : Fin k0_t1_loop.trips), k0_cond3 L t = 1#1 ↔ 1 ≤ t.val ∧ wid L + 64 * t.val < 250 := by decide +kernel
theorem cond4_iff : ∀ (L : grid0.Coords) (t : Fin k0_t1_loop.trips), k0_cond4 L t = 1#1 ↔ wid L + 64 * t.val < 250 := by decide +kernel
theorem cond5_iff : ∀ (L : grid0.Coords) (t : Fin k0_t1_loop.trips), k0_cond5 L t = 1#1 ↔ wid L + 32 + 64 * t.val < 250 := by decide +kernel
theorem cond6_iff : ∀ (L : grid0.Coords) (t : Fin k0_t1_loop.trips), k0_cond6 L t = 1#1 ↔ wid L + 32 + 64 * (t.val + 1) < 250 := by decide +kernel
theorem cond7_iff : ∀ (L : grid0.Coords) (t : Fin k0_t1_loop.trips), k0_cond7 L t = 1#1 ↔ 1 ≤ t.val ∧ wid L + 32 + 64 * t.val < 250 := by decide +kernel
theorem cond8_iff : ∀ (L : grid0.Coords) (t : Fin k0_t1_loop.trips), k0_cond8 L t = 1#1 ↔ wid L + 32 + 64 * t.val < 250 := by decide +kernel
theorem offW_eq : ∀ L : grid0.Coords, offW L = BitVec.ofNat 32 (512 * wid L) := by decide +kernel

theorem vec1 {a b : ℕ} (h : a = b) : (![a] : Fin 1 → ℕ) = ![b] := by rw [h]
theorem vec2 {a b : ℕ} (h : a = b) : (![a, 0] : Fin 2 → ℕ) = ![b, 0] := by rw [h]

theorem off1_at0 (L : grid0.Coords) : k0_off1 L 0#32 = ![400 * (wid L + 64 * 0)] := (k0_off1_eq L 0).trans (vec1 (by unfold wid; show _ + 12800 * 0 = _; omega))
theorem off1_at1 (L : grid0.Coords) : k0_off1 L 32#32 = ![400 * (wid L + 32 + 64 * 0)] := (k0_off1_eq L 1).trans (vec1 (by unfold wid; show _ + 12800 * 1 = _; omega))
theorem off3_at (L : grid0.Coords) (t : Fin k0_t1_loop.trips) : k0_off3 L t = ![400 * (wid L + 64 * (t.val + 1))] := (k0_off3_eq L t).trans (vec1 (by unfold wid; omega))
theorem off5_at (L : grid0.Coords) (t : Fin k0_t1_loop.trips) : k0_off5 L t = ![400 * (wid L + 64 * t.val), 0] := (k0_off5_eq L t).trans (vec2 (by unfold wid; omega))
theorem off7_at (L : grid0.Coords) (t : Fin k0_t1_loop.trips) : k0_off7 L t = ![400 * (wid L + 32 + 64 * (t.val + 1))] := (k0_off7_eq L t).trans (vec1 (by unfold wid; omega))
theorem off9_at (L : grid0.Coords) (t : Fin k0_t1_loop.trips) : k0_off9 L t = ![400 * (wid L + 32 + 64 * t.val), 0] := (k0_off9_eq L t).trans (vec2 (by unfold wid; omega))

/-! ## Half a trip -/

section

variable [FloatOps F] (d : Dev nD) (L : grid0.Coords)
variable (mI : Memref sig .scVector .vmem S416 .i32) (mL : Memref sig .scVector .vmem S5x80 .i32) (mR : Memref sig .scVector .vmem S400x128 .f32) (hR : mR.IsWhole)
variable (semI semG semO : DmaSem sig)
variable (q qc : PosShare TreeShare) (fT : Buf (Elt F) (tabV.view.loc (V d (cV L) (jV L)))) (fc : Buf (Elt F) (codV.view.loc (V d (cV L) (jV L))))
variable (f₀ : Buf (Elt F) (outV.view.loc (V d (cV L) (jV L))))

/-- The four steps. -/
def halfText (v2 : BitVec 32) {b1 b2 b3 b4 : BitVec 1} (r1 : b1 = 1#1 → Memref sig .scVector .hbm S400 .i32) (r2 : b2 = 1#1 → Memref sig .scVector .hbm S400 .i32)
    (r3 : b3 = 1#1 → Memref sig .scVector .hbm S400x128 .f32) (r4 : b4 = 1#1 → Memref sig .scVector .hbm S400x128 .f32) : TileProg F L PUnit := do
  listStep mI mL semI v2 b1 r1
  nextStep mI semI b2 r2
  freeStep mR hR semO b3 r3
  rowStep mL mR hR semG semO b4 r4

/-- What one set of buffers and semaphores holds before the `m`-th of its chunks `a, a + 64, a + 128, …`. -/
def Half (a m : ℕ) : sProp 𝕄 :=
  iprop(FetchSt d L mI semI qc fc (a + 64 * m) ∗ (∃ f, mL.view.loc (V d (cV L) (jV L)) ↦[mL.view.set]{fullShare} f)
    ∗ semVal ((V d (cV L) (jV L)), .dma semG) 0 ∗ SendSt d L mR semO fT fc a m ∗ (outV.view.loc (V d (cV L) (jV L)) ↦[rowsTodo a m]{fullShare} f₀))

theorem wp_half {Q' : PUnit → sProp 𝕄} (hC : mR.view.ref.dmaCredit S80x128 .f32 = 80 * rowCredit mR) (hfc : ∀ x, (fc x : BitVec 32).toNat < 512)
    {a m : ℕ} (ha : a < 64) (haw : a % 32 = wid L) {b1 b2 b3 b4 : BitVec 1} (hb1 : b1 = 1#1 ↔ a + 64 * m < 250) (hb2 : b2 = 1#1 ↔ a + 64 * (m + 1) < 250)
    (hb3 : b3 = 1#1 ↔ 1 ≤ m ∧ a + 64 * m < 250) (hb4 : b4 = 1#1 ↔ a + 64 * m < 250) (r1 : b1 = 1#1 → Memref sig .scVector .hbm S400 .i32)
    {o2 : Fin 1 → ℕ} (ho2 : o2 = ![400 * (a + 64 * (m + 1))]) (h2 : b2 = 1#1 → ∀ a, o2 a + S400.size a ≤ S100000.size a)
    {o3 : Fin 2 → ℕ} (h3 : b3 = 1#1 → ∀ a, o3 a + S400x128.size a ≤ S100000x128.size a)
    {o4 : Fin 2 → ℕ} (ho4 : o4 = ![400 * (a + 64 * m), 0]) (h4 : b4 = 1#1 → ∀ a, o4 a + S400x128.size a ≤ S100000x128.size a)
    {O : CellTallies nD τ sig (HIx 1)} {W : Waits sig (HIx 1)} :
    iprop((tabW.view.loc (V d (cV L) (jV L)) ↦[tabW.view.set]{q} fT) ∗ Half d L mI mL mR semI semG semO qc fT fc f₀ a m
        ∗ Waiting (V d (cV L) (jV L)) O W ∗ MayWaits (V d (cV L) (jV L)) (default : HIx 1) O)
      ⊢ iprop((iprop((tabW.view.loc (V d (cV L) (jV L)) ↦[tabW.view.set]{q} fT) ∗ Half d L mI mL mR semI semG semO qc fT fc f₀ a (m + 1)
            ∗ Waiting (V d (cV L) (jV L)) O W) -∗ Q' ⟨⟩)
        -∗ wp frame (wpE (defs₀ (F := F)) 𝒱₀ (V d (cV L) (jV L)) none) Set.univ
            (halfText L mI mL mR hR semI semG semO (offW L) r1 (fun hb => codAt o2 (h2 hb)) (fun hb => outAt o3 (h3 hb)) (fun hb => outAt o4 (h4 hb))) Q') := by
  unfold halfText Half
  rw [offW_eq]
  simp only [wp_bind]
  iintro ⟨HT, ⟨HF, HL, HG, HS, Hout⟩, HW, #Hmw⟩ Hk
  iapply (wp_listStep d L mI mL semI qc fc (v2 := BitVec.ofNat 32 (512 * wid L)) hb1 r1) $$ [HF HL HW]
  · isplitl [HF]; · iexact HF
    isplitl [HL]; · iexact HL
    isplitl [HW]; · iexact HW
    iexact Hmw
  iintro ⟨HF, HL, HW⟩
  iapply (wp_nextStep d L mI semI qc fc hb2 ho2 h2) $$ HF
  iintro HF
  iapply (wp_freeStep d L mR semO fT fc (hR := hR) ha hb3 h3) $$ [HS HW]
  · isplitl [HS]; · iexact HS
    isplitl [HW]; · iexact HW
    iexact Hmw
  iintro ⟨HS, HW⟩
  iapply (wp_rowStep d L mL mR semG semO q fT fc f₀ (hR := hR) hC hfc ha haw hb4 ho4 h4) $$ [HT HL HG HS Hout HW]
  · isplitl [HT]; · iexact HT
    isplitl [HL]; · iexact HL
    isplitl [HG]; · iexact HG
    isplitl [HS]; · iexact HS
    isplitl [Hout]; · iexact Hout
    isplitl [HW]; · iexact HW
    iexact Hmw
  iintro ⟨HT, HL, HG, HS, Hout, HW⟩
  iapply Hk
  isplitl [HT]; · iexact HT
  isplitr [HW]
  · isplitl [HF]; · iexact HF
    isplitl [HL]; · iexact HL
    isplitl [HG]; · iexact HG
    isplitl [HS]; · iexact HS
    iexact Hout
  iexact HW

end

/-! ## A trip -/

section

variable [FloatOps F] (d : Dev nD) (L : grid0.Coords)
variable (q qc qc' : PosShare TreeShare) (fT : Buf (Elt F) (tabV.view.loc (V d (cV L) (jV L)))) (fc : Buf (Elt F) (codV.view.loc (V d (cV L) (jV L))))
variable (f₀ : Buf (Elt F) (outV.view.loc (V d (cV L) (jV L))))

abbrev Half0 (m : ℕ) : sProp 𝕄 := Half d L mI0 mL0 mR0 cc0_scratch6.sem cc0_scratch8.sem cc0_scratch10.sem qc fT fc f₀ (wid L) m
abbrev Half1 (m : ℕ) : sProp 𝕄 := Half d L mI1 mL1 mR1 cc0_scratch7.sem cc0_scratch9.sem cc0_scratch11.sem qc' fT fc f₀ (wid L + 32) m

theorem credit0 : mR0.view.ref.dmaCredit S80x128 .f32 = 80 * rowCredit mR0 := by decide
theorem credit1 : mR1.view.ref.dmaCredit S80x128 .f32 = 80 * rowCredit mR1 := by decide

/-- What the loop keeps. -/
def LoopInv (O : CellTallies nD τ sig (HIx 1)) (W : Waits sig (HIx 1)) (m : ℕ) (_ : PUnit) : sProp 𝕄 :=
  iprop((tabW.view.loc (V d (cV L) (jV L)) ↦[tabW.view.set]{q} fT) ∗ Half0 d L qc fT fc f₀ m ∗ Half1 d L qc' fT fc f₀ m
    ∗ Waiting (V d (cV L) (jV L)) O W ∗ MayWaits (V d (cV L) (jV L)) (default : HIx 1) O)

theorem trip_halves (t : Fin k0_t1_loop.trips) : trip (F := F) L t
    = (halfText L mI0 mL0 mR0 (Memref.isWhole_whole _) cc0_scratch6.sem cc0_scratch8.sem cc0_scratch10.sem (offW L)
        (fun h : k0_cond1 L t = 1#1 => codAt (k0_off2 L t) (k0_off2_inb L t h)) (fun h : k0_cond2 L t = 1#1 => codAt (k0_off3 L t) (k0_off3_inb L t h))
        (fun h : k0_cond3 L t = 1#1 => outAt (k0_off4 L t) (k0_off4_inb L t h)) (fun h : k0_cond4 L t = 1#1 => outAt (k0_off5 L t) (k0_off5_inb L t h)))
      >>= fun _ => halfText L mI1 mL1 mR1 (Memref.isWhole_whole _) cc0_scratch7.sem cc0_scratch9.sem cc0_scratch11.sem (offW L)
        (fun h : k0_cond5 L t = 1#1 => codAt (k0_off6 L t) (k0_off6_inb L t h)) (fun h : k0_cond6 L t = 1#1 => codAt (k0_off7 L t) (k0_off7_inb L t h))
        (fun h : k0_cond7 L t = 1#1 => outAt (k0_off8 L t) (k0_off8_inb L t h)) (fun h : k0_cond8 L t = 1#1 => outAt (k0_off9 L t) (k0_off9_inb L t h)) := by
  unfold trip halfText
  simp only [bind_assoc]

theorem wp_trip (hfc : ∀ x, (fc x : BitVec 32).toNat < 512) (O : CellTallies nD τ sig (HIx 1)) (W : Waits sig (HIx 1)) (t : Fin k0_t1_loop.trips) (acc : PUnit) :
    LoopInv d L q qc qc' fT fc f₀ O W t.val acc
      ⊢ wp frame (wpE (defs₀ (F := F)) 𝒱₀ (V d (cV L) (jV L)) none) Set.univ (trip L t) (LoopInv d L q qc qc' fT fc f₀ O W (t.val + 1)) := by
  have hw := wid_lt L
  rw [trip_halves, wp_bind]
  unfold LoopInv
  iintro ⟨HT, H0, H1, HW, #Hmw⟩
  iapply (wp_half d L mI0 mL0 mR0 (Memref.isWhole_whole _) cc0_scratch6.sem cc0_scratch8.sem cc0_scratch10.sem q qc fT fc f₀ credit0 hfc (by omega) (by omega)
    (cond1_iff L t) (cond2_iff L t) (cond3_iff L t) (cond4_iff L t) _ (off3_at L t) (k0_off3_inb L t) (k0_off4_inb L t) (off5_at L t) (k0_off5_inb L t)) $$ [HT H0 HW]
  · isplitl [HT]; · iexact HT
    isplitl [H0]; · iexact H0
    isplitl [HW]; · iexact HW
    iexact Hmw
  iintro ⟨HT, H0, HW⟩
  iapply (wp_half d L mI1 mL1 mR1 (Memref.isWhole_whole _) cc0_scratch7.sem cc0_scratch9.sem cc0_scratch11.sem q qc' fT fc f₀ credit1 hfc (by omega) (by omega)
    (cond5_iff L t) (cond6_iff L t) (cond7_iff L t) (cond8_iff L t) _ (off7_at L t) (k0_off7_inb L t) (k0_off8_inb L t) (off9_at L t) (k0_off9_inb L t)) $$ [HT H1 HW]
  · isplitl [HT]; · iexact HT
    isplitl [H1]; · iexact H1
    isplitl [HW]; · iexact HW
    iexact Hmw
  iintro ⟨HT, H1, HW⟩
  isplitl [HT]; · iexact HT
  isplitl [H0]; · iexact H0
  isplitl [H1]; · iexact H1
  isplitl [HW]; · iexact HW
  iexact Hmw

end

end Cert.Proof

end
-- ==== Proof.Task.lean ====
/-
  A task, from what it is given to what it gives back.

  A task is given a share of the table and of the codes and its own rows of the result; it finds its buffers and semaphores
  among those the launch keeps for its subcore. It gives back the shares and its rows holding `outVal`.
-/
module

public import proofs.«01_k».proof.Proof.Tile

@[expose] public section

noncomputable section

namespace Cert.Proof

open Cert.KernelIdeal Cert.KernelIdeal.Gen

open Idealize.ShloMosaic Idealize.ShloMosaic.ValueIdx Idealize.ShloMosaic.Transfers
open Idealize.ShloMosaic.SparseCore (S V T)
open Idealize.ShloMosaic.SparseCore.Cfg
open Idealize.SL Idealize.SL.RA
open Idealize.SL.BI (sProp Storable bigSep bigSep_congr bigSep_mono)
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The task's own buffers and semaphores -/

section

variable (d : Dev nD) (L : grid0.Coords)

/-- The task's six semaphores and six buffers. -/
def taskSems : Finset (SemLoc sig) :=
  {SemLoc.dma cc0_scratch6.sem, SemLoc.dma cc0_scratch7.sem, SemLoc.dma cc0_scratch8.sem, SemLoc.dma cc0_scratch9.sem, SemLoc.dma cc0_scratch10.sem, SemLoc.dma cc0_scratch11.sem}
def taskRefs : Finset (Ref sig .scVector) := {cc0_scratch0, cc0_scratch1, cc0_scratch2, cc0_scratch3, cc0_scratch4, cc0_scratch5}

def semCell (thr : Thread nD τ) : SemLoc sig ↪ GSem nD τ sig := ⟨fun s => (thr, s), fun _ _ h => (Prod.mk.inj h).2⟩
def refAt (p : Proc τ) : Ref sig p.kind ↪ DevRef τ sig := ⟨p.devRef, Proc.devRef_injective p⟩

theorem taskSems_scoped : ∀ s ∈ taskSems, s.isScoped .scVector = true := by decide

theorem taskSems_sub : taskSems.map (semCell (V d (cV L) (jV L))) ⊆ ownCells (V d (cV L) (jV L)) := by
  intro g hg
  obtain ⟨s, hs, rfl⟩ := Finset.mem_map.mp hg
  exact mem_ownCells.mpr ⟨rfl, taskSems_scoped s hs⟩

theorem taskRefs_owner : ∀ b ∈ taskRefs, ((Proc.scVector (cV L) (jV L)).devRef b).owner = .proc (Proc.scVector (cV L) (jV L)) := by
  intro b hb
  fin_cases hb <;> rfl

theorem taskRefs_sub : taskRefs.map (refAt (Proc.scVector (cV L) (jV L))) ⊆ ownRefs (τ := τ) (sig := sig) (.scVector (cV L) (jV L)) := by
  intro g hg
  obtain ⟨b, hb, rfl⟩ := Finset.mem_map.mp hg
  exact mem_ownRefs_of_owner (taskRefs_owner L b hb)

/-- What the launch keeps for the subcore besides the task's semaphores, and besides its buffers. -/
def otherSems : sProp 𝕄 := bigSep (ownCells (V d (cV L) (jV L)) \ taskSems.map (semCell (V d (cV L) (jV L)))) fun g => semVal g 0
def otherBufs : sProp 𝕄 := bigSep (ownRefs (τ := τ) (.scVector (cV L) (jV L)) \ taskRefs.map (refAt (Proc.scVector (cV L) (jV L)))) fun b => iprop(∃ f, ((d, b) : Loc nD τ sig) ↦{fullShare} f)

theorem ownSems0_V :
    (ownSems0 (V d (cV L) (jV L)) : sProp 𝕄)
      = iprop((semVal (V d (cV L) (jV L), .dma cc0_scratch6.sem) 0 ∗ semVal (V d (cV L) (jV L), .dma cc0_scratch7.sem) 0 ∗ semVal (V d (cV L) (jV L), .dma cc0_scratch8.sem) 0
          ∗ semVal (V d (cV L) (jV L), .dma cc0_scratch9.sem) 0 ∗ semVal (V d (cV L) (jV L), .dma cc0_scratch10.sem) 0 ∗ semVal (V d (cV L) (jV L), .dma cc0_scratch11.sem) 0)
          ∗ otherSems (F := F) d L) := by
  unfold ownSems0 otherSems
  rw [SparseCore.bigSep_sdiff_split' (taskSems_sub d L), BI.bigSep_map, taskSems,
    SparseCore.bigSep_insert' (by decide), SparseCore.bigSep_insert' (by decide), SparseCore.bigSep_insert' (by decide), SparseCore.bigSep_insert' (by decide),
    SparseCore.bigSep_insert' (by decide), BI.bigSep_singleton]
  rfl

omit d L in
theorem bigSep_taskRefs (Φ : Ref sig .scVector → sProp 𝕄) :
    bigSep taskRefs Φ = iprop(Φ cc0_scratch0 ∗ Φ cc0_scratch1 ∗ Φ cc0_scratch2 ∗ Φ cc0_scratch3 ∗ Φ cc0_scratch4 ∗ Φ cc0_scratch5) := by
  rw [taskRefs, SparseCore.bigSep_insert' (by decide), SparseCore.bigSep_insert' (by decide), SparseCore.bigSep_insert' (by decide), SparseCore.bigSep_insert' (by decide),
    SparseCore.bigSep_insert' (by decide), BI.bigSep_singleton]

theorem ownBufs_V :
    (ownBufs (V d (cV L) (jV L)) : sProp 𝕄)
      = iprop(((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f) ∗ (∃ f, (V d (cV L) (jV L)).loc cc0_scratch5 ↦{fullShare} f))
          ∗ otherBufs (F := F) d L) := by
  unfold ownBufs otherBufs
  refine (SparseCore.bigSep_sdiff_split' (taskRefs_sub L)).trans ?_
  rw [BI.bigSep_map, bigSep_taskRefs]
  rfl

/-- A buffer held whole is held on its view's elements. -/
theorem whole_pts (b : Ref sig .scVector) :
    (iprop(∃ f, (V d (cV L) (jV L)).loc b ↦{fullShare} f) : sProp 𝕄)
      = iprop(∃ f, (Memref.whole b).view.loc (V d (cV L) (jV L)) ↦[(Memref.whole b).view.set]{fullShare} f) := by
  have h : (Memref.whole b).view.set = Finset.univ := View.set_whole _
  rw [h]

end

/-! ## The task's rows -/

/-- The rows of the result task `w` writes. -/
def tileRows (w : ℕ) : Finset S100000x128.Idx := Finset.univ.filter fun y => (y 0).val / 400 % 32 = w

theorem tileRows_todo {w : ℕ} (hw : w < 32) : tileRows w = rowsTodo w 0 ∪ rowsTodo (w + 32) 0 := by
  ext y
  simp only [tileRows, rowsTodo, Finset.mem_union, Finset.mem_filter, Finset.mem_univ, true_and]
  have h0 : 0 ≤ (y 0).val / 400 / 64 := Nat.zero_le _
  omega
theorem tileRows_done {w : ℕ} (hw : w < 32) : tileRows w = rowsDone w 4 ∪ rowsDone (w + 32) 4 := by
  ext y
  have h0 : (y 0).val < 100000 := (y 0).isLt
  simp only [tileRows, rowsDone, Finset.mem_union, Finset.mem_filter, Finset.mem_univ, true_and]
  generalize (y 0).val = n at *
  omega
theorem todo_disjoint (w : ℕ) : Disjoint (rowsTodo w 0) (rowsTodo (w + 32) 0) := by
  refine Finset.disjoint_left.mpr fun y hy hy' => ?_
  have h1 := (Finset.mem_filter.mp hy).2.1
  have h2 := (Finset.mem_filter.mp hy').2.1
  omega
theorem done_disjoint (w : ℕ) : Disjoint (rowsDone w 4) (rowsDone (w + 32) 4) := by
  refine Finset.disjoint_left.mpr fun y hy hy' => ?_
  have h1 := (Finset.mem_filter.mp hy).2.1
  have h2 := (Finset.mem_filter.mp hy').2.1
  omega

section

variable [FloatOps F] (d : Dev nD) (L : grid0.Coords)
variable (q qc : PosShare TreeShare) (fT : Buf (Elt F) (tLoc d)) (fc : Buf (Elt F) (cLoc d)) (f₀ : Buf (Elt F) (oLoc d))

theorem halfDone (mI : Memref sig .scVector .vmem S416 .i32) (mL : Memref sig .scVector .vmem S5x80 .i32) (mR : Memref sig .scVector .vmem S400x128 .f32)
    (semI semG semO : DmaSem sig) (a : ℕ) :
    Half d L mI mL mR semI semG semO qc fT fc f₀ a 4
      ⊢ (iprop(FetchIdle d L mI semI qc fc ∗ (∃ f, mL.view.loc (V d (cV L) (jV L)) ↦[mL.view.set]{fullShare} f)
        ∗ semVal ((V d (cV L) (jV L)), .dma semG) 0 ∗ Sending d L mR semO fT fc (rowsDone a 4)) : sProp 𝕄) := by
  unfold Half FetchSt SendSt
  rw [if_neg (by omega), if_neg (by omega)]
  iintro ⟨HF, HL, HG, HS, -⟩
  isplitl [HF]; · iexact HF
  isplitl [HL]; · iexact HL
  isplitl [HG]; · iexact HG
  iexact HS

/-- The loop done. -/
theorem loopDone (O : CellTallies nD τ sig (HIx 1)) (W : Waits sig (HIx 1)) (acc : PUnit) :
    LoopInv d L q qc.left qc.right fT fc f₀ O W 4 acc
      ⊢ (iprop((tabW.view.loc (V d (cV L) (jV L)) ↦[tabW.view.set]{q} fT)
        ∗ (FetchIdle d L mI0 cc0_scratch6.sem qc.left fc ∗ (∃ f, mL0.view.loc (V d (cV L) (jV L)) ↦[mL0.view.set]{fullShare} f)
          ∗ semVal ((V d (cV L) (jV L)), .dma cc0_scratch8.sem) 0 ∗ Sending d L mR0 cc0_scratch10.sem fT fc (rowsDone (wid L) 4))
        ∗ (FetchIdle d L mI1 cc0_scratch7.sem qc.right fc ∗ (∃ f, mL1.view.loc (V d (cV L) (jV L)) ↦[mL1.view.set]{fullShare} f)
          ∗ semVal ((V d (cV L) (jV L)), .dma cc0_scratch9.sem) 0 ∗ Sending d L mR1 cc0_scratch11.sem fT fc (rowsDone (wid L + 32) 4))
        ∗ Waiting (V d (cV L) (jV L)) O W) : sProp 𝕄) := by
  unfold LoopInv
  iintro ⟨HT, H0, H1, HW, -⟩
  isplitl [HT]; · iexact HT
  isplitl [H0]; · iapply (halfDone d L qc.left fT fc f₀ mI0 mL0 mR0 cc0_scratch6.sem cc0_scratch8.sem cc0_scratch10.sem (wid L)) $$ H0
  isplitl [H1]; · iapply (halfDone d L qc.right fT fc f₀ mI1 mL1 mR1 cc0_scratch7.sem cc0_scratch9.sem cc0_scratch11.sem (wid L + 32)) $$ H1
  iexact HW

set_option maxHeartbeats 4000000 in
/-- The task on vector subcore `(L 0, L 1)` of device `d`. -/
theorem tile_body (hfc : ∀ x, (fc x : BitVec 32).toNat < 512) (O : CellTallies nD τ sig (HIx 1)) (W : Waits sig (HIx 1)) (hO : ∀ g, O g none = 0) :
    (iprop(levAts (K (F := F)).L (K (F := F)).lev ∗ emp
        ∗ ((tLoc d ↦{q} fT) ∗ (cLoc d ↦{qc} fc) ∗ (oLoc d ↦[tileRows (wid L)]{fullShare} f₀))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_body L tabV (Memref.isWhole_whole _) codV (Memref.isWhole_whole _) outV (Memref.isWhole_whole _) mI0 (Memref.isWhole_whole _) mI1 (Memref.isWhole_whole _)
            mL0 (Memref.isWhole_whole _) mL1 (Memref.isWhole_whole _) mR0 (Memref.isWhole_whole _) mR1 (Memref.isWhole_whole _)
            cc0_scratch6 cc0_scratch7 cc0_scratch8 cc0_scratch9 cc0_scratch10 cc0_scratch11)
          fun _ => iprop(((tLoc d ↦{q} fT) ∗ (cLoc d ↦{qc} fc) ∗ (oLoc d ↦[tileRows (wid L)]{fullShare} outVal fT fc))
            ∗ scopedBufs (V d (cV L) (jV L)) ∗ scopedSems0 (V d (cV L) (jV L))
            ∗ ∃ W', ⌜∀ p ∈ W', p ∈ W ∨ p.2 = none⌝ ∗ owes (V d (cV L) (jV L)) O W') := by
  have hw := wid_lt L
  rw [body_eq, (K (F := F)).scopedBufs_V facts d (cV L) (jV L), SparseCore.Cfg.scopedSems0_V (Val := Elt F) d (cV L) (jV L), ownSems0_V, ownBufs_V,
    whole_pts d L cc0_scratch0, whole_pts d L cc0_scratch1, whole_pts d L cc0_scratch2, whole_pts d L cc0_scratch3, whole_pts d L cc0_scratch4, whole_pts d L cc0_scratch5]
  unfold taskText
  simp only [wp_bind, Prog.lift]
  have hW0 : (owes (V d (cV L) (jV L)) O W : sProp 𝕄) ⊢ Waiting (V d (cV L) (jV L)) O W := by
    unfold Waiting
    iintro H
    iexists W
    isplitr; · ipureintro; exact fun p hp => .inl hp
    iexact H
  iintro ⟨#Hlv, -, ⟨HT, HC, HO⟩, ⟨⟨HI0, HI1, HL0, HL1, HR0, HR1⟩, Hbufs⟩, ⟨⟨S6, S7, S8, S9, S10, S11⟩, Hsems⟩, HOw⟩
  ihave Hmw := (show levAts (K (F := F)).L (K (F := F)).lev ⊢ Transfers.MayWaits (V d (cV L) (jV L)) (default : HIx 1) O from
    (K (F := F)).mayWaits_none (thr := V d (cV L) (jV L)) hO) $$ Hlv
  icases Hmw with #Hmw
  ihave HW := hW0 $$ HOw
  -- the shares: the table's elements the gathers name, the codes' share in two
  ihave HT' := (pointsTo_split_subset (q := q) (f := fT) (S := Finset.univ) (Finset.subset_univ tabW.view.set)).1 $$ HT
  icases HT' with ⟨HT, HTrest⟩
  ihave HC' := (pointsTo_share (PosShare.mem_left_op_right qc)).1 $$ HC
  icases HC' with ⟨HC0, HC1⟩
  rw [tileRows_todo hw]
  ihave HO' := (pointsTo_union (q := fullShare) (f := f₀) (todo_disjoint (wid L))).1 $$ HO
  icases HO' with ⟨HO0, HO1⟩
  -- the first fetch of either half
  iapply (wp_fetch d L mI0 cc0_scratch6.sem qc.left fc (off1_at0 L) (by omega) (k0_off1_inb L 0)) $$ [HI0 S6 HC0]
  · unfold FetchIdle
    isplitl [HI0]; · iexact HI0
    isplitl [S6]; · iexact S6
    iexact HC0
  iintro HF0
  rw [wp_ret]; imodintro
  iapply (wp_fetch d L mI1 cc0_scratch7.sem qc.right fc (off1_at1 L) (by omega) (k0_off1_inb L 1)) $$ [HI1 S7 HC1]
  · unfold FetchIdle
    isplitl [HI1]; · iexact HI1
    isplitl [S7]; · iexact S7
    iexact HC1
  iintro HF1
  rw [wp_ret]; imodintro
  -- the loop
  iapply (Scf.wp_for frame (wpE (defs₀ (F := F)) 𝒱₀ (V d (cV L) (jV L)) none) Set.univ k0_t1_loop.lb k0_t1_loop.ub k0_t1_loop.st k0_t1_ok ⟨⟩ (fun t _ => trip L t)
    (LoopInv d L q qc.left qc.right fT fc f₀ O W) (wp_trip d L q qc.left qc.right fT fc f₀ hfc O W))
  isplitr [HTrest Hbufs Hsems]
  · unfold LoopInv Half0 Half1 Half FetchSt SendSt
    rw [if_pos (show wid L + 64 * 0 < 250 by omega), if_pos (show wid L + 32 + 64 * 0 < 250 by omega)]
    simp only [ite_true]
    unfold SendIdle
    rw [rowsDone_zero, rowsDone_zero, pointsTo_empty]
    isplitl [HT]; · iexact HT
    isplitl [HF0 HL0 S8 HR0 S10 HO0]
    · isplitl [HF0]; · iexact HF0
      isplitl [HL0]; · iexact HL0
      isplitl [S8]; · iexact S8
      isplitl [HR0 S10]
      · isplitl [HR0]; · iexact HR0
        isplitl [S10]; · iexact S10
        iempintro
      iexact HO0
    isplitl [HF1 HL1 S9 HR1 S11 HO1]
    · isplitl [HF1]; · iexact HF1
      isplitl [HL1]; · iexact HL1
      isplitl [S9]; · iexact S9
      isplitl [HR1 S11]
      · isplitl [HR1]; · iexact HR1
        isplitl [S11]; · iexact S11
        iempintro
      iexact HO1
    isplitl [HW]; · iexact HW
    iexact Hmw
  iintro %acc HI
  rw [show Scf.trips k0_t1_loop.lb k0_t1_loop.ub k0_t1_loop.st = 4 from trips_eq]
  ihave HI' := (loopDone d L q qc fT fc f₀ O W acc) $$ HI
  icases HI' with ⟨HT, ⟨HF0, HL0, S8, HS0⟩, ⟨HF1, HL1, S9, HS1⟩, HW⟩
  -- the last rows of either half
  iapply (wp_sent d L mR0 cc0_scratch10.sem fT fc (hR := Memref.isWhole_whole _) inb_S100000x128_S400x128_0_0) $$ [HS0 HW]
  · isplitl [HS0]; · iexact HS0
    isplitl [HW]; · iexact HW
    iexact Hmw
  iintro ⟨HS0, HW⟩
  rw [wp_ret]; imodintro
  iapply (wp_sent d L mR1 cc0_scratch11.sem fT fc (hR := Memref.isWhole_whole _) inb_S100000x128_S400x128_0_0) $$ [HS1 HW]
  · isplitl [HS1]; · iexact HS1
    isplitl [HW]; · iexact HW
    iexact Hmw
  iintro ⟨HS1, HW⟩
  rw [wp_ret]; imodintro
  rw [wp_pure]; imodintro
  unfold SendIdle FetchIdle
  icases HS0 with ⟨HR0, S10, HO0⟩
  icases HS1 with ⟨HR1, S11, HO1⟩
  icases HF0 with ⟨HI0, S6, HC0⟩
  icases HF1 with ⟨HI1, S7, HC1⟩
  rw [← tileRows_todo hw, tileRows_done hw]
  isplitl [HT HTrest HC0 HC1 HO0 HO1]
  · isplitl [HT HTrest]
    · iapply (pointsTo_split_subset (q := q) (f := fT) (S := Finset.univ) (Finset.subset_univ tabW.view.set)).2
      isplitl [HT]; · iexact HT
      iexact HTrest
    isplitl [HC0 HC1]
    · iapply (pointsTo_share (PosShare.mem_left_op_right qc)).2
      isplitl [HC0]; · iexact HC0
      iexact HC1
    iapply (pointsTo_union (q := fullShare) (f := outVal fT fc) (done_disjoint (wid L))).2
    isplitl [HO0]; · iexact HO0
    iexact HO1
  isplitl [HI0 HI1 HL0 HL1 HR0 HR1 Hbufs]
  · isplitr [Hbufs]
    · isplitl [HI0]; · iexact HI0
      isplitl [HI1]; · iexact HI1
      isplitl [HL0]; · iexact HL0
      isplitl [HL1]; · iexact HL1
      isplitl [HR0]; · iexact HR0
      iexact HR1
    iexact Hbufs
  isplitl [S6 S7 S8 S9 S10 S11 Hsems]
  · isplitr [Hsems]
    · isplitl [S6]; · iexact S6
      isplitl [S7]; · iexact S7
      isplitl [S8]; · iexact S8
      isplitl [S9]; · iexact S9
      isplitl [S10]; · iexact S10
      iexact S11
    iexact Hsems
  iapply (Waiting.elim (F := F) (V d (cV L) (jV L)) O W) $$ HW

end

end Cert.Proof

end
-- ==== Proof.Launch.lean ====
/-
  The launch: the whole program's run, from its tasks.

  The three operands of the call are dealt to the two SparseCores and on to their subcores: the table and the codes in
  equal shares, the result by rows (`whole_deal`, `core_deal`). The TensorCore runs the operations before the call, the
  call itself and the operations after it over its arrays (`hmain`); `run_of` says what every array holds at the end, for
  any way of writing the TensorCore's program as two lists of operations around the call.
-/
module

public import proofs.«01_k».proof.Proof.Task
public import Idealize.ShloMosaic.Lib.Pipeline.Frame

@[expose] public section

noncomputable section

namespace Cert.Proof

open Cert.KernelIdeal Cert.KernelIdeal.Gen

open Idealize.ShloMosaic Idealize.ShloMosaic.ValueIdx Idealize.ShloMosaic.Transfers
open Idealize.ShloMosaic.SparseCore (S V T)
open Idealize.ShloMosaic.SparseCore.Cfg
open Idealize.ShloMosaic.StableHlo (seq after held)
open Idealize.ShloMosaic.Pipeline (ucRefs)
open Idealize.ShloMosaic.Rounds
open Idealize.SL Idealize.SL.RA
open Idealize.SL.BI (sProp Storable bigSep bigSep_congr bigSep_mono)
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## The rows dealt -/

/-- The rows of the result SparseCore `c`'s tasks write. -/
def coreRows (c : ℕ) : Finset S100000x128.Idx := Finset.univ.filter fun y => (y 0).val / 400 % 32 / 16 = c

theorem coreRows_tasks (c : Fin 2) : (Finset.univ : Finset (Fin 16)).biUnion (fun i => tileRows (16 * c.val + i.val)) = coreRows c.val := by
  ext y
  simp only [tileRows, coreRows, Finset.mem_biUnion, Finset.mem_filter, Finset.mem_univ, true_and]
  constructor
  · rintro ⟨i, hi⟩
    have := i.isLt
    omega
  · intro h
    exact ⟨⟨(y 0).val / 400 % 32 % 16, Nat.mod_lt _ (by norm_num)⟩, by dsimp only; omega⟩
theorem coreRows_cover : (Finset.univ : Finset (Fin 2)).biUnion (fun c => coreRows c.val) = Finset.univ := by
  ext y
  simp only [coreRows, Finset.mem_biUnion, Finset.mem_filter, Finset.mem_univ, true_and, iff_true]
  exact ⟨⟨(y 0).val / 400 % 32 / 16, by omega⟩, rfl⟩
theorem tasks_disjoint (c : Fin 2) : ∀ i ∈ (Finset.univ : Finset (Fin 16)), ∀ j ∈ (Finset.univ : Finset (Fin 16)), i ≠ j →
    Disjoint (tileRows (16 * c.val + i.val)) (tileRows (16 * c.val + j.val)) := by
  intro i _ j _ h
  refine Finset.disjoint_left.mpr fun y hy hy' => h (Fin.ext ?_)
  have h1 := (Finset.mem_filter.mp hy).2
  have h2 := (Finset.mem_filter.mp hy').2
  omega
theorem cores_disjoint : ∀ i ∈ (Finset.univ : Finset (Fin 2)), ∀ j ∈ (Finset.univ : Finset (Fin 2)), i ≠ j →
    Disjoint (coreRows i.val) (coreRows j.val) := by
  intro i _ j _ h
  refine Finset.disjoint_left.mpr fun y hy hy' => h (Fin.ext ?_)
  have h1 := (Finset.mem_filter.mp hy).2
  have h2 := (Finset.mem_filter.mp hy').2
  omega

/-! ## The operands dealt -/

/-- A SparseCore's share of the operands it only reads, and a task's of that. -/
def coreQ (c : Fin 2) : PosShare TreeShare := Idealize.ShloMosaic.pieceOf fullShare 2 (by norm_num) c
def taskQ (c : Fin 2) (i : Fin 16) : PosShare TreeShare := Idealize.ShloMosaic.pieceOf (coreQ c) 16 (by norm_num) i

section Deal

variable (d : Dev nD) (fT : Buf (Elt F) (tLoc d)) (fc : Buf (Elt F) (cLoc d)) (f : Buf (Elt F) (oLoc d))

/-- The operands whole; what a SparseCore has of them; what a task has of them. -/
def wholePts : sProp 𝕄 := iprop((tLoc d ↦{fullShare} fT) ∗ (cLoc d ↦{fullShare} fc) ∗ (oLoc d ↦{fullShare} f))
def corePts (c : Fin 2) : sProp 𝕄 := iprop((tLoc d ↦{coreQ c} fT) ∗ (cLoc d ↦{coreQ c} fc) ∗ (oLoc d ↦[coreRows c.val]{fullShare} f))
def taskPts (c : Fin 2) (i : Fin 16) : sProp 𝕄 :=
  iprop((tLoc d ↦{taskQ c i} fT) ∗ (cLoc d ↦{taskQ c i} fc) ∗ (oLoc d ↦[tileRows (16 * c.val + i.val)]{fullShare} f))

instance corePts_storable (c : Fin 2) : Storable (upEmb : UEmb _ 𝕄) (corePts d fT fc f c) := by unfold corePts; infer_instance
instance taskPts_storable (c : Fin 2) (i : Fin 16) : Storable (upEmb : UEmb _ 𝕄) (taskPts d fT fc f c i) := by unfold taskPts; infer_instance

theorem core_deal (c : Fin 2) : (corePts d fT fc f c : sProp 𝕄) = bigSep Finset.univ fun i : Fin 16 => taskPts d fT fc f c i := by
  unfold corePts taskPts taskQ
  rw [BI.bigSep_sep', BI.bigSep_sep', ← Idealize.ShloMosaic.pointsTo_piecesOf, ← Idealize.ShloMosaic.pointsTo_piecesOf,
    ← pointsTo_biUnion Finset.univ (ℓ := oLoc d) (fun i : Fin 16 => tileRows (16 * c.val + i.val)) (tasks_disjoint c), coreRows_tasks]

theorem whole_deal : (wholePts d fT fc f : sProp 𝕄) = bigSep Finset.univ fun c : Fin 2 => corePts d fT fc f c := by
  unfold wholePts corePts coreQ
  rw [BI.bigSep_sep', BI.bigSep_sep', ← Idealize.ShloMosaic.pointsTo_piecesOf, ← Idealize.ShloMosaic.pointsTo_piecesOf,
    ← pointsTo_biUnion Finset.univ (ℓ := oLoc d) (fun c : Fin 2 => coreRows c.val) cores_disjoint, coreRows_cover]
  try rfl

end Deal

/-! ## What the launch carries, and the tasks' obligation -/

abbrev t' : DevRef τ sig := Proc.devRef .tc (main_v58 : Ref sig .tc)
abbrev c' : DevRef τ sig := Proc.devRef .tc (main_v67 : Ref sig .tc)
abbrev o' : DevRef τ sig := Proc.devRef .tc (main_v68 : Ref sig .tc)

section Run

variable [FloatOps F] (U : Dev nD → Valuation τ sig (Elt F))

/-- What the call leaves in its result, from the arrays' contents at the call. -/
def callOut (d : Dev nD) : Buf (Elt F) (oLoc d) := outVal (U d t') (U d c')

def pay : (K (F := F)).Pay (nD := nD) (Val := Elt F) (Name := ℕ) (U := UU) where
  st := fun q d c => match q with | 0 => corePts d (U d t') (U d c') (U d o') c
  dn := fun q d c => match q with | 0 => corePts d (U d t') (U d c') (callOut U d) c
  go := fun q d c i => match q with | 0 => taskPts d (U d t') (U d c') (U d o') c i
  td := fun q d c i => match q with | 0 => taskPts d (U d t') (U d c') (callOut U d) c i
  x := fun _ _ => iprop(emp)

instance pay_storable : (pay (F := F) U).IsStorable where
  st q d c := match q with | 0 => corePts_storable d (U d t') (U d c') (U d o') c
  dn q d c := match q with | 0 => corePts_storable d (U d t') (U d c') (callOut U d) c
  go q d c i := match q with | 0 => taskPts_storable d (U d t') (U d c') (U d o') c i
  td q d c i := match q with | 0 => taskPts_storable d (U d t') (U d c') (callOut U d) c i

/-- The task's place from its SparseCore and its subcore. -/
def taskAt (c : Fin (grid0.bound 0)) (s : Fin (grid0.bound 1)) : grid0.Coords :=
  fun | 0 => c | 1 => s | ⟨_ + 2, h⟩ => absurd h (Nat.not_lt.2 (Nat.le_add_left _ _))

theorem defs₀_task (c : Fin τ.nSC) (s : Fin τ.nSub) :
    defs₀ (F := F) (.scVector c s) 0 ()
      = SparseCore.onTile hcore0 hsub0 (fun c s => cc0_body (taskAt c s)
          tabV (Memref.isWhole_whole _) codV (Memref.isWhole_whole _) outV (Memref.isWhole_whole _) mI0 (Memref.isWhole_whole _) mI1 (Memref.isWhole_whole _)
          mL0 (Memref.isWhole_whole _) mL1 (Memref.isWhole_whole _) mR0 (Memref.isWhole_whole _) mR1 (Memref.isWhole_whole _)
          cc0_scratch6 cc0_scratch7 cc0_scratch8 cc0_scratch9 cc0_scratch10 cc0_scratch11) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hU : ∀ d x, (U d c' x : BitVec 32).toNat < 512) : (K (F := F)).TileObl (D (F := F)) 𝒱 (pay U) v₀ 0 := by
  intro d c i O W hO _ _
  simp only [show (pay U).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_task]; simp only [SparseCore.onTile, hci, and_self, ↓reduceDIte]
  exact (tile_body d (taskAt ⟨_, hci.1⟩ ⟨_, hci.2⟩) (taskQ c i) (taskQ c i) (U d t') (U d c') (U d o') (hU d) O W hO).trans
    (wp_mono frame _ _ fun _ => obl_post)

theorem vecSplit : (K (F := F)).VecSplit' (pay U) 0 := by
  intro d c
  show (corePts d (U d t') (U d c') (U d o') c : sProp 𝕄) ⊢ |={Set.univ}=> iprop(
      (bigSep Finset.univ fun i : Fin 16 => taskPts d (U d t') (U d c') (U d o') c i)
      ∗ ((bigSep Finset.univ fun i : Fin 16 => taskPts d (U d t') (U d c') (callOut U d) c i)
          -∗ corePts d (U d t') (U d c') (callOut U d) c))
  rw [← core_deal, ← core_deal]
  iintro H; imodintro
  isplitl [H]; · iexact H
  iintro H; iexact H

def u₀ : UU := (initOf (K (F := F)).hsCells (K (F := F)).hsToks, 1)

theorem bigSep_emp' {I : Type} (s : Finset I) : (bigSep s fun _ => iprop(emp)) = (iprop(emp) : sProp 𝕄) := BI.bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (pay (F := F) U).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (pay (F := F) U).x q thr) = bigSep Finset.univ fun _ => iprop(emp) from
    bigSep_congr fun _ _ => BI.bigSep_univ_of_subsingleton (0 : Fin 1), bigSep_emp']
  iempintro

theorem st0_eq (d : Dev nD) : (bigSep Finset.univ fun c : Fin ((K (F := F)).nCore 0) => (pay U).st 0 d c)
    = (wholePts d (U d t') (U d c') (U d o') : sProp 𝕄) := (whole_deal d _ _ _).symm
theorem dn0_eq (d : Dev nD) : (bigSep Finset.univ fun c : Fin ((K (F := F)).nCore 0) => (pay U).dn 0 d c)
    = (wholePts d (U d t') (U d c') (callOut U d) : sProp 𝕄) := (whole_deal d _ _ _).symm

/-! ## The TensorCore's program -/

/-- The call's three operands. -/
def S3 : Finset (DevRef τ sig) := {t', c', o'}

theorem S3_sub : S3 ⊆ ucRefs τ sig := by
  intro b hb
  simp only [S3, Finset.mem_insert, Finset.mem_singleton] at hb
  have hm : ∀ r : Ref sig .tc, r.isScoped = false → (Proc.devRef .tc r : DevRef τ sig) ∈ ucRefs τ sig := fun r hr =>
    Finset.mem_filter.mpr ⟨Finset.mem_map_of_mem _ (Finset.mem_univ r), fun h => Bool.false_ne_true (hr.symm.trans h)⟩
  rcases hb with rfl | rfl | rfl
  · exact hm main_v58 rfl
  · exact hm main_v67 rfl
  · exact hm main_v68 rfl

theorem t_ne_c : t' ≠ c' := by decide
theorem t_ne_o : t' ≠ o' := by decide
theorem c_ne_o : c' ≠ o' := by decide

theorem held_S3 (d : Dev nD) (W : Valuation τ sig (Elt F)) :
    (held (SparseCore.T d) S3 W : sProp 𝕄) = wholePts d (W t') (W c') (W o') := by
  unfold held S3 wholePts
  rw [SparseCore.bigSep_insert' (by simp only [Finset.mem_insert, Finset.mem_singleton, not_or]; exact ⟨t_ne_c, t_ne_o⟩),
    SparseCore.bigSep_insert' (by simp only [Finset.mem_singleton]; exact c_ne_o), BI.bigSep_singleton]

/-- The arrays once the call has run. -/
def atCall (d : Dev nD) : Valuation τ sig (Elt F) := Function.update (U d) o' (callOut U d)

theorem held_atCall (d : Dev nD) :
    (held (SparseCore.T d) (ucRefs τ sig) (atCall U d) : sProp 𝕄)
      = iprop(wholePts d (U d t') (U d c') (callOut U d) ∗ held (SparseCore.T d) (ucRefs τ sig \ S3) (U d)) := by
  rw [StableHlo.held_sub_split _ S3_sub, held_S3]
  have h1 : atCall U d t' = U d t' := Function.update_of_ne t_ne_o _ _
  have h2 : atCall U d c' = U d c' := Function.update_of_ne c_ne_o _ _
  have h3 : atCall U d o' = callOut U d := Function.update_self _ _ _
  rw [h1, h2, h3]
  rw [StableHlo.held_congr (SparseCore.T d) (V := atCall U d) (V' := U d) fun b hb => ?_]
  have hb' : b ≠ o' := fun h => (Finset.mem_sdiff.mp hb).2 (h ▸ by simp only [S3, Finset.mem_insert, Finset.mem_singleton, or_true])
  exact Function.update_of_ne hb' _ _

end Run

section Main

variable [FloatOps F] (m : (ℓ : Loc nD τ sig) → Buf (Elt F) ℓ) (ρ : Dev nD → PrngReg)
variable (ops₁ ops₂ : List (HloOp τ sig (Elt F)))

/-- The arrays' contents at the call, and at the end. -/
def U₁ (d : Dev nD) : Valuation τ sig (Elt F) := after ops₁ (fun b => m (d, b))
def U₂ (d : Dev nD) : Valuation τ sig (Elt F) := after ops₂ (atCall (U₁ m ops₁) d)

abbrev FIN (d : Dev nD) : sProp 𝕄 := held (SparseCore.T d) (ucRefs τ sig) (U₂ m ops₁ ops₂ d)

set_option backward.isDefEq.respectTransparency.types false in
theorem hmain (hm : ∀ d, main d = (seq ops₁ >>= fun _ => (K (F := F)).run d 0 >>= fun _ => seq ops₂ >>= fun _ => Prog.ret ⟨⟩))
    (hS₁ : ∀ op ∈ ops₁, op.bufs ⊆ ucRefs τ sig) (hS₂ : ∀ op ∈ ops₂, op.bufs ⊆ ucRefs τ sig)
    (hf₁ : ∀ op ∈ ops₁, op.fresh = ∅) (hf₂ : ∀ op ∈ ops₂, op.fresh = ∅)
    (κ : GSem nD τ sig → ℕ) (d : Dev nD) :
    (iprop((K (F := F)).ctx EH (pay (U₁ m ops₁)) κ ∗ (K (F := F)).tcSt EH d 0 ∗ (K (F := F)).tcRes m ρ d ∗ emp) : sProp 𝕄)
      ⊢ wp frame (wpE ((K (F := F)).defs (D (F := F))) 𝒱 (SparseCore.T d) none) Set.univ (main d)
          fun _ => iprop((K (F := F)).tcSt EH d 1 ∗ FIN m ops₁ ops₂ d ∗ (K (F := F)).tcEnd d) := by
  unfold SparseCore.Cfg.tcRes SparseCore.Cfg.tcEnd
  rw [hm, Pipeline.unscopedBufs_held d (fun b => m (d, b))]
  iintro ⟨#Hctx, Hst, ⟨Hb, Hheld, Hts, -⟩, -⟩
  iapply (StableHlo.wp_seq 𝒱 none Set.univ d (ucRefs τ sig) _ ops₁ hS₁ hf₁ _) $$ [Hb Hheld]
  · isplitl [Hb]; · iexact Hb
    iexact Hheld
  iintro ⟨Hb, Hheld⟩
  rw [wp_bind]
  ihave Hh := (Entails.of_eq (StableHlo.held_sub_split (Val := Elt F) _ S3_sub _)) $$ Hheld
  icases Hh with ⟨H3, Hrest⟩
  ihave H3 := (Entails.of_eq (held_S3 (F := F) d _)) $$ H3
  iapply ((K (F := F)).wp_run (D (F := F)) 𝒱 (EH := EH) (P := pay (U₁ m ops₁)) κ d 0) $$ [Hst H3 Hrest Hb Hts]
  isplitr; · iexact Hctx
  isplitl [Hst]; · iexact Hst
  isplitl [H3]
  · rw [st0_eq]; iexact H3
  iintro ⟨Hst, Hdn⟩
  ihave Hdn := (Entails.of_eq (dn0_eq (U₁ m ops₁) d)) $$ Hdn
  ihave Hheld := (Entails.of_eq (held_atCall (U₁ m ops₁) d).symm) $$ [Hdn Hrest]
  · isplitl [Hdn]; · iexact Hdn
    iexact Hrest
  iapply (StableHlo.wp_seq 𝒱 none Set.univ d (ucRefs τ sig) _ ops₂ hS₂ hf₂ _) $$ [Hb Hheld]
  · isplitl [Hb]; · iexact Hb
    iexact Hheld
  iintro ⟨Hb, Hheld⟩
  rw [wp_ret]; imodintro
  isplitl [Hst]; · iexact Hst
  isplitl [Hheld]; · iexact Hheld
  isplitl [Hb] <;> iassumption

def fq (d : Dev nD) (s' : Phys nD τ sig (Elt F)) : Prop := ∀ b ∈ ucRefs τ sig, s'.mem.mem (d, b) = U₂ m ops₁ ops₂ d b

theorem hfin (d : Dev nD) (s' : Phys nD τ sig (Elt F)) : iprop(FIN m ops₁ ops₂ d ∗ SI s') ⊢ (⌜fq m ops₁ ops₂ d s'⌝ : sProp 𝕄) := by
  unfold FIN held
  iintro ⟨H, HSI⟩
  iapply (SI_pointsTo_bufs_agree (st := s') (c := d) (qs := fun _ => fullShare) (F := U₂ m ops₁ ops₂ d) (ucRefs τ sig)) $$ [HSI H]
  isplitl [HSI] <;> iassumption

def QC : PUnit × MemSt nD τ sig (Elt F) → Prop := fun r =>
  (∀ d : Dev nD, ∀ b ∈ ucRefs τ sig, r.2.mem (d, b) = U₂ m ops₁ ops₂ d b) ∧ r.2.sem = fun _ => 0

theorem run_of [∀ e, Nonempty (Elt F e)]
    (hm : ∀ d, main d = (seq ops₁ >>= fun _ => (K (F := F)).run d 0 >>= fun _ => seq ops₂ >>= fun _ => Prog.ret ⟨⟩))
    (hS₁ : ∀ op ∈ ops₁, op.bufs ⊆ ucRefs τ sig) (hS₂ : ∀ op ∈ ops₂, op.bufs ⊆ ucRefs τ sig)
    (hf₁ : ∀ op ∈ ops₁, op.fresh = ∅) (hf₂ : ∀ op ∈ ops₂, op.fresh = ∅)
    (hU : ∀ d x, (U₁ m ops₁ d c' x : BitVec 32).toNat < 512) :
    θ_run (Cert.KernelIdeal.defs (F := F)) (Cert.KernelIdeal.threads (F := F)) ⟨m, fun _ => 0, ρ⟩ (QC m ops₁ ops₂) :=
  SparseCore.Cfg.θ_run_sc_quiescent (K := K (F := F)) (D := D (F := F)) (𝒱 := 𝒱) (EH := EH) (P := pay (U₁ m ops₁)) (A := ∅) facts v₀
    (fun q hq => match q with | 0 => nomatch hq)
    (fun q _ => match q with | 0 => tileObl (U₁ m ops₁) hU)
    (fun q _ => match q with | 0 => SparseCore.Cfg.VecSplit.of_plain (vecSplit (U₁ m ops₁)))
    m ρ main (fun _ => iprop(emp)) (FIN m ops₁ ops₂) (u₀ (F := F)) (sep_elim_left.trans (hu₀ (U₁ m ops₁)))
    (hmain m ρ ops₁ ops₂ hm hS₁ hS₂ hf₁ hf₂) (fq m ops₁ ops₂) (hfin m ops₁ ops₂) (QC m ops₁ ops₂) (fun _ h hz => ⟨h, hz⟩)

end Main

end Cert.Proof

end
-- ==== Proof.Take.lean ====
/-
  Looking up rows of a table by an array of words.

  A look-up of `N` rows in a table of `R` rows of 128 is printed as seventeen array operations: negative words are moved up
  by `R`, rows are gathered with the word clamped into the table, and rows whose word was out of range are replaced by
  not-a-number. `takeVal` is what the last of them holds; where every word is a row number of the table it is the row the
  word names (`takeVal_apply`).
-/
module

public import proofs.«01_k».proof.Defs
public import Idealize.ShloMosaic.Lib.Routing.Ops
public import Idealize.ShloMosaic.Lib.ReduceAll
public import Idealize.ShloMosaic.Lib.ValueIdxCore

@[expose] public section

noncomputable section

namespace Cert.Proof

open Idealize.ShloMosaic Idealize.ShloMosaic.ValueIdx

variable {F : FTy → Type} [FloatOps F]

/-- The shapes of a look-up of `N` rows, as the program writes them. -/
abbrev sW (N : ℕ) : Shape := ⟨1, ![N]⟩
abbrev sC (N : ℕ) : Shape := ⟨2, ![N, 1]⟩
abbrev sR (N : ℕ) : Shape := ⟨2, ![N, 128]⟩
abbrev s0 : Shape := ⟨0, ![]⟩

/-- What the operations of a look-up of `N` rows ask of its shapes. -/
structure TakeFacts (N : ℕ) : Prop where
  b0 : s0.BroadcastsInDim (sW N) (![] : Fin 0 → Fin (sW N).rank)
  b1 : (sW N).BroadcastsInDim (sC N) (![0] : Fin 1 → Fin (sC N).rank)
  b2 : s0.BroadcastsInDim (sC N) (![] : Fin 0 → Fin (sC N).rank)
  b3 : (sW 1).BroadcastsInDim (sC 1) (![1] : Fin 1 → Fin (sC 1).rank)
  b4 : (sC 1).BroadcastsInDim (sC N) (![0, 1] : Fin 2 → Fin (sC N).rank)
  r : (sC N).ReducesTo [1] (sW N)
  h : 0 < s0.numel
  b5 : (sW N).BroadcastsInDim (sR N) (![0] : Fin 1 → Fin (sR N).rank)
  b6 : s0.BroadcastsInDim (sR N) (![] : Fin 0 → Fin (sR N).rank)

/-- The words once negative ones are moved up by `n`, as a column. -/
def takeIx {N : ℕ} (hN : TakeFacts N) (n : BitVec 32) (idx : IVec (sW N) 32) : IVec (sC N) 32 :=
  broadcastInDim (sC N) ![0] hN.b1 (select (cmpi .slt idx (broadcastInDim (sW N) ![] hN.b0 (constantI s0 32 0#32)))
    (addi idx (broadcastInDim (sW N) ![] hN.b0 (constantI s0 32 n))) idx)

/-- What a look-up of the words `idx` in the table `tab` leaves; `n` is the table's number of rows and `l` its last row. -/
def takeVal {N : ℕ} {R : Shape} (hN : TakeFacts N) (g : GatherDims R (sC N) (sR N)) (n l : BitVec 32) (tab : FVec F R .f32) (idx : IVec (sW N) 32) : FVec F (sR N) .f32 :=
  select
    (broadcastInDim (sR N) ![0] hN.b5 (Host.reduce IntOp.andi
      (andi (cmpi .sge (takeIx hN n idx) (broadcastInDim (sC N) ![] hN.b2 (constantI s0 32 0#32)))
        (cmpi .sle (takeIx hN n idx) (broadcastInDim (sC N) ![0, 1] hN.b4 (broadcastInDim (sC 1) ![1] hN.b3 (constantI (sW 1) 32 l)))))
      (constantI s0 1 1#1) hN.r hN.h))
    (Host.gather g tab (takeIx hN n idx))
    (broadcastInDim (sR N) ![] hN.b6 (constant s0 .f32 0x7FC00000#32))

section

variable {N R : ℕ} (hN : TakeFacts N) (idx : IVec (sW N) 32) (b : Fin N → Fin R) (hb : ∀ i, idx (ix1 i) = BitVec.ofNat 32 (b i).val) (hR : R < 2 ^ 31)

include hb hR in
theorem takeIx_apply (n : BitVec 32) (i : Fin N) (z : Fin 1) : takeIx hN n idx (ix2 i z) = BitVec.ofNat 32 (b i).val := by
  unfold takeIx
  rw [broadcastInDim_apply _ hN.b1 _ (ix2 i z) (ix1 i) (fun a => by
    match a with
    | ⟨0, _⟩ =>
      show i.val = if N = 1 then 0 else i.val
      have := i.isLt
      split <;> omega)]
  have hlt := (b i).isLt
  have e : IntOp.cmpi .slt (BitVec.ofNat 32 (b i).val) 0#32 ≠ 1#1 := by
    simp only [IntOp.cmpi, BitVec.slt_eq_decide, BitVec.toInt_eq_toNat_cond, BitVec.toNat_ofNat, ne_eq]
    have : decide ((if 2 * ((b i).val % 2 ^ 32) < 2 ^ 32 then (((b i).val % 2 ^ 32 : ℕ) : ℤ) else (((b i).val % 2 ^ 32 : ℕ) : ℤ) - ((2 ^ 32 : ℕ) : ℤ))
        < (if 2 * (0 % 2 ^ 32) < 2 ^ 32 then ((0 % 2 ^ 32 : ℕ) : ℤ) else ((0 % 2 ^ 32 : ℕ) : ℤ) - ((2 ^ 32 : ℕ) : ℤ))) = false := by
      refine decide_eq_false ?_
      rw [if_pos (by omega), if_pos (by omega)]
      omega
    rw [this]; decide
  show Scalar.select (IntOp.cmpi .slt (idx (ix1 i)) 0#32) _ (idx (ix1 i)) = _
  rw [hb i]
  exact if_neg e

include hb hR in
/-- A look-up of row numbers of the table is the rows they name. -/
theorem takeVal_apply (g : GatherDims (sR R) (sC N) (sR N)) (hoff : g.offsetDims = [1]) (hcoll : g.collapsedSliceDims = [0])
    (hob : g.operandBatchingDims = []) (hsim : g.startIndexMap = [0]) (hivd : g.indexVectorDim = 1)
    (n l : BitVec 32) (hl : l = BitVec.ofNat 32 (R - 1)) (tab : FVec F (sR R) .f32) (i : Fin N) (y : Fin 128) :
    takeVal hN g n l tab idx (ix2 i y) = tab (ix2 (b i) y) := by
  have hlt : ∀ k, (b k).val < R := fun k => (b k).isLt
  have key : ∀ c : ℕ, c < R → IntOp.andi (IntOp.cmpi .sge (BitVec.ofNat 32 c) 0#32) (IntOp.cmpi .sle (BitVec.ofNat 32 c) l) = 1#1 := by
    intro c hc
    have e1 : (0#32 : BitVec 32).sle (BitVec.ofNat 32 c) = true := by
      rw [BitVec.sle_eq_decide, BitVec.toInt_eq_toNat_cond, BitVec.toInt_eq_toNat_cond, BitVec.toNat_ofNat, BitVec.toNat_ofNat]
      refine decide_eq_true ?_
      rw [if_pos (by omega), if_pos (by omega)]
      omega
    have e2 : (BitVec.ofNat 32 c).sle l = true := by
      rw [hl, BitVec.sle_eq_decide, BitVec.toInt_eq_toNat_cond, BitVec.toInt_eq_toNat_cond, BitVec.toNat_ofNat, BitVec.toNat_ofNat]
      refine decide_eq_true ?_
      rw [if_pos (by omega), if_pos (by omega)]
      omega
    simp only [IntOp.cmpi, e1, e2]
    decide
  have hred : Host.reduce IntOp.andi
      (andi (cmpi .sge (takeIx hN n idx) (broadcastInDim (sC N) ![] hN.b2 (constantI s0 32 0#32)))
        (cmpi .sle (takeIx hN n idx) (broadcastInDim (sC N) ![0, 1] hN.b4 (broadcastInDim (sC 1) ![1] hN.b3 (constantI (sW 1) 32 l)))))
      (constantI s0 1 1#1) hN.r hN.h (ix1 i) = 1#1 := by
    refine Host.reduce_andi_one _ _ hN.r hN.h (ix1 i) rfl fun k => ?_
    obtain ⟨p, z, rfl⟩ : ∃ (p : Fin N) (z : Fin 1), k = ix2 p z := ⟨k 0, k 1, by
      funext a
      match a with
      | ⟨0, _⟩ => rfl
      | ⟨1, _⟩ => rfl⟩
    show IntOp.andi (IntOp.cmpi .sge (takeIx hN n idx (ix2 p z)) 0#32) (IntOp.cmpi .sle (takeIx hN n idx (ix2 p z)) l) = 1#1
    rw [takeIx_apply hN idx b hb hR n p z]
    exact key _ (hlt _)
  have hc : broadcastInDim (sR N) ![0] hN.b5 (Host.reduce IntOp.andi
      (andi (cmpi .sge (takeIx hN n idx) (broadcastInDim (sC N) ![] hN.b2 (constantI s0 32 0#32)))
        (cmpi .sle (takeIx hN n idx) (broadcastInDim (sC N) ![0, 1] hN.b4 (broadcastInDim (sC 1) ![1] hN.b3 (constantI (sW 1) 32 l)))))
      (constantI s0 1 1#1) hN.r hN.h) (ix2 i y) = 1#1 :=
    (broadcastInDim_apply _ hN.b5 _ (ix2 i y) (ix1 i) (fun a => by
      match a with
      | ⟨0, _⟩ =>
        show i.val = if N = 1 then 0 else i.val
        have := i.isLt
        split <;> omega)).trans hred
  unfold takeVal
  refine (if_pos hc).trans ?_
  exact Routing.gather_row g hoff hcoll hob hsim hivd tab (takeIx hN n idx) i y (b i) (takeIx_apply hN idx b hb hR n i 0) hR

end

end Cert.Proof

end
-- ==== Proof.Host.lean ====
/-
  The TensorCore's program as two lists of operations around the call, and what they leave.

  Before the call the program builds the table of the 512 sums: row `r` is the sum over the nine features, from the first, of
  the row of that feature's table that the feature's bit of `r` names. It then puts 32 copies of it one under the other
  (`main_v58`) and makes each node's code of its nine words (`main_v67`). After the call it makes the second result.
-/
module

public import proofs.«01_k».proof.Proof.Launch
public import proofs.«01_k».proof.Proof.Take

@[expose] public section

noncomputable section

namespace Cert.Proof

open Cert.KernelIdeal Cert.KernelIdeal.Gen

open Idealize.ShloMosaic Idealize.ShloMosaic.ValueIdx Idealize.ShloMosaic.StableHlo
open Idealize.ShloMosaic.Pipeline (ucRefs)
open Idealize.SL.Sem

variable {F : FTy → Type} [FloatOps F]

/-! ## The operations -/

/-- The operations of one look-up. -/
abbrev takeOps {R : Shape} (g : GatherDims R S512x1 S512x128) (n l : BitVec 32) (tab : TRef sig ⟨R, .f32⟩) (idx : TRef sig ⟨S512, .i32⟩) (φ : fn_take.Bufs) :
    List (HloOp τ sig (Elt F)) :=
  [ TRef.nullary φ.c (constantI S_ 32 0#32),
    TRef.unary φ.c φ.v0 (broadcastInDim S512 ![] bcast_S_S512),
    TRef.binary idx φ.v0 φ.v1 (cmpi .slt),
    TRef.nullary φ.c_0 (constantI S_ 32 n),
    TRef.unary φ.c_0 φ.v2 (broadcastInDim S512 ![] bcast_S_S512),
    TRef.binary idx φ.v2 φ.v3 addi,
    TRef.ternary φ.v1 φ.v3 idx φ.call0.v0 select,
    TRef.unary φ.call0.v0 φ.v5 (broadcastInDim S512x1 ![0] bcast_S512_S512x1_0),
    TRef.nullary φ.c_1 (constantI S1 32 l),
    TRef.nullary φ.c_2 (constantI S_ 32 0#32),
    TRef.unary φ.c_2 φ.v6 (broadcastInDim S512x1 ![] bcast_S_S512x1),
    TRef.binary φ.v5 φ.v6 φ.v7 (cmpi .sge),
    TRef.unary φ.c_1 φ.v8 (broadcastInDim S1x1 ![1] bcast_S1_S1x1_1),
    TRef.unary φ.v8 φ.v9 (broadcastInDim S512x1 ![0, 1] bcast_S1x1_S512x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S512x1_S512_d1 h_S_),
    TRef.binary tab φ.v5 φ.v13 (fun x i => Host.gather g x i),
    TRef.unary φ.v12 φ.v14 (broadcastInDim S512x128 ![0] bcast_S512_S512x128_0),
    TRef.nullary φ.cst (constant S_ .f32 0x7FC00000#32),
    TRef.unary φ.cst φ.v15 (broadcastInDim S512x128 ![] bcast_S_S512x128),
    TRef.ternary φ.v14 φ.v13 φ.v15 φ.v16 select ]

/-- The buffers of the other look-ups, by the first one's names. -/
abbrev bufs_0 (φ : fn_take_0.Bufs) : fn_take.Bufs := ⟨φ.c, φ.v0, φ.v1, φ.c_0, φ.v2, φ.v3, φ.call0, φ.v5, φ.c_1, φ.c_2, φ.v6, φ.v7, φ.v8, φ.v9, φ.v10, φ.v11, φ.c_3, φ.v12, φ.v13, φ.v14, φ.cst, φ.v15, φ.v16⟩
abbrev bufs_1 (φ : fn_take_1.Bufs) : fn_take.Bufs := ⟨φ.c, φ.v0, φ.v1, φ.c_0, φ.v2, φ.v3, φ.call0, φ.v5, φ.c_1, φ.c_2, φ.v6, φ.v7, φ.v8, φ.v9, φ.v10, φ.v11, φ.c_3, φ.v12, φ.v13, φ.v14, φ.cst, φ.v15, φ.v16⟩
abbrev bufs_2 (φ : fn_take_2.Bufs) : fn_take.Bufs := ⟨φ.c, φ.v0, φ.v1, φ.c_0, φ.v2, φ.v3, φ.call0, φ.v5, φ.c_1, φ.c_2, φ.v6, φ.v7, φ.v8, φ.v9, φ.v10, φ.v11, φ.c_3, φ.v12, φ.v13, φ.v14, φ.cst, φ.v15, φ.v16⟩
abbrev bufs_3 (φ : fn_take_3.Bufs) : fn_take.Bufs := ⟨φ.c, φ.v0, φ.v1, φ.c_0, φ.v2, φ.v3, φ.call0, φ.v5, φ.c_1, φ.c_2, φ.v6, φ.v7, φ.v8, φ.v9, φ.v10, φ.v11, φ.c_3, φ.v12, φ.v13, φ.v14, φ.cst, φ.v15, φ.v16⟩
abbrev bufs_4 (φ : fn_take_4.Bufs) : fn_take.Bufs := ⟨φ.c, φ.v0, φ.v1, φ.c_0, φ.v2, φ.v3, φ.call0, φ.v5, φ.c_1, φ.c_2, φ.v6, φ.v7, φ.v8, φ.v9, φ.v10, φ.v11, φ.c_3, φ.v12, φ.v13, φ.v14, φ.cst, φ.v15, φ.v16⟩

/-- The first operations: nothing summed yet, and the row numbers. -/
abbrev opsInit : List (HloOp τ sig (Elt F)) :=
  [ nullary main_cst (constant S_ .f32 0x00000000#32),
    unary main_cst main_v0 (broadcastInDim S512x128 ![] bcast_S_S512x128 : (⟨S_, .f32⟩ : BufTy).Contents (Elt F) → (⟨S512x128, .f32⟩ : BufTy).Contents (Elt F)),
    nullary main_v1 (iotaInDim S512 32 0) ]

/-! Each feature's operations: its bit of every row number, the look-up, the addition. -/

abbrev feat0 : List (HloOp τ sig (Elt F)) :=
  [ nullary main_c (constantI S_ 32 8#32),
    unary main_c main_v2 (broadcastInDim S512 ![] bcast_S_S512 : (⟨S_, .i32⟩ : BufTy).Contents (Elt F) → (⟨S512, .i32⟩ : BufTy).Contents (Elt F)),
    binary main_v1 main_v2 main_v3 (Host.shrsi : (⟨S512, .i32⟩ : BufTy).Contents (Elt F) → (⟨S512, .i32⟩ : BufTy).Contents (Elt F) → (⟨S512, .i32⟩ : BufTy).Contents (Elt F)),
    nullary main_c_0 (constantI S_ 32 1#32),
    unary main_c_0 main_v4 (broadcastInDim S512 ![] bcast_S_S512 : (⟨S_, .i32⟩ : BufTy).Contents (Elt F) → (⟨S512, .i32⟩ : BufTy).Contents (Elt F)),
    binary main_v3 main_v4 main_v5 (andi : (⟨S512, .i32⟩ : BufTy).Contents (Elt F) → (⟨S512, .i32⟩ : BufTy).Contents (Elt F) → (⟨S512, .i32⟩ : BufTy).Contents (Elt F)) ] ++
  (takeOps gather_S119x128_S512x1_S512x128_1_0_n_n_0_1_1128 119#32 118#32 (.of main_arg6) (.of main_v5) main_call0 ++
  [ binary main_v0 main_v6 main_v7 (addf : (⟨S512x128, .f32⟩ : BufTy).Contents (Elt F) → (⟨S512x128, .f32⟩ : BufTy).Contents (Elt F) → (⟨S512x128, .f32⟩ : BufTy).Contents (Elt F)) ])

abbrev feat1 : List (HloOp τ sig (Elt F)) :=
  [ nullary main_c_1 (constantI S_ 32 7#32),
    unary main_c_1 main_v8 (broadcastInDim S512 ![] bcast_S_S512 : (⟨S_, .i32⟩ : BufTy).Contents (Elt F) → (⟨S512, .i32⟩ : BufTy).Contents (Elt F)),
    binary main_v1 main_v8 main_v9 (Host.shrsi : (⟨S512, .i32⟩ : BufTy).Contents (Elt F) → (⟨S512, .i32⟩ : BufTy).Contents (Elt F) → (⟨S512, .i32⟩ : BufTy).Contents (Elt F)),
    nullary main_c_2 (constantI S_ 32 1#32),
    unary main_c_2 main_v10 (broadcastInDim S512 ![] bcast_S_S512 : (⟨S_, .i32⟩ : BufTy).Contents (Elt F) → (⟨S512, .i32⟩ : BufTy).Contents (Elt F)),
    binary main_v9 main_v10 main_v11 (andi : (⟨S512, .i32⟩ : BufTy).Contents (Elt F) → (⟨S512, .i32⟩ : BufTy).Contents (Elt F) → (⟨S512, .i32⟩ : BufTy).Contents (Elt F)) ] ++
  (takeOps gather_S4x128_S512x1_S512x128_1_0_n_n_0_1_1128 4#32 3#32 (.of main_arg7) (.of main_v11) (bufs_0 main_call1) ++
  [ binary main_v7 main_v12 main_v13 (addf : (⟨S512x128, .f32⟩ : BufTy).Contents (Elt F) → (⟨S512x128, .f32⟩ : BufTy).Contents (Elt F) → (⟨S512x128, .f32⟩ : BufTy).Contents (Elt F)) ])

abbrev feat2 : List (HloOp τ sig (Elt F)) :=
  [ nullary main_c_3 (constantI S_ 32 6#32),
    unary main_c_3 main_v14 (broadcastInDim S512 ![] bcast_S_S512 : (⟨S_, .i32⟩ : BufTy).Contents (Elt F) → (⟨S512, .i32⟩ : BufTy).Contents (Elt F)),
    binary main_v1 main_v14 main_v15 (Host.shrsi : (⟨S512, .i32⟩ : BufTy).Contents (Elt F) → (⟨S512, .i32⟩ : BufTy).Contents (Elt F) → (⟨S512, .i32⟩ : BufTy).Contents (Elt F)),
    nullary main_c_4 (constantI S_ 32 1#32),
    unary main_c_4 main_v16 (broadcastInDim S512 ![] bcast_S_S512 : (⟨S_, .i32⟩ : BufTy).Contents (Elt F) → (⟨S512, .i32⟩ : BufTy).Contents (Elt F)),
    binary main_v15 main_v16 main_v17 (andi : (⟨S512, .i32⟩ : BufTy).Contents (Elt F) → (⟨S512, .i32⟩ : BufTy).Contents (Elt F) → (⟨S512, .i32⟩ : BufTy).Contents (Elt F)) ] ++
  (takeOps gather_S12x128_S512x1_S512x128_1_0_n_n_0_1_1128 12#32 11#32 (.of main_arg8) (.of main_v17) (bufs_1 main_call2) ++
  [ binary main_v13 main_v18 main_v19 (addf : (⟨S512x128, .f32⟩ : BufTy).Contents (Elt F) → (⟨S512x128, .f32⟩ : BufTy).Contents (Elt F) → (⟨S512x128, .f32⟩ : BufTy).Contents (Elt F)) ])

abbrev feat3 : List (HloOp τ sig (Elt F)) :=
  [ nullary main_c_5 (constantI S_ 32 5#32),
    unary main_c_5 main_v20 (broadcastInDim S512 ![] bcast_S_S512 : (⟨S_, .i32⟩ : BufTy).Contents (Elt F) → (⟨S512, .i32⟩ : BufTy).Contents (Elt F)),
    binary main_v1 main_v20 main_v21 (Host.shrsi : (⟨S512, .i32⟩ : BufTy).Contents (Elt F) → (⟨S512, .i32⟩ : BufTy).Contents (Elt F) → (⟨S512, .i32⟩ : BufTy).Contents (Elt F)),
    nullary main_c_6 (constantI S_ 32 1#32),
    unary main_c_6 main_v22 (broadcastInDim S512 ![] bcast_S_S512 : (⟨S_, .i32⟩ : BufTy).Contents (Elt F) → (⟨S512, .i32⟩ : BufTy).Contents (Elt F)),
    binary main_v21 main_v22 main_v23 (andi : (⟨S512, .i32⟩ : BufTy).Contents (Elt F) → (⟨S512, .i32⟩ : BufTy).Contents (Elt F) → (⟨S512, .i32⟩ : BufTy).Contents (Elt F)) ] ++
  (takeOps gather_S12x128_S512x1_S512x128_1_0_n_n_0_1_1128 12#32 11#32 (.of main_arg9) (.of main_v23) (bufs_1 main_call3) ++
  [ binary main_v19 main_v24 main_v25 (addf : (⟨S512x128, .f32⟩ : BufTy).Contents (Elt F) → (⟨S512x128, .f32⟩ : BufTy).Contents (Elt F) → (⟨S512x128, .f32⟩ : BufTy).Contents (Elt F)) ])

abbrev feat4 : List (HloOp τ sig (Elt F)) :=
  [ nullary main_c_7 (constantI S_ 32 4#32),
    unary main_c_7 main_v26 (broadcastInDim S512 ![] bcast_S_S512 : (⟨S_, .i32⟩ : BufTy).Contents (Elt F) → (⟨S512, .i32⟩ : BufTy).Contents (Elt F)),
    binary main_v1 main_v26 main_v27 (Host.shrsi : (⟨S512, .i32⟩ : BufTy).Contents (Elt F) → (⟨S512, .i32⟩ : BufTy).Contents (Elt F) → (⟨S512, .i32⟩ : BufTy).Contents (Elt F)),
    nullary main_c_8 (constantI S_ 32 1#32),
    unary main_c_8 main_v28 (broadcastInDim S512 ![] bcast_S_S512 : (⟨S_, .i32⟩ : BufTy).Contents (Elt F) → (⟨S512, .i32⟩ : BufTy).Contents (Elt F)),
    binary main_v27 main_v28 main_v29 (andi : (⟨S512, .i32⟩ : BufTy).Contents (Elt F) → (⟨S512, .i32⟩ : BufTy).Contents (Elt F) → (⟨S512, .i32⟩ : BufTy).Contents (Elt F)) ] ++
  (takeOps gather_S10x128_S512x1_S512x128_1_0_n_n_0_1_1128 10#32 9#32 (.of main_arg10) (.of main_v29) (bufs_2 main_call4) ++
  [ binary main_v25 main_v30 main_v31 (addf : (⟨S512x128, .f32⟩ : BufTy).Contents (Elt F) → (⟨S512x128, .f32⟩ : BufTy).Contents (Elt F) → (⟨S512x128, .f32⟩ : BufTy).Contents (Elt F)) ])

abbrev feat5 : List (HloOp τ sig (Elt F)) :=
  [ nullary main_c_9 (constantI S_ 32 3#32),
    unary main_c_9 main_v32 (broadcastInDim S512 ![] bcast_S_S512 : (⟨S_, .i32⟩ : BufTy).Contents (Elt F) → (⟨S512, .i32⟩ : BufTy).Contents (Elt F)),
    binary main_v1 main_v32 main_v33 (Host.shrsi : (⟨S512, .i32⟩ : BufTy).Contents (Elt F) → (⟨S512, .i32⟩ : BufTy).Contents (Elt F) → (⟨S512, .i32⟩ : BufTy).Contents (Elt F)),
    nullary main_c_10 (constantI S_ 32 1#32),
    unary main_c_10 main_v34 (broadcastInDim S512 ![] bcast_S_S512 : (⟨S_, .i32⟩ : BufTy).Contents (Elt F) → (⟨S512, .i32⟩ : BufTy).Contents (Elt F)),
    binary main_v33 main_v34 main_v35 (andi : (⟨S512, .i32⟩ : BufTy).Contents (Elt F) → (⟨S512, .i32⟩ : BufTy).Contents (Elt F) → (⟨S512, .i32⟩ : BufTy).Contents (Elt F)) ] ++
  (takeOps gather_S6x128_S512x1_S512x128_1_0_n_n_0_1_1128 6#32 5#32 (.of main_arg11) (.of main_v35) (bufs_3 main_call5) ++
  [ binary main_v31 main_v36 main_v37 (addf : (⟨S512x128, .f32⟩ : BufTy).Contents (Elt F) → (⟨S512x128, .f32⟩ : BufTy).Contents (Elt F) → (⟨S512x128, .f32⟩ : BufTy).Contents (Elt F)) ])

abbrev feat6 : List (HloOp τ sig (Elt F)) :=
  [ nullary main_c_11 (constantI S_ 32 2#32),
    unary main_c_11 main_v38 (broadcastInDim S512 ![] bcast_S_S512 : (⟨S_, .i32⟩ : BufTy).Contents (Elt F) → (⟨S512, .i32⟩ : BufTy).Contents (Elt F)),
    binary main_v1 main_v38 main_v39 (Host.shrsi : (⟨S512, .i32⟩ : BufTy).Contents (Elt F) → (⟨S512, .i32⟩ : BufTy).Contents (Elt F) → (⟨S512, .i32⟩ : BufTy).Contents (Elt F)),
    nullary main_c_12 (constantI S_ 32 1#32),
    unary main_c_12 main_v40 (broadcastInDim S512 ![] bcast_S_S512 : (⟨S_, .i32⟩ : BufTy).Contents (Elt F) → (⟨S512, .i32⟩ : BufTy).Contents (Elt F)),
    binary main_v39 main_v40 main_v41 (andi : (⟨S512, .i32⟩ : BufTy).Contents (Elt F) → (⟨S512, .i32⟩ : BufTy).Contents (Elt F) → (⟨S512, .i32⟩ : BufTy).Contents (Elt F)) ] ++
  (takeOps gather_S6x128_S512x1_S512x128_1_0_n_n_0_1_1128 6#32 5#32 (.of main_arg12) (.of main_v41) (bufs_3 main_call6) ++
  [ binary main_v37 main_v42 main_v43 (addf : (⟨S512x128, .f32⟩ : BufTy).Contents (Elt F) → (⟨S512x128, .f32⟩ : BufTy).Contents (Elt F) → (⟨S512x128, .f32⟩ : BufTy).Contents (Elt F)) ])

abbrev feat7 : List (HloOp τ sig (Elt F)) :=
  [ nullary main_c_13 (constantI S_ 32 1#32),
    unary main_c_13 main_v44 (broadcastInDim S512 ![] bcast_S_S512 : (⟨S_, .i32⟩ : BufTy).Contents (Elt F) → (⟨S512, .i32⟩ : BufTy).Contents (Elt F)),
    binary main_v1 main_v44 main_v45 (Host.shrsi : (⟨S512, .i32⟩ : BufTy).Contents (Elt F) → (⟨S512, .i32⟩ : BufTy).Contents (Elt F) → (⟨S512, .i32⟩ : BufTy).Contents (Elt F)),
    nullary main_c_14 (constantI S_ 32 1#32),
    unary main_c_14 main_v46 (broadcastInDim S512 ![] bcast_S_S512 : (⟨S_, .i32⟩ : BufTy).Contents (Elt F) → (⟨S512, .i32⟩ : BufTy).Contents (Elt F)),
    binary main_v45 main_v46 main_v47 (andi : (⟨S512, .i32⟩ : BufTy).Contents (Elt F) → (⟨S512, .i32⟩ : BufTy).Contents (Elt F) → (⟨S512, .i32⟩ : BufTy).Contents (Elt F)) ] ++
  (takeOps gather_S2x128_S512x1_S512x128_1_0_n_n_0_1_1128 2#32 1#32 (.of main_arg13) (.of main_v47) (bufs_4 main_call7) ++
  [ binary main_v43 main_v48 main_v49 (addf : (⟨S512x128, .f32⟩ : BufTy).Contents (Elt F) → (⟨S512x128, .f32⟩ : BufTy).Contents (Elt F) → (⟨S512x128, .f32⟩ : BufTy).Contents (Elt F)) ])

abbrev feat8 : List (HloOp τ sig (Elt F)) :=
  [ nullary main_c_15 (constantI S_ 32 0#32),
    unary main_c_15 main_v50 (broadcastInDim S512 ![] bcast_S_S512 : (⟨S_, .i32⟩ : BufTy).Contents (Elt F) → (⟨S512, .i32⟩ : BufTy).Contents (Elt F)),
    binary main_v1 main_v50 main_v51 (Host.shrsi : (⟨S512, .i32⟩ : BufTy).Contents (Elt F) → (⟨S512, .i32⟩ : BufTy).Contents (Elt F) → (⟨S512, .i32⟩ : BufTy).Contents (Elt F)),
    nullary main_c_16 (constantI S_ 32 1#32),
    unary main_c_16 main_v52 (broadcastInDim S512 ![] bcast_S_S512 : (⟨S_, .i32⟩ : BufTy).Contents (Elt F) → (⟨S512, .i32⟩ : BufTy).Contents (Elt F)),
    binary main_v51 main_v52 main_v53 (andi : (⟨S512, .i32⟩ : BufTy).Contents (Elt F) → (⟨S512, .i32⟩ : BufTy).Contents (Elt F) → (⟨S512, .i32⟩ : BufTy).Contents (Elt F)) ] ++
  (takeOps gather_S2x128_S512x1_S512x128_1_0_n_n_0_1_1128 2#32 1#32 (.of main_arg14) (.of main_v53) (bufs_4 main_call8) ++
  [ binary main_v49 main_v54 main_v55 (addf : (⟨S512x128, .f32⟩ : BufTy).Contents (Elt F) → (⟨S512x128, .f32⟩ : BufTy).Contents (Elt F) → (⟨S512x128, .f32⟩ : BufTy).Contents (Elt F)) ])

/-- The 32 copies and the codes. -/
abbrev opsTail : List (HloOp τ sig (Elt F)) :=
  [ reshape main_v55 main_v56 (rfl : (.f32 : EltTy) = .f32) shapeCasts_S512x128_S1x512x1x128,
    unary main_v56 main_v57 (broadcastInDim S32x512x1x128 ![0, 1, 2, 3] bcast_S1x512x1x128_S32x512x1x128_0_1_2_3 : (⟨S1x512x1x128, .f32⟩ : BufTy).Contents (Elt F) → (⟨S32x512x1x128, .f32⟩ : BufTy).Contents (Elt F)),
    reshape main_v57 main_v58 (rfl : (.f32 : EltTy) = .f32) shapeCasts_S32x512x1x128_S16384x128,
    nullary main_v59 (iotaInDim S9 32 0),
    nullary main_c_17 (constantI S_ 32 8#32),
    unary main_c_17 main_v60 (broadcastInDim S9 ![] bcast_S_S9 : (⟨S_, .i32⟩ : BufTy).Contents (Elt F) → (⟨S9, .i32⟩ : BufTy).Contents (Elt F)),
    binary main_v60 main_v59 main_v61 (subi : (⟨S9, .i32⟩ : BufTy).Contents (Elt F) → (⟨S9, .i32⟩ : BufTy).Contents (Elt F) → (⟨S9, .i32⟩ : BufTy).Contents (Elt F)),
    nullary main_c_18 (constantI S_ 32 1#32),
    unary main_c_18 main_v62 (broadcastInDim S9 ![] bcast_S_S9 : (⟨S_, .i32⟩ : BufTy).Contents (Elt F) → (⟨S9, .i32⟩ : BufTy).Contents (Elt F)),
    binary main_v62 main_v61 main_v63 (Host.shli : (⟨S9, .i32⟩ : BufTy).Contents (Elt F) → (⟨S9, .i32⟩ : BufTy).Contents (Elt F) → (⟨S9, .i32⟩ : BufTy).Contents (Elt F)),
    unary main_v63 main_v64 (broadcastInDim S1x9 ![1] bcast_S9_S1x9_1 : (⟨S9, .i32⟩ : BufTy).Contents (Elt F) → (⟨S1x9, .i32⟩ : BufTy).Contents (Elt F)),
    unary main_v64 main_v65 (broadcastInDim S100000x9 ![0, 1] bcast_S1x9_S100000x9_0_1 : (⟨S1x9, .i32⟩ : BufTy).Contents (Elt F) → (⟨S100000x9, .i32⟩ : BufTy).Contents (Elt F)),
    binary main_arg0 main_v65 main_v66 (muli : (⟨S100000x9, .i32⟩ : BufTy).Contents (Elt F) → (⟨S100000x9, .i32⟩ : BufTy).Contents (Elt F) → (⟨S100000x9, .i32⟩ : BufTy).Contents (Elt F)),
    nullary main_c_19 (constantI S_ 32 0#32),
    binary main_v66 main_c_19 main_v67 ((fun x v => Host.reduce IntOp.addi x v reducesTo_S100000x9_S100000_d1 h_S_) : (⟨S100000x9, .i32⟩ : BufTy).Contents (Elt F) → (⟨S_, .i32⟩ : BufTy).Contents (Elt F) → (⟨S100000, .i32⟩ : BufTy).Contents (Elt F)) ]

/-- The operations before the call and after it. -/
abbrev ops₁ : List (HloOp τ sig (Elt F)) :=
  opsInit ++ (feat0 ++ (feat1 ++ (feat2 ++ (feat3 ++ (feat4 ++ (feat5 ++ (feat6 ++ (feat7 ++ (feat8 ++ opsTail)))))))))
abbrev ops₂ : List (HloOp τ sig (Elt F)) :=
  [ nullary main_cst_20 (constant S_ .f32 0x00000000#32),
    unary main_cst_20 main_v69 (broadcastInDim S1024x1 ![] bcast_S_S1024x1 : (⟨S_, .f32⟩ : BufTy).Contents (Elt F) → (⟨S1024x1, .f32⟩ : BufTy).Contents (Elt F)) ]

set_option maxRecDepth 8192 in
set_option maxHeartbeats 4000000 in
theorem main_eq (d : Dev nD) : main (F := F) d = (seq ops₁ >>= fun _ => (K (F := F)).run d 0 >>= fun _ => seq ops₂ >>= fun _ => Prog.ret ⟨⟩) := rfl

/-! ## What each operation touches -/

theorem takeOps_sub {R : Shape} (g : GatherDims R S512x1 S512x128) (n l : BitVec 32) (tab : TRef sig ⟨R, .f32⟩) (idx : TRef sig ⟨S512, .i32⟩) (φ : fn_take.Bufs) :
    (takeOps (F := F) g n l tab idx φ).Forall fun op => op.bufs ⊆ tcRefs τ sig :=
  ⟨nullary_bufs_sub .., unary_bufs_sub .., binary_bufs_sub .., nullary_bufs_sub .., unary_bufs_sub .., binary_bufs_sub .., ternary_bufs_sub .., unary_bufs_sub ..,
    nullary_bufs_sub .., nullary_bufs_sub .., unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub .., ternary_bufs_sub ..⟩
theorem takeOps_fresh {R : Shape} (g : GatherDims R S512x1 S512x128) (n l : BitVec 32) (tab : TRef sig ⟨R, .f32⟩) (idx : TRef sig ⟨S512, .i32⟩) (φ : fn_take.Bufs) :
    (takeOps (F := F) g n l tab idx φ).Forall fun op => op.fresh = ∅ :=
  ⟨rfl, rfl, rfl, rfl, rfl, rfl, rfl, rfl, rfl, rfl, rfl, rfl, rfl, rfl, rfl, rfl, rfl, rfl, rfl, rfl, rfl, rfl, rfl⟩

theorem forall_append' {α : Type} {p : α → Prop} {l l' : List α} (h : l.Forall p) (h' : l'.Forall p) : (l ++ l').Forall p :=
  List.forall_iff_forall_mem.mpr fun x hx => (List.mem_append.mp hx).elim (List.forall_iff_forall_mem.mp h x) (List.forall_iff_forall_mem.mp h' x)

/-- What an operation of the program may do: touch the TensorCore's own arrays, and make none. -/
abbrev Plain (op : HloOp τ sig (Elt F)) : Prop := op.bufs ⊆ tcRefs τ sig ∧ op.fresh = ∅

theorem takeOps_plain {R : Shape} (g : GatherDims R S512x1 S512x128) (n l : BitVec 32) (tab : TRef sig ⟨R, .f32⟩) (idx : TRef sig ⟨S512, .i32⟩) (φ : fn_take.Bufs) :
    (takeOps (F := F) g n l tab idx φ).Forall Plain :=
  List.forall_iff_forall_mem.mpr fun x hx => ⟨List.forall_iff_forall_mem.mp (takeOps_sub g n l tab idx φ) x hx, List.forall_iff_forall_mem.mp (takeOps_fresh g n l tab idx φ) x hx⟩

theorem init_plain : (opsInit (F := F)).Forall Plain := ⟨⟨nullary_bufs_sub .., rfl⟩, ⟨unary_bufs_sub .., rfl⟩, ⟨nullary_bufs_sub .., rfl⟩⟩
theorem feat0_plain : (feat0 (F := F)).Forall Plain :=
  forall_append' ⟨⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩⟩
    (forall_append' (takeOps_plain ..) ⟨binary_bufs_sub .., rfl⟩)
theorem feat1_plain : (feat1 (F := F)).Forall Plain :=
  forall_append' ⟨⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩⟩
    (forall_append' (takeOps_plain ..) ⟨binary_bufs_sub .., rfl⟩)
theorem feat2_plain : (feat2 (F := F)).Forall Plain :=
  forall_append' ⟨⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩⟩
    (forall_append' (takeOps_plain ..) ⟨binary_bufs_sub .., rfl⟩)
theorem feat3_plain : (feat3 (F := F)).Forall Plain :=
  forall_append' ⟨⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩⟩
    (forall_append' (takeOps_plain ..) ⟨binary_bufs_sub .., rfl⟩)
theorem feat4_plain : (feat4 (F := F)).Forall Plain :=
  forall_append' ⟨⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩⟩
    (forall_append' (takeOps_plain ..) ⟨binary_bufs_sub .., rfl⟩)
theorem feat5_plain : (feat5 (F := F)).Forall Plain :=
  forall_append' ⟨⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩⟩
    (forall_append' (takeOps_plain ..) ⟨binary_bufs_sub .., rfl⟩)
theorem feat6_plain : (feat6 (F := F)).Forall Plain :=
  forall_append' ⟨⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩⟩
    (forall_append' (takeOps_plain ..) ⟨binary_bufs_sub .., rfl⟩)
theorem feat7_plain : (feat7 (F := F)).Forall Plain :=
  forall_append' ⟨⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩⟩
    (forall_append' (takeOps_plain ..) ⟨binary_bufs_sub .., rfl⟩)
theorem feat8_plain : (feat8 (F := F)).Forall Plain :=
  forall_append' ⟨⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩⟩
    (forall_append' (takeOps_plain ..) ⟨binary_bufs_sub .., rfl⟩)
theorem tail_plain : (opsTail (F := F)).Forall Plain :=
  ⟨⟨reshape_bufs_sub .., rfl⟩, ⟨unary_bufs_sub .., rfl⟩, ⟨reshape_bufs_sub .., rfl⟩, ⟨nullary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨nullary_bufs_sub .., rfl⟩, ⟨binary_bufs_sub .., rfl⟩⟩
theorem ops₁_plain : (ops₁ (F := F)).Forall Plain :=
  forall_append' init_plain <| forall_append' feat0_plain <| forall_append' feat1_plain <| forall_append' feat2_plain <| forall_append' feat3_plain <| forall_append' feat4_plain <| forall_append' feat5_plain <| forall_append' feat6_plain <| forall_append' feat7_plain <| forall_append' feat8_plain <| tail_plain
theorem ops₂_plain : (ops₂ (F := F)).Forall Plain := ⟨⟨nullary_bufs_sub .., rfl⟩, ⟨unary_bufs_sub .., rfl⟩⟩

theorem ops₁_sub : ∀ op ∈ ops₁ (F := F), op.bufs ⊆ ucRefs τ sig := fun op h => Pipeline.sub_ucRefs op (List.forall_iff_forall_mem.mp ops₁_plain op h).1
theorem ops₂_sub : ∀ op ∈ ops₂ (F := F), op.bufs ⊆ ucRefs τ sig := fun op h => Pipeline.sub_ucRefs op (List.forall_iff_forall_mem.mp ops₂_plain op h).1
theorem ops₁_fresh : ∀ op ∈ ops₁ (F := F), op.fresh = ∅ := fun op h => (List.forall_iff_forall_mem.mp ops₁_plain op h).2
theorem ops₂_fresh : ∀ op ∈ ops₂ (F := F), op.fresh = ∅ := fun op h => (List.forall_iff_forall_mem.mp ops₂_plain op h).2

end Cert.Proof

end
-- ==== Proof.HostVal.lean ====
/-
  The values of the operations before and after the call, one window at a time: what a window writes that is read later,
  and that it keeps what it does not write.
-/
module

public import proofs.«01_k».proof.Proof.Host

@[expose] public section

noncomputable section

namespace Cert.Proof

open Cert.KernelIdeal Cert.KernelIdeal.Gen

open Idealize.ShloMosaic Idealize.ShloMosaic.ValueIdx Idealize.ShloMosaic.StableHlo
open Idealize.SL.Sem

variable {F : FTy → Type} [FloatOps F]

theorem tf512 : TakeFacts 512 :=
  ⟨bcast_S_S512, bcast_S512_S512x1_0, bcast_S_S512x1, bcast_S1_S1x1_1, bcast_S1x1_S512x1_0_1, reducesTo_S512x1_S512_d1, h_S_, bcast_S512_S512x128_0, bcast_S_S512x128⟩

/-- Bit `k` of every entry. -/
def featIdx (k : BitVec 32) (x : IVec S512 32) : IVec S512 32 :=
  andi (Host.shrsi x (broadcastInDim S512 ![] bcast_S_S512 (constantI S_ 32 k))) (broadcastInDim S512 ![] bcast_S_S512 (constantI S_ 32 1#32))

/-- The arrays no window writes that a later one reads: the arguments and the row numbers. -/
abbrev kept : List (Ref sig .tc) := [main_arg0, main_arg1, main_arg2, main_arg3, main_arg4, main_arg5, main_arg6, main_arg7, main_arg8, main_arg9, main_arg10, main_arg11, main_arg12, main_arg13, main_arg14, main_v1]
abbrev args : List (Ref sig .tc) := [main_arg0, main_arg1, main_arg2, main_arg3, main_arg4, main_arg5, main_arg6, main_arg7, main_arg8, main_arg9, main_arg10, main_arg11, main_arg12, main_arg13, main_arg14]

/-! ### Feature 0 -/

abbrev feat0_W : List (Ref sig .tc) := [main_c, main_v2, main_v3, main_c_0, main_v4, main_v5, main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v6, main_v7]
set_option maxRecDepth 8192 in
theorem feat0_writes : (feat0 (F := F)).Forall fun op => op.writes ⊆ (feat0_W.map (Proc.devRef (τ := τ) .tc)).toFinset :=
  forall_writes_sub_of_map rfl
set_option maxRecDepth 8192 in
theorem feat0_kept : ∀ r ∈ kept, r ∉ feat0_W := by decide
theorem feat0_keep (V : Valuation τ sig (Elt F)) (r : Ref sig .tc) (h : r ∈ kept) : after feat0 V (Proc.devRef .tc r) = V (Proc.devRef .tc r) :=
  after_of_writes_sub feat0 _ feat0_writes (feat0_kept r h)
set_option maxRecDepth 8192 in
set_option maxHeartbeats 4000000 in
theorem feat0_val (V : Valuation τ sig (Elt F)) : after feat0 V (Proc.devRef .tc main_v7)
    = (addf (V (Proc.devRef .tc main_v0) : FVec F S512x128 .f32) (takeVal tf512 gather_S119x128_S512x1_S512x128_1_0_n_n_0_1_1128 119#32 118#32 (V (Proc.devRef .tc main_arg6)) (featIdx 8#32 (V (Proc.devRef .tc main_v1)))) : FVec F S512x128 .f32) := by
  simp only [feat0, takeOps, List.cons_append, List.nil_append, TRef.binary, TRef.nullary, TRef.ternary, TRef.unary, TRef.toBuf, TRef.ofBuf, cast_eq]
  after_results_simp
  rfl

/-! ### Feature 1 -/

abbrev feat1_W : List (Ref sig .tc) := [main_c_1, main_v8, main_v9, main_c_2, main_v10, main_v11, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v12, main_v13]
set_option maxRecDepth 8192 in
theorem feat1_writes : (feat1 (F := F)).Forall fun op => op.writes ⊆ (feat1_W.map (Proc.devRef (τ := τ) .tc)).toFinset :=
  forall_writes_sub_of_map rfl
set_option maxRecDepth 8192 in
theorem feat1_kept : ∀ r ∈ kept, r ∉ feat1_W := by decide
theorem feat1_keep (V : Valuation τ sig (Elt F)) (r : Ref sig .tc) (h : r ∈ kept) : after feat1 V (Proc.devRef .tc r) = V (Proc.devRef .tc r) :=
  after_of_writes_sub feat1 _ feat1_writes (feat1_kept r h)
set_option maxRecDepth 8192 in
set_option maxHeartbeats 4000000 in
theorem feat1_val (V : Valuation τ sig (Elt F)) : after feat1 V (Proc.devRef .tc main_v13)
    = (addf (V (Proc.devRef .tc main_v7) : FVec F S512x128 .f32) (takeVal tf512 gather_S4x128_S512x1_S512x128_1_0_n_n_0_1_1128 4#32 3#32 (V (Proc.devRef .tc main_arg7)) (featIdx 7#32 (V (Proc.devRef .tc main_v1)))) : FVec F S512x128 .f32) := by
  simp only [feat1, takeOps, bufs_0, List.cons_append, List.nil_append, TRef.binary, TRef.nullary, TRef.ternary, TRef.unary, TRef.toBuf, TRef.ofBuf, cast_eq]
  after_results_simp
  rfl

/-! ### Feature 2 -/

abbrev feat2_W : List (Ref sig .tc) := [main_c_3, main_v14, main_v15, main_c_4, main_v16, main_v17, main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v18, main_v19]
set_option maxRecDepth 8192 in
theorem feat2_writes : (feat2 (F := F)).Forall fun op => op.writes ⊆ (feat2_W.map (Proc.devRef (τ := τ) .tc)).toFinset :=
  forall_writes_sub_of_map rfl
set_option maxRecDepth 8192 in
theorem feat2_kept : ∀ r ∈ kept, r ∉ feat2_W := by decide
theorem feat2_keep (V : Valuation τ sig (Elt F)) (r : Ref sig .tc) (h : r ∈ kept) : after feat2 V (Proc.devRef .tc r) = V (Proc.devRef .tc r) :=
  after_of_writes_sub feat2 _ feat2_writes (feat2_kept r h)
set_option maxRecDepth 8192 in
set_option maxHeartbeats 4000000 in
theorem feat2_val (V : Valuation τ sig (Elt F)) : after feat2 V (Proc.devRef .tc main_v19)
    = (addf (V (Proc.devRef .tc main_v13) : FVec F S512x128 .f32) (takeVal tf512 gather_S12x128_S512x1_S512x128_1_0_n_n_0_1_1128 12#32 11#32 (V (Proc.devRef .tc main_arg8)) (featIdx 6#32 (V (Proc.devRef .tc main_v1)))) : FVec F S512x128 .f32) := by
  simp only [feat2, takeOps, bufs_1, List.cons_append, List.nil_append, TRef.binary, TRef.nullary, TRef.ternary, TRef.unary, TRef.toBuf, TRef.ofBuf, cast_eq]
  after_results_simp
  rfl

/-! ### Feature 3 -/

abbrev feat3_W : List (Ref sig .tc) := [main_c_5, main_v20, main_v21, main_c_6, main_v22, main_v23, main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v24, main_v25]
set_option maxRecDepth 8192 in
theorem feat3_writes : (feat3 (F := F)).Forall fun op => op.writes ⊆ (feat3_W.map (Proc.devRef (τ := τ) .tc)).toFinset :=
  forall_writes_sub_of_map rfl
set_option maxRecDepth 8192 in
theorem feat3_kept : ∀ r ∈ kept, r ∉ feat3_W := by decide
theorem feat3_keep (V : Valuation τ sig (Elt F)) (r : Ref sig .tc) (h : r ∈ kept) : after feat3 V (Proc.devRef .tc r) = V (Proc.devRef .tc r) :=
  after_of_writes_sub feat3 _ feat3_writes (feat3_kept r h)
set_option maxRecDepth 8192 in
set_option maxHeartbeats 4000000 in
theorem feat3_val (V : Valuation τ sig (Elt F)) : after feat3 V (Proc.devRef .tc main_v25)
    = (addf (V (Proc.devRef .tc main_v19) : FVec F S512x128 .f32) (takeVal tf512 gather_S12x128_S512x1_S512x128_1_0_n_n_0_1_1128 12#32 11#32 (V (Proc.devRef .tc main_arg9)) (featIdx 5#32 (V (Proc.devRef .tc main_v1)))) : FVec F S512x128 .f32) := by
  simp only [feat3, takeOps, bufs_1, List.cons_append, List.nil_append, TRef.binary, TRef.nullary, TRef.ternary, TRef.unary, TRef.toBuf, TRef.ofBuf, cast_eq]
  after_results_simp
  rfl

/-! ### Feature 4 -/

abbrev feat4_W : List (Ref sig .tc) := [main_c_7, main_v26, main_v27, main_c_8, main_v28, main_v29, main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v30, main_v31]
set_option maxRecDepth 8192 in
theorem feat4_writes : (feat4 (F := F)).Forall fun op => op.writes ⊆ (feat4_W.map (Proc.devRef (τ := τ) .tc)).toFinset :=
  forall_writes_sub_of_map rfl
set_option maxRecDepth 8192 in
theorem feat4_kept : ∀ r ∈ kept, r ∉ feat4_W := by decide
theorem feat4_keep (V : Valuation τ sig (Elt F)) (r : Ref sig .tc) (h : r ∈ kept) : after feat4 V (Proc.devRef .tc r) = V (Proc.devRef .tc r) :=
  after_of_writes_sub feat4 _ feat4_writes (feat4_kept r h)
set_option maxRecDepth 8192 in
set_option maxHeartbeats 4000000 in
theorem feat4_val (V : Valuation τ sig (Elt F)) : after feat4 V (Proc.devRef .tc main_v31)
    = (addf (V (Proc.devRef .tc main_v25) : FVec F S512x128 .f32) (takeVal tf512 gather_S10x128_S512x1_S512x128_1_0_n_n_0_1_1128 10#32 9#32 (V (Proc.devRef .tc main_arg10)) (featIdx 4#32 (V (Proc.devRef .tc main_v1)))) : FVec F S512x128 .f32) := by
  simp only [feat4, takeOps, bufs_2, List.cons_append, List.nil_append, TRef.binary, TRef.nullary, TRef.ternary, TRef.unary, TRef.toBuf, TRef.ofBuf, cast_eq]
  after_results_simp
  rfl

/-! ### Feature 5 -/

abbrev feat5_W : List (Ref sig .tc) := [main_c_9, main_v32, main_v33, main_c_10, main_v34, main_v35, main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v36, main_v37]
set_option maxRecDepth 8192 in
theorem feat5_writes : (feat5 (F := F)).Forall fun op => op.writes ⊆ (feat5_W.map (Proc.devRef (τ := τ) .tc)).toFinset :=
  forall_writes_sub_of_map rfl
set_option maxRecDepth 8192 in
theorem feat5_kept : ∀ r ∈ kept, r ∉ feat5_W := by decide
theorem feat5_keep (V : Valuation τ sig (Elt F)) (r : Ref sig .tc) (h : r ∈ kept) : after feat5 V (Proc.devRef .tc r) = V (Proc.devRef .tc r) :=
  after_of_writes_sub feat5 _ feat5_writes (feat5_kept r h)
set_option maxRecDepth 8192 in
set_option maxHeartbeats 4000000 in
theorem feat5_val (V : Valuation τ sig (Elt F)) : after feat5 V (Proc.devRef .tc main_v37)
    = (addf (V (Proc.devRef .tc main_v31) : FVec F S512x128 .f32) (takeVal tf512 gather_S6x128_S512x1_S512x128_1_0_n_n_0_1_1128 6#32 5#32 (V (Proc.devRef .tc main_arg11)) (featIdx 3#32 (V (Proc.devRef .tc main_v1)))) : FVec F S512x128 .f32) := by
  simp only [feat5, takeOps, bufs_3, List.cons_append, List.nil_append, TRef.binary, TRef.nullary, TRef.ternary, TRef.unary, TRef.toBuf, TRef.ofBuf, cast_eq]
  after_results_simp
  rfl

/-! ### Feature 6 -/

abbrev feat6_W : List (Ref sig .tc) := [main_c_11, main_v38, main_v39, main_c_12, main_v40, main_v41, main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_v14, main_call6_cst, main_call6_v15, main_v42, main_v43]
set_option maxRecDepth 8192 in
theorem feat6_writes : (feat6 (F := F)).Forall fun op => op.writes ⊆ (feat6_W.map (Proc.devRef (τ := τ) .tc)).toFinset :=
  forall_writes_sub_of_map rfl
set_option maxRecDepth 8192 in
theorem feat6_kept : ∀ r ∈ kept, r ∉ feat6_W := by decide
theorem feat6_keep (V : Valuation τ sig (Elt F)) (r : Ref sig .tc) (h : r ∈ kept) : after feat6 V (Proc.devRef .tc r) = V (Proc.devRef .tc r) :=
  after_of_writes_sub feat6 _ feat6_writes (feat6_kept r h)
set_option maxRecDepth 8192 in
set_option maxHeartbeats 4000000 in
theorem feat6_val (V : Valuation τ sig (Elt F)) : after feat6 V (Proc.devRef .tc main_v43)
    = (addf (V (Proc.devRef .tc main_v37) : FVec F S512x128 .f32) (takeVal tf512 gather_S6x128_S512x1_S512x128_1_0_n_n_0_1_1128 6#32 5#32 (V (Proc.devRef .tc main_arg12)) (featIdx 2#32 (V (Proc.devRef .tc main_v1)))) : FVec F S512x128 .f32) := by
  simp only [feat6, takeOps, bufs_3, List.cons_append, List.nil_append, TRef.binary, TRef.nullary, TRef.ternary, TRef.unary, TRef.toBuf, TRef.ofBuf, cast_eq]
  after_results_simp
  rfl

/-! ### Feature 7 -/

abbrev feat7_W : List (Ref sig .tc) := [main_c_13, main_v44, main_v45, main_c_14, main_v46, main_v47, main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_v14, main_call7_cst, main_call7_v15, main_v48, main_v49]
set_option maxRecDepth 8192 in
theorem feat7_writes : (feat7 (F := F)).Forall fun op => op.writes ⊆ (feat7_W.map (Proc.devRef (τ := τ) .tc)).toFinset :=
  forall_writes_sub_of_map rfl
set_option maxRecDepth 8192 in
theorem feat7_kept : ∀ r ∈ kept, r ∉ feat7_W := by decide
theorem feat7_keep (V : Valuation τ sig (Elt F)) (r : Ref sig .tc) (h : r ∈ kept) : after feat7 V (Proc.devRef .tc r) = V (Proc.devRef .tc r) :=
  after_of_writes_sub feat7 _ feat7_writes (feat7_kept r h)
set_option maxRecDepth 8192 in
set_option maxHeartbeats 4000000 in
theorem feat7_val (V : Valuation τ sig (Elt F)) : after feat7 V (Proc.devRef .tc main_v49)
    = (addf (V (Proc.devRef .tc main_v43) : FVec F S512x128 .f32) (takeVal tf512 gather_S2x128_S512x1_S512x128_1_0_n_n_0_1_1128 2#32 1#32 (V (Proc.devRef .tc main_arg13)) (featIdx 1#32 (V (Proc.devRef .tc main_v1)))) : FVec F S512x128 .f32) := by
  simp only [feat7, takeOps, bufs_4, List.cons_append, List.nil_append, TRef.binary, TRef.nullary, TRef.ternary, TRef.unary, TRef.toBuf, TRef.ofBuf, cast_eq]
  after_results_simp
  rfl

/-! ### Feature 8 -/

abbrev feat8_W : List (Ref sig .tc) := [main_c_15, main_v50, main_v51, main_c_16, main_v52, main_v53, main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_v14, main_call8_cst, main_call8_v15, main_v54, main_v55]
set_option maxRecDepth 8192 in
theorem feat8_writes : (feat8 (F := F)).Forall fun op => op.writes ⊆ (feat8_W.map (Proc.devRef (τ := τ) .tc)).toFinset :=
  forall_writes_sub_of_map rfl
set_option maxRecDepth 8192 in
theorem feat8_kept : ∀ r ∈ kept, r ∉ feat8_W := by decide
theorem feat8_keep (V : Valuation τ sig (Elt F)) (r : Ref sig .tc) (h : r ∈ kept) : after feat8 V (Proc.devRef .tc r) = V (Proc.devRef .tc r) :=
  after_of_writes_sub feat8 _ feat8_writes (feat8_kept r h)
set_option maxRecDepth 8192 in
set_option maxHeartbeats 4000000 in
theorem feat8_val (V : Valuation τ sig (Elt F)) : after feat8 V (Proc.devRef .tc main_v55)
    = (addf (V (Proc.devRef .tc main_v49) : FVec F S512x128 .f32) (takeVal tf512 gather_S2x128_S512x1_S512x128_1_0_n_n_0_1_1128 2#32 1#32 (V (Proc.devRef .tc main_arg14)) (featIdx 0#32 (V (Proc.devRef .tc main_v1)))) : FVec F S512x128 .f32) := by
  simp only [feat8, takeOps, bufs_4, List.cons_append, List.nil_append, TRef.binary, TRef.nullary, TRef.ternary, TRef.unary, TRef.toBuf, TRef.ofBuf, cast_eq]
  after_results_simp
  rfl

/-! ### The first operations, the last before the call, and those after it -/

abbrev init_W : List (Ref sig .tc) := [main_cst, main_v0, main_v1]
theorem init_writes : (opsInit (F := F)).Forall fun op => op.writes ⊆ (init_W.map (Proc.devRef (τ := τ) .tc)).toFinset := forall_writes_sub_of_map rfl
theorem init_args : ∀ r ∈ args, r ∉ init_W := by decide
theorem init_keep (V : Valuation τ sig (Elt F)) (r : Ref sig .tc) (h : r ∈ args) : after opsInit V (Proc.devRef .tc r) = V (Proc.devRef .tc r) :=
  after_of_writes_sub opsInit _ init_writes (init_args r h)
theorem init_v0 (V : Valuation τ sig (Elt F)) : after opsInit V (Proc.devRef .tc main_v0) = (broadcastInDim S512x128 ![] bcast_S_S512x128 (constant S_ .f32 0x00000000#32) : FVec F S512x128 .f32) := by
  simp only [opsInit]
  after_results_simp
  try rfl
theorem init_v1 (V : Valuation τ sig (Elt F)) : after opsInit V (Proc.devRef .tc main_v1) = iotaInDim S512 32 0 := by
  simp only [opsInit]
  after_results_simp
  try rfl

abbrev tail_W : List (Ref sig .tc) := [main_v56, main_v57, main_v58, main_v59, main_c_17, main_v60, main_v61, main_c_18, main_v62, main_v63, main_v64, main_v65, main_v66, main_c_19, main_v67]
set_option maxRecDepth 8192 in
theorem tail_writes : (opsTail (F := F)).Forall fun op => op.writes ⊆ (tail_W.map (Proc.devRef (τ := τ) .tc)).toFinset := forall_writes_sub_of_map rfl
set_option maxRecDepth 8192 in
theorem tail_args : ∀ r ∈ args, r ∉ tail_W := by decide
theorem tail_keep (V : Valuation τ sig (Elt F)) (r : Ref sig .tc) (h : r ∈ args) : after opsTail V (Proc.devRef .tc r) = V (Proc.devRef .tc r) :=
  after_of_writes_sub opsTail _ tail_writes (tail_args r h)

/-- 32 copies of a table of 512 rows, one under the other. -/
def copies (x : FVec F S512x128 .f32) : FVec F S16384x128 .f32 :=
  shapeCast S16384x128 (broadcastInDim S32x512x1x128 ![0, 1, 2, 3] bcast_S1x512x1x128_S32x512x1x128_0_1_2_3 (shapeCast S1x512x1x128 x shapeCasts_S512x128_S1x512x1x128))
    shapeCasts_S32x512x1x128_S16384x128
/-- Every node's code: its nine words, the first at 256, the last at 1. -/
def codes (x : IVec S100000x9 32) : IVec S100000 32 :=
  Host.reduce IntOp.addi (muli x (broadcastInDim S100000x9 ![0, 1] bcast_S1x9_S100000x9_0_1 (broadcastInDim S1x9 ![1] bcast_S9_S1x9_1
    (Host.shli (broadcastInDim S9 ![] bcast_S_S9 (constantI S_ 32 1#32)) (subi (broadcastInDim S9 ![] bcast_S_S9 (constantI S_ 32 8#32)) (iotaInDim S9 32 0))))))
    (constantI S_ 32 0#32) reducesTo_S100000x9_S100000_d1 h_S_

set_option maxRecDepth 8192 in
set_option maxHeartbeats 2000000 in
theorem tail_v58 (V : Valuation τ sig (Elt F)) : after opsTail V (Proc.devRef .tc main_v58) = copies (V (Proc.devRef .tc main_v55)) := by
  simp only [opsTail]
  after_results_simp
  rfl
set_option maxRecDepth 8192 in
set_option maxHeartbeats 2000000 in
theorem tail_v67 (V : Valuation τ sig (Elt F)) : after opsTail V (Proc.devRef .tc main_v67) = codes (V (Proc.devRef .tc main_arg0)) := by
  simp only [opsTail]
  after_results_simp
  rfl

abbrev last_W : List (Ref sig .tc) := [main_cst_20, main_v69]
theorem last_writes : (ops₂ (F := F)).Forall fun op => op.writes ⊆ (last_W.map (Proc.devRef (τ := τ) .tc)).toFinset := forall_writes_sub_of_map rfl
theorem last_args : ∀ r ∈ main_v68 :: args, r ∉ last_W := by decide
theorem last_keep (V : Valuation τ sig (Elt F)) (r : Ref sig .tc) (h : r ∈ main_v68 :: args) : after ops₂ V (Proc.devRef .tc r) = V (Proc.devRef .tc r) :=
  after_of_writes_sub ops₂ _ last_writes (last_args r h)
theorem last_v69 (V : Valuation τ sig (Elt F)) : after ops₂ V (Proc.devRef .tc main_v69) = (broadcastInDim S1024x1 ![] bcast_S_S1024x1 (constant S_ .f32 0x00000000#32) : FVec F S1024x1 .f32) := by
  simp only [ops₂]
  after_results_simp
  try rfl

/-! ### All the windows before the call -/

/-- One feature added to the sums so far. -/
def featAcc {R : Shape} (g : GatherDims R S512x1 S512x128) (n l k : BitVec 32) (tab : FVec F R .f32) (acc : FVec F S512x128 .f32) : FVec F S512x128 .f32 :=
  addf acc (takeVal tf512 g n l tab (featIdx k (iotaInDim S512 32 0)))

/-- The table of the 512 sums. -/
def combo (a6 : FVec F S119x128 .f32) (a7 : FVec F S4x128 .f32) (a8 : FVec F S12x128 .f32) (a9 : FVec F S12x128 .f32) (a10 : FVec F S10x128 .f32) (a11 : FVec F S6x128 .f32) (a12 : FVec F S6x128 .f32) (a13 : FVec F S2x128 .f32) (a14 : FVec F S2x128 .f32) : FVec F S512x128 .f32 :=
  (featAcc gather_S2x128_S512x1_S512x128_1_0_n_n_0_1_1128 2#32 1#32 0#32 a14 (featAcc gather_S2x128_S512x1_S512x128_1_0_n_n_0_1_1128 2#32 1#32 1#32 a13 (featAcc gather_S6x128_S512x1_S512x128_1_0_n_n_0_1_1128 6#32 5#32 2#32 a12 (featAcc gather_S6x128_S512x1_S512x128_1_0_n_n_0_1_1128 6#32 5#32 3#32 a11 (featAcc gather_S10x128_S512x1_S512x128_1_0_n_n_0_1_1128 10#32 9#32 4#32 a10 (featAcc gather_S12x128_S512x1_S512x128_1_0_n_n_0_1_1128 12#32 11#32 5#32 a9 (featAcc gather_S12x128_S512x1_S512x128_1_0_n_n_0_1_1128 12#32 11#32 6#32 a8 (featAcc gather_S4x128_S512x1_S512x128_1_0_n_n_0_1_1128 4#32 3#32 7#32 a7 (featAcc gather_S119x128_S512x1_S512x128_1_0_n_n_0_1_1128 119#32 118#32 8#32 a6 (broadcastInDim S512x128 ![] bcast_S_S512x128 (constant S_ .f32 0x00000000#32)))))))))))

section
variable (V : Valuation τ sig (Elt F))
def st0 : Valuation τ sig (Elt F) := after opsInit V
def st1 : Valuation τ sig (Elt F) := after feat0 (st0 V)
def st2 : Valuation τ sig (Elt F) := after feat1 (st1 V)
def st3 : Valuation τ sig (Elt F) := after feat2 (st2 V)
def st4 : Valuation τ sig (Elt F) := after feat3 (st3 V)
def st5 : Valuation τ sig (Elt F) := after feat4 (st4 V)
def st6 : Valuation τ sig (Elt F) := after feat5 (st5 V)
def st7 : Valuation τ sig (Elt F) := after feat6 (st6 V)
def st8 : Valuation τ sig (Elt F) := after feat7 (st7 V)
def st9 : Valuation τ sig (Elt F) := after feat8 (st8 V)
theorem after_ops₁ : after ops₁ V = after opsTail (st9 V) := by
  simp only [ops₁, after_append]
  rfl
theorem st0_arg (r : Ref sig .tc) (h : r ∈ args) : st0 V (Proc.devRef .tc r) = V (Proc.devRef .tc r) := init_keep V r h
theorem st0_v1 : st0 V (Proc.devRef .tc main_v1) = iotaInDim S512 32 0 := init_v1 V
theorem args_kept : ∀ r ∈ args, r ∈ kept := by decide
theorem st1_arg (r : Ref sig .tc) (h : r ∈ args) : st1 V (Proc.devRef .tc r) = V (Proc.devRef .tc r) := (feat0_keep _ r (args_kept r h)).trans (st0_arg V r h)
theorem st1_v1 : st1 V (Proc.devRef .tc main_v1) = iotaInDim S512 32 0 := (feat0_keep _ main_v1 (by decide)).trans (st0_v1 V)
theorem st2_arg (r : Ref sig .tc) (h : r ∈ args) : st2 V (Proc.devRef .tc r) = V (Proc.devRef .tc r) := (feat1_keep _ r (args_kept r h)).trans (st1_arg V r h)
theorem st2_v1 : st2 V (Proc.devRef .tc main_v1) = iotaInDim S512 32 0 := (feat1_keep _ main_v1 (by decide)).trans (st1_v1 V)
theorem st3_arg (r : Ref sig .tc) (h : r ∈ args) : st3 V (Proc.devRef .tc r) = V (Proc.devRef .tc r) := (feat2_keep _ r (args_kept r h)).trans (st2_arg V r h)
theorem st3_v1 : st3 V (Proc.devRef .tc main_v1) = iotaInDim S512 32 0 := (feat2_keep _ main_v1 (by decide)).trans (st2_v1 V)
theorem st4_arg (r : Ref sig .tc) (h : r ∈ args) : st4 V (Proc.devRef .tc r) = V (Proc.devRef .tc r) := (feat3_keep _ r (args_kept r h)).trans (st3_arg V r h)
theorem st4_v1 : st4 V (Proc.devRef .tc main_v1) = iotaInDim S512 32 0 := (feat3_keep _ main_v1 (by decide)).trans (st3_v1 V)
theorem st5_arg (r : Ref sig .tc) (h : r ∈ args) : st5 V (Proc.devRef .tc r) = V (Proc.devRef .tc r) := (feat4_keep _ r (args_kept r h)).trans (st4_arg V r h)
theorem st5_v1 : st5 V (Proc.devRef .tc main_v1) = iotaInDim S512 32 0 := (feat4_keep _ main_v1 (by decide)).trans (st4_v1 V)
theorem st6_arg (r : Ref sig .tc) (h : r ∈ args) : st6 V (Proc.devRef .tc r) = V (Proc.devRef .tc r) := (feat5_keep _ r (args_kept r h)).trans (st5_arg V r h)
theorem st6_v1 : st6 V (Proc.devRef .tc main_v1) = iotaInDim S512 32 0 := (feat5_keep _ main_v1 (by decide)).trans (st5_v1 V)
theorem st7_arg (r : Ref sig .tc) (h : r ∈ args) : st7 V (Proc.devRef .tc r) = V (Proc.devRef .tc r) := (feat6_keep _ r (args_kept r h)).trans (st6_arg V r h)
theorem st7_v1 : st7 V (Proc.devRef .tc main_v1) = iotaInDim S512 32 0 := (feat6_keep _ main_v1 (by decide)).trans (st6_v1 V)
theorem st8_arg (r : Ref sig .tc) (h : r ∈ args) : st8 V (Proc.devRef .tc r) = V (Proc.devRef .tc r) := (feat7_keep _ r (args_kept r h)).trans (st7_arg V r h)
theorem st8_v1 : st8 V (Proc.devRef .tc main_v1) = iotaInDim S512 32 0 := (feat7_keep _ main_v1 (by decide)).trans (st7_v1 V)
theorem st9_arg (r : Ref sig .tc) (h : r ∈ args) : st9 V (Proc.devRef .tc r) = V (Proc.devRef .tc r) := (feat8_keep _ r (args_kept r h)).trans (st8_arg V r h)
theorem st9_v1 : st9 V (Proc.devRef .tc main_v1) = iotaInDim S512 32 0 := (feat8_keep _ main_v1 (by decide)).trans (st8_v1 V)
theorem st1_acc : st1 V (Proc.devRef .tc main_v7) = featAcc gather_S119x128_S512x1_S512x128_1_0_n_n_0_1_1128 119#32 118#32 8#32 (V (Proc.devRef .tc main_arg6)) (st0 V (Proc.devRef .tc main_v0)) := by
  unfold st1 featAcc
  rw [feat0_val, st0_v1, st0_arg V main_arg6 (by decide)]
theorem st2_acc : st2 V (Proc.devRef .tc main_v13) = featAcc gather_S4x128_S512x1_S512x128_1_0_n_n_0_1_1128 4#32 3#32 7#32 (V (Proc.devRef .tc main_arg7)) (st1 V (Proc.devRef .tc main_v7)) := by
  unfold st2 featAcc
  rw [feat1_val, st1_v1, st1_arg V main_arg7 (by decide)]
theorem st3_acc : st3 V (Proc.devRef .tc main_v19) = featAcc gather_S12x128_S512x1_S512x128_1_0_n_n_0_1_1128 12#32 11#32 6#32 (V (Proc.devRef .tc main_arg8)) (st2 V (Proc.devRef .tc main_v13)) := by
  unfold st3 featAcc
  rw [feat2_val, st2_v1, st2_arg V main_arg8 (by decide)]
theorem st4_acc : st4 V (Proc.devRef .tc main_v25) = featAcc gather_S12x128_S512x1_S512x128_1_0_n_n_0_1_1128 12#32 11#32 5#32 (V (Proc.devRef .tc main_arg9)) (st3 V (Proc.devRef .tc main_v19)) := by
  unfold st4 featAcc
  rw [feat3_val, st3_v1, st3_arg V main_arg9 (by decide)]
theorem st5_acc : st5 V (Proc.devRef .tc main_v31) = featAcc gather_S10x128_S512x1_S512x128_1_0_n_n_0_1_1128 10#32 9#32 4#32 (V (Proc.devRef .tc main_arg10)) (st4 V (Proc.devRef .tc main_v25)) := by
  unfold st5 featAcc
  rw [feat4_val, st4_v1, st4_arg V main_arg10 (by decide)]
theorem st6_acc : st6 V (Proc.devRef .tc main_v37) = featAcc gather_S6x128_S512x1_S512x128_1_0_n_n_0_1_1128 6#32 5#32 3#32 (V (Proc.devRef .tc main_arg11)) (st5 V (Proc.devRef .tc main_v31)) := by
  unfold st6 featAcc
  rw [feat5_val, st5_v1, st5_arg V main_arg11 (by decide)]
theorem st7_acc : st7 V (Proc.devRef .tc main_v43) = featAcc gather_S6x128_S512x1_S512x128_1_0_n_n_0_1_1128 6#32 5#32 2#32 (V (Proc.devRef .tc main_arg12)) (st6 V (Proc.devRef .tc main_v37)) := by
  unfold st7 featAcc
  rw [feat6_val, st6_v1, st6_arg V main_arg12 (by decide)]
theorem st8_acc : st8 V (Proc.devRef .tc main_v49) = featAcc gather_S2x128_S512x1_S512x128_1_0_n_n_0_1_1128 2#32 1#32 1#32 (V (Proc.devRef .tc main_arg13)) (st7 V (Proc.devRef .tc main_v43)) := by
  unfold st8 featAcc
  rw [feat7_val, st7_v1, st7_arg V main_arg13 (by decide)]
theorem st9_acc : st9 V (Proc.devRef .tc main_v55) = featAcc gather_S2x128_S512x1_S512x128_1_0_n_n_0_1_1128 2#32 1#32 0#32 (V (Proc.devRef .tc main_arg14)) (st8 V (Proc.devRef .tc main_v49)) := by
  unfold st9 featAcc
  rw [feat8_val, st8_v1, st8_arg V main_arg14 (by decide)]
theorem ops₁_v58 : after ops₁ V (Proc.devRef .tc main_v58) = copies (combo (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14))) := by
  rw [after_ops₁, tail_v58, st9_acc, st8_acc, st7_acc, st6_acc, st5_acc, st4_acc, st3_acc, st2_acc, st1_acc]
  unfold combo st0
  rw [init_v0]
theorem ops₁_v67 : after ops₁ V (Proc.devRef .tc main_v67) = codes (V (Proc.devRef .tc main_arg0)) := by
  rw [after_ops₁, tail_v67, st9_arg V main_arg0 (by decide)]
theorem ops₁_arg (r : Ref sig .tc) (h : r ∈ args) : after ops₁ V (Proc.devRef .tc r) = V (Proc.devRef .tc r) := by
  rw [after_ops₁, tail_keep _ r h, st9_arg V r h]
end

end Cert.Proof

end
-- ==== Proof.Codes.lean ====
/-
  The nodes' words and their codes. Every word is 0 or 1, by the precondition; a node's code is its nine words as the digits
  of a number, so it is below 512 and its digits are the words again.
-/
module

public import proofs.«01_k».proof.Proof.HostVal
public import Idealize.ShloMosaic.Lib.StableHlo.Predicate
public import Idealize.ShloMosaic.Lib.Pipeline.Value

@[expose] public section

noncomputable section

namespace Cert.Proof

open Cert.KernelIdeal Cert.KernelIdeal.Gen

open Idealize.ShloMosaic Idealize.ShloMosaic.ValueIdx Idealize.ShloMosaic.StableHlo

variable {F : FTy → Type} [FloatOps F]

/-- Every word of every node is 0 or 1. -/
def OkWords (x : IVec S100000x9 32) : Prop := ∀ n q, (x (ix2 n q)).toNat < 2

instance : Subsingleton S_.Idx := ⟨fun a b => funext fun i => i.elim0⟩

theorem ok_of_pre [Cert.Pre_node_bits.Facts] (x : IVec S100000x9 32) (a1 : FVec F S1600000x4 .f32) (a2 a3 : IVec S1600000 32) (a4 : IVec S100000 32) (a5 : IVec S1600000 32)
    (a6 : FVec F S119x128 .f32) (a7 : FVec F S4x128 .f32) (a8 a9 : FVec F S12x128 .f32) (a10 : FVec F S10x128 .f32) (a11 a12 : FVec F S6x128 .f32) (a13 a14 : FVec F S2x128 .f32)
    (h : Cert.Pre_node_bits.fn x a1 a2 a3 a4 a5 a6 a7 a8 a9 a10 a11 a12 a13 a14 = fun _ => 1#1) : OkWords x := by
  have andi_ofBool (p q : Bool) : IntOp.andi (BitVec.ofBool p) (BitVec.ofBool q) = BitVec.ofBool (p && q) := by
    cases p <;> cases q <;> decide
  have key : ∀ v : BitVec 32, IntOp.andi (IntOp.cmpi .sge v 0#32) (IntOp.cmpi .slt v 2#32) = 1#1 → v.toNat < 2 := by
    intro v e
    simp only [IntOp.cmpi, andi_ofBool, Predicate.ofBool_eq_one_iff, Bool.and_eq_true, BitVec.sle_eq_decide, BitVec.slt_eq_decide,
      decide_eq_true_eq, BitVec.toInt_eq_toNat_cond, BitVec.toNat_ofNat, Nat.reducePow, Nat.reduceMod] at e
    omega
  intro n q
  have e := congrFun h (Shape.Idx.first Cert.Pre_node_bits.Facts.h_S_)
  exact key _ (Host.reduce_andi_all _ _ _ _ _ e (ix2 n q))

section

variable {x : IVec S100000x9 32} (hx : OkWords x)

/-- The words as digits. -/
def digit (hx : OkWords x) (n : Fin 100000) (q : Fin 9) : Fin 2 := ⟨(x (ix2 n q)).toNat, hx n q⟩

theorem word_eq (n : Fin 100000) (q : Fin 9) : x (ix2 n q) = BitVec.ofNat 32 (digit hx n q).val :=
  BitVec.eq_of_toNat_eq (by
    rw [BitVec.toNat_ofNat]
    have := hx n q
    show _ = (x (ix2 n q)).toNat % 2 ^ 32
    omega)

/-- The weight of word `q`. -/
theorem weight (q : Fin 9) : (Host.shli (broadcastInDim S9 ![] bcast_S_S9 (constantI S_ 32 1#32))
    (subi (broadcastInDim S9 ![] bcast_S_S9 (constantI S_ 32 8#32)) (iotaInDim S9 32 0)) (ix1 q) : BitVec 32) = BitVec.ofNat 32 (2 ^ (8 - q.val)) := by
  show IntOp.shli .host 1#32 (IntOp.subi 8#32 (BitVec.ofNat 32 q.val)) = _
  revert q
  decide

/-- The products the codes sum. -/
def terms (x : IVec S100000x9 32) : IVec S100000x9 32 :=
  muli x (broadcastInDim S100000x9 ![0, 1] bcast_S1x9_S100000x9_0_1 (broadcastInDim S1x9 ![1] bcast_S9_S1x9_1
    (Host.shli (broadcastInDim S9 ![] bcast_S_S9 (constantI S_ 32 1#32)) (subi (broadcastInDim S9 ![] bcast_S_S9 (constantI S_ 32 8#32)) (iotaInDim S9 32 0)))))

include hx in
theorem terms_toNat (n : Fin 100000) (q : Fin 9) : (terms x (ix2 n q)).toNat = (digit hx n q).val * 2 ^ (8 - q.val) := by
  have e : terms x (ix2 n q) = x (ix2 n q) * BitVec.ofNat 32 (2 ^ (8 - q.val)) := by
    refine congrArg (x (ix2 n q) * ·) ?_
    rw [broadcastInDim_apply _ bcast_S1x9_S100000x9_0_1 _ (ix2 n q) (ix2 0 q) (fun a => by
      match a with
      | ⟨0, _⟩ => rfl
      | ⟨1, _⟩ => rfl)]
    rw [broadcastInDim_apply _ bcast_S9_S1x9_1 _ (ix2 0 q) (ix1 q) (fun a => by
      match a with
      | ⟨0, _⟩ => rfl)]
    exact weight q
  have h2 : 2 ^ (8 - q.val) ≤ 2 ^ 8 := Nat.pow_le_pow_right (by norm_num) (by omega)
  have h1 := hx n q
  have h3 : (x (ix2 n q)).toNat * 2 ^ (8 - q.val) ≤ 1 * 2 ^ 8 := Nat.mul_le_mul (by omega) h2
  rw [e, BitVec.toNat_mul, BitVec.toNat_ofNat, Nat.mod_eq_of_lt (by omega : 2 ^ (8 - q.val) < 2 ^ 32)]
  exact Nat.mod_eq_of_lt (by omega)

/-- The number with the digits `b`. -/
def number (b : Fin 9 → Fin 2) : ℕ := ∑ q : Fin 9, (b q).val * 2 ^ (8 - q.val)

theorem number_eq (b : Fin 9 → Fin 2) : number b = (b 0).val * 256 + (b 1).val * 128 + (b 2).val * 64 + (b 3).val * 32 + (b 4).val * 16 + (b 5).val * 8
    + (b 6).val * 4 + (b 7).val * 2 + (b 8).val := by
  simp [number, Fin.sum_univ_succ]
  omega

theorem number_lt (b : Fin 9 → Fin 2) : number b < 512 := by
  rw [number_eq]
  have := (b 0).isLt; have := (b 1).isLt; have := (b 2).isLt; have := (b 3).isLt; have := (b 4).isLt
  have := (b 5).isLt; have := (b 6).isLt; have := (b 7).isLt; have := (b 8).isLt
  omega

/-- The digits of the number are `b`. -/
theorem number_digit (b : Fin 9 → Fin 2) (q : Fin 9) : number b / 2 ^ (8 - q.val) % 2 = (b q).val := by
  have h := number_eq b
  have := (b 0).isLt; have := (b 1).isLt; have := (b 2).isLt; have := (b 3).isLt; have := (b 4).isLt
  have := (b 5).isLt; have := (b 6).isLt; have := (b 7).isLt; have := (b 8).isLt
  match q with
  | 0 => show number b / 256 % 2 = _; omega
  | 1 => show number b / 128 % 2 = _; omega
  | 2 => show number b / 64 % 2 = _; omega
  | 3 => show number b / 32 % 2 = _; omega
  | 4 => show number b / 16 % 2 = _; omega
  | 5 => show number b / 8 % 2 = _; omega
  | 6 => show number b / 4 % 2 = _; omega
  | 7 => show number b / 2 % 2 = _; omega
  | 8 => show number b / 1 % 2 = _; omega

/-- A node's code is the number whose digits are its words. -/
theorem codes_toNat (n : Fin 100000) : (codes x (ix1 n)).toNat = number (digit hx n) := by
  classical
  have h := reducesTo_S100000x9_S100000_d1
  have hdrop : ∀ i : S100000x9.Idx, h.drop i = ix1 n ↔ i 0 = n := by
    intro i
    have hv : (h.drop i 0 : Nat) = i 0 := Shape.ReducesTo.drop_apply_val h i 0
    constructor
    · intro e; rw [e] at hv; exact Fin.ext hv.symm
    · intro e; funext b; have hb : b = 0 := Subsingleton.elim _ _; subst hb; exact Fin.ext (by rw [hv, e])
  have hback : ∀ i : S100000x9.Idx, i 0 = n → ix2 n (i 1) = i := fun i h0 => by
    rw [← h0]; exact (eq_ix2 i).symm
  have hsum : ∑ i ∈ Finset.univ.filter (fun i : S100000x9.Idx => h.drop i = ix1 n), (terms x i).toNat = number (digit hx n) := by
    unfold number
    refine Finset.sum_bij' (fun i _ => i 1) (fun q _ => ix2 n q) (fun _ _ => Finset.mem_univ _)
      (fun q _ => Finset.mem_filter.2 ⟨Finset.mem_univ _, (hdrop _).2 rfl⟩)
      (fun i hi => hback i ((hdrop i).1 (Finset.mem_filter.1 hi).2)) (fun _ _ => rfl) ?_
    intro i hi
    exact (congrArg (fun k => (terms x k).toNat) (hback i ((hdrop i).1 (Finset.mem_filter.1 hi).2)).symm).trans (terms_toNat hx n (i 1))
  have e : codes x (ix1 n) = Finset.fold IntOp.addi 0#32 (terms x) (Finset.univ.filter fun i : S100000x9.Idx => h.drop i = ix1 n) :=
    Host.reduce_eq_fold _ _ _ _ _ _
  have hlt := number_lt (digit hx n)
  rw [e, Predicate.toNat_fold_addi _ _ (by rw [hsum]; omega), hsum]

include hx in
theorem codes_lt (i : S100000.Idx) : (codes x i).toNat < 512 := by
  obtain ⟨n, rfl⟩ : ∃ n : Fin 100000, i = ix1 n := ⟨i 0, eq_ix1 i⟩
  rw [codes_toNat hx]
  exact number_lt _

end

end Cert.Proof

end
-- ==== Proof.Value.lean ====
/-
  What the program leaves in its first result: at a node and a column, the sum of the nine rows the node's words name.
-/
module

public import proofs.«01_k».proof.Proof.Codes
public import proofs.«01_k».proof.Proof.Base

@[expose] public section

noncomputable section

namespace Cert.Proof

open Cert.KernelIdeal Cert.KernelIdeal.Gen

open Idealize.ShloMosaic Idealize.ShloMosaic.ValueIdx Idealize.ShloMosaic.StableHlo

variable {F : FTy → Type} [FloatOps F]

/-- The row a digit names in a table of at least two rows. -/
abbrev rowAt {R : ℕ} (hR : 2 ≤ R) (d : Fin 2) : Fin R := d.castLE hR

/-! ## The table of the sums -/

theorem shrsi_small (r k : ℕ) (hr : r < 512) (hk : k < 9) : IntOp.shrsi .host (BitVec.ofNat 32 r) (BitVec.ofNat 32 k) = BitVec.ofNat 32 (r / 2 ^ k) := by
  have hd : r / 2 ^ k ≤ r := Nat.div_le_self _ _
  have hk' : (BitVec.ofNat 32 k).toNat = k := by rw [BitVec.toNat_ofNat]; omega
  have hr' : (BitVec.ofNat 32 r).toNat = r := by rw [BitVec.toNat_ofNat]; omega
  have hm : (BitVec.ofNat 32 r).msb = false := BitVec.msb_eq_false_iff_two_mul_lt.mpr (by rw [hr']; omega)
  unfold IntOp.shrsi
  rw [if_pos (by rw [hk']; omega), BitVec.sshiftRight', BitVec.sshiftRight_eq_of_msb_false hm, hk']
  refine BitVec.eq_of_toNat_eq ?_
  rw [BitVec.toNat_ushiftRight, hr', Nat.shiftRight_eq_div_pow, BitVec.toNat_ofNat]
  exact (Nat.mod_eq_of_lt (by
    generalize r / 2 ^ k = q at hd
    omega)).symm

theorem andi_one (r : ℕ) (hr : r < 512) : IntOp.andi (BitVec.ofNat 32 r) 1#32 = BitVec.ofNat 32 (r % 2) := by
  refine BitVec.eq_of_toNat_eq ?_
  show (BitVec.ofNat 32 r &&& 1#32).toNat = _
  rw [BitVec.toNat_and, BitVec.toNat_ofNat, BitVec.toNat_ofNat, BitVec.toNat_ofNat, Nat.mod_eq_of_lt (by omega : r < 2 ^ 32), Nat.mod_eq_of_lt (by omega : 1 < 2 ^ 32),
    Nat.and_one_is_mod]
  omega

/-- Bit `k` of a row's number. -/
def bitOf (k : ℕ) (r : Fin 512) : Fin 2 := ⟨r.val / 2 ^ k % 2, Nat.mod_lt _ (by norm_num)⟩

theorem featIdx_apply (k : ℕ) (hk : k < 9) (r : Fin 512) : featIdx (BitVec.ofNat 32 k) (iotaInDim S512 32 0) (ix1 r) = BitVec.ofNat 32 (bitOf k r).val := by
  show IntOp.andi (IntOp.shrsi .host (BitVec.ofNat 32 r.val) (BitVec.ofNat 32 k)) 1#32 = _
  have hd : r.val / 2 ^ k ≤ r.val := Nat.div_le_self _ _
  rw [shrsi_small _ _ r.isLt hk, andi_one _ (lt_of_le_of_lt hd r.isLt)]
  rfl

theorem featAcc_apply {R : ℕ} (hR : 2 ≤ R) (hR' : R < 2 ^ 31) (g : GatherDims (sR R) S512x1 S512x128) (hoff : g.offsetDims = [1]) (hcoll : g.collapsedSliceDims = [0])
    (hob : g.operandBatchingDims = []) (hsim : g.startIndexMap = [0]) (hivd : g.indexVectorDim = 1)
    (n l : BitVec 32) (hl : l = BitVec.ofNat 32 (R - 1)) (k : ℕ) (hk : k < 9) (tab : FVec F (sR R) .f32) (acc : FVec F S512x128 .f32) (r : Fin 512) (j : Fin 128) :
    featAcc g n l (BitVec.ofNat 32 k) tab acc (ix2 r j) = FloatOps.addf (acc (ix2 r j)) (tab (ix2 (rowAt hR (bitOf k r)) j)) :=
  congrArg (FloatOps.addf (acc (ix2 r j)))
    (takeVal_apply tf512 _ (fun i => rowAt hR (bitOf k i)) (fun i => featIdx_apply k hk i) hR' g hoff hcoll hob hsim hivd n l hl tab r j)

/-- The sum of the nine rows the digits `b` name, at column `j`. -/
def rowSum (a6 : FVec F S119x128 .f32) (a7 : FVec F S4x128 .f32) (a8 a9 : FVec F S12x128 .f32) (a10 : FVec F S10x128 .f32) (a11 a12 : FVec F S6x128 .f32)
    (a13 a14 : FVec F S2x128 .f32) (b : Fin 9 → Fin 2) (j : Fin 128) : F .f32 :=
  FloatOps.addf (FloatOps.addf (FloatOps.addf (FloatOps.addf (FloatOps.addf (FloatOps.addf (FloatOps.addf (FloatOps.addf (FloatOps.addf
    (FloatOps.ofBits .f32 0x00000000#32) (a6 (ix2 (rowAt (by norm_num) (b 0)) j))) (a7 (ix2 (rowAt (by norm_num) (b 1)) j))) (a8 (ix2 (rowAt (by norm_num) (b 2)) j)))
    (a9 (ix2 (rowAt (by norm_num) (b 3)) j))) (a10 (ix2 (rowAt (by norm_num) (b 4)) j))) (a11 (ix2 (rowAt (by norm_num) (b 5)) j)))
    (a12 (ix2 (rowAt (by norm_num) (b 6)) j))) (a13 (ix2 (rowAt (by norm_num) (b 7)) j))) (a14 (ix2 (rowAt (by norm_num) (b 8)) j))

variable (a6 : FVec F S119x128 .f32) (a7 : FVec F S4x128 .f32) (a8 a9 : FVec F S12x128 .f32) (a10 : FVec F S10x128 .f32) (a11 a12 : FVec F S6x128 .f32)
  (a13 a14 : FVec F S2x128 .f32)

theorem combo_apply (r : Fin 512) (j : Fin 128) :
    combo a6 a7 a8 a9 a10 a11 a12 a13 a14 (ix2 r j) = rowSum a6 a7 a8 a9 a10 a11 a12 a13 a14 (fun q => bitOf (8 - q.val) r) j := by
  unfold combo
  refine (featAcc_apply (R := 2) (by norm_num) (by norm_num) _ rfl rfl rfl rfl rfl _ _ rfl 0 (by norm_num) _ _ r j).trans ?_
  refine congrArg (FloatOps.addf · _) ?_
  refine (featAcc_apply (R := 2) (by norm_num) (by norm_num) _ rfl rfl rfl rfl rfl _ _ rfl 1 (by norm_num) _ _ r j).trans ?_
  refine congrArg (FloatOps.addf · _) ?_
  refine (featAcc_apply (R := 6) (by norm_num) (by norm_num) _ rfl rfl rfl rfl rfl _ _ rfl 2 (by norm_num) _ _ r j).trans ?_
  refine congrArg (FloatOps.addf · _) ?_
  refine (featAcc_apply (R := 6) (by norm_num) (by norm_num) _ rfl rfl rfl rfl rfl _ _ rfl 3 (by norm_num) _ _ r j).trans ?_
  refine congrArg (FloatOps.addf · _) ?_
  refine (featAcc_apply (R := 10) (by norm_num) (by norm_num) _ rfl rfl rfl rfl rfl _ _ rfl 4 (by norm_num) _ _ r j).trans ?_
  refine congrArg (FloatOps.addf · _) ?_
  refine (featAcc_apply (R := 12) (by norm_num) (by norm_num) _ rfl rfl rfl rfl rfl _ _ rfl 5 (by norm_num) _ _ r j).trans ?_
  refine congrArg (FloatOps.addf · _) ?_
  refine (featAcc_apply (R := 12) (by norm_num) (by norm_num) _ rfl rfl rfl rfl rfl _ _ rfl 6 (by norm_num) _ _ r j).trans ?_
  refine congrArg (FloatOps.addf · _) ?_
  refine (featAcc_apply (R := 4) (by norm_num) (by norm_num) _ rfl rfl rfl rfl rfl _ _ rfl 7 (by norm_num) _ _ r j).trans ?_
  refine congrArg (FloatOps.addf · _) ?_
  exact featAcc_apply (R := 119) (by norm_num) (by norm_num) _ rfl rfl rfl rfl rfl _ _ rfl 8 (by norm_num) _ _ r j

/-! ## The copies of it, and what the call leaves -/

theorem copies_apply (x : FVec F S512x128 .f32) (w r : ℕ) (hw : w < 32) (hr : r < 512) (p : Fin 16384) (hp : p.val = 512 * w + r) (j : Fin 128) :
    copies x (ix2 p j) = x (ix2 ⟨r, hr⟩ j) := by
  unfold copies
  rw [shapeCast_apply _ _ (ix2 p j) (ix4 (⟨w, hw⟩ : Fin 32) (⟨r, hr⟩ : Fin 512) (0 : Fin 1) j) (by
    rw [Shape.rowMajor_val_four, Shape.rowMajor_val_two]
    show ((w * 512 + r) * 1 + 0) * 128 + j.val = p.val * 128 + j.val
    rw [hp]; ring)]
  rw [broadcastInDim_apply _ bcast_S1x512x1x128_S32x512x1x128_0_1_2_3 _ (ix4 (⟨w, hw⟩ : Fin 32) (⟨r, hr⟩ : Fin 512) (0 : Fin 1) j)
    (ix4 (0 : Fin 1) (⟨r, hr⟩ : Fin 512) (0 : Fin 1) j) (fun a => by
      match a with
      | ⟨0, _⟩ => rfl
      | ⟨1, _⟩ => rfl
      | ⟨2, _⟩ => rfl
      | ⟨3, _⟩ => rfl)]
  exact shapeCast_apply _ _ _ (ix2 ⟨r, hr⟩ j) (by
    rw [Shape.rowMajor_val_four, Shape.rowMajor_val_two]
    show r * 128 + j.val = ((0 * 512 + r) * 1 + 0) * 128 + j.val
    ring)

variable {x : IVec S100000x9 32} (hx : OkWords x)

theorem outVal_eq (n : Fin 100000) (j : Fin 128) :
    outVal (copies (combo a6 a7 a8 a9 a10 a11 a12 a13 a14)) (codes x) (ix2 n j) = rowSum a6 a7 a8 a9 a10 a11 a12 a13 a14 (digit hx n) j := by
  have hw : n.val / 400 % 32 < 32 := Nat.mod_lt _ (by norm_num)
  have hr : (rowWord (codes x) (n.val / 400 % 32) n).toNat = number (digit hx n) + 512 * (n.val / 400 % 32) := by
    rw [rowWord_toNat (codes_lt hx) hw n]
    exact congrArg (· + 512 * (n.val / 400 % 32)) (codes_toNat hx n)
  have hn := number_lt (digit hx n)
  show rowVal (copies (combo a6 a7 a8 a9 a10 a11 a12 a13 a14)) (codes x) (n.val / 400 % 32) n j = _
  unfold rowVal
  rw [copies_apply _ (n.val / 400 % 32) (number (digit hx n)) hw hn _ (by
    show (rowWord (codes x) (n.val / 400 % 32) n).toNat % 16384 = _
    rw [hr]; omega) j, combo_apply]
  refine congrArg (fun b => rowSum a6 a7 a8 a9 a10 a11 a12 a13 a14 b j) (funext fun q => Fin.ext ?_)
  exact number_digit (digit hx n) q

end Cert.Proof

end
-- ==== Proof.Run.lean ====
/-
  The run of the whole program: from any memory whose node words are 0 or 1, every execution ends with the first result at
  the sums of the rows the words name, the second at zero, the arguments as they were, and every semaphore at zero.
-/
module

public import proofs.«01_k».proof.Proof.Launch
public import proofs.«01_k».proof.Proof.Value

@[expose] public section

noncomputable section

namespace Cert.Proof

open Cert.KernelIdeal Cert.KernelIdeal.Gen

open Idealize.ShloMosaic Idealize.ShloMosaic.ValueIdx Idealize.ShloMosaic.StableHlo
open Idealize.ShloMosaic.Pipeline (ucRefs)
open Idealize.SL.Sem

variable {F : FTy → Type} [FloatOps F] [∀ e, Nonempty (Elt F e)]
variable (m : (ℓ : Loc nD τ sig) → Buf (Elt F) ℓ) (ρ : Dev nD → PrngReg)

/-- The contents of the host's array `r` of device `d` at the start. -/
abbrev at₀ (d : Dev nD) (r : Ref sig .tc) : Buf (Elt F) ((d.tc : Thread nD τ).loc r) := m ((d.tc : Thread nD τ).loc r)

theorem args_unscoped : ∀ r ∈ main_v68 :: main_v69 :: args, r.isScoped = false := by decide

theorem args_ucRefs (r : Ref sig .tc) (h : r ∈ main_v68 :: main_v69 :: args) : (Proc.devRef .tc r : DevRef τ sig) ∈ ucRefs τ sig :=
  Finset.mem_filter.mpr ⟨Finset.mem_map_of_mem _ (Finset.mem_univ r), fun e => Bool.false_ne_true ((args_unscoped r h).symm.trans e)⟩

theorem args_ne : ∀ r ∈ args, (Proc.devRef .tc r : DevRef τ sig) ≠ o' := by decide

theorem U₂_arg (d : Dev nD) (r : Ref sig .tc) (h : r ∈ args) : U₂ m ops₁ ops₂ d (Proc.devRef .tc r) = at₀ m d r := by
  unfold U₂ atCall
  rw [last_keep _ r (List.mem_cons_of_mem _ h), Function.update_of_ne (args_ne r h)]
  exact ops₁_arg _ r h

/-- What the first result ends at. -/
def result (d : Dev nD) : FVec F S100000x128 .f32 :=
  outVal (copies (combo (at₀ m d main_arg6) (at₀ m d main_arg7) (at₀ m d main_arg8) (at₀ m d main_arg9) (at₀ m d main_arg10) (at₀ m d main_arg11)
    (at₀ m d main_arg12) (at₀ m d main_arg13) (at₀ m d main_arg14))) (codes (at₀ m d main_arg0))

theorem U₂_v68 (d : Dev nD) : U₂ m ops₁ ops₂ d (Proc.devRef .tc main_v68) = result m d := by
  unfold U₂ atCall
  rw [last_keep _ main_v68 (List.mem_cons_self), Function.update_self]
  unfold callOut U₁ result
  rw [show after ops₁ (fun b => m (d, b)) t' = _ from ops₁_v58 _, show after ops₁ (fun b => m (d, b)) c' = _ from ops₁_v67 _]

theorem U₂_v69 (d : Dev nD) : U₂ m ops₁ ops₂ d (Proc.devRef .tc main_v69) = (broadcastInDim S1024x1 ![] bcast_S_S1024x1 (constant S_ .f32 0x00000000#32) : FVec F S1024x1 .f32) :=
  last_v69 _

variable (hx : ∀ d, OkWords (at₀ m d main_arg0))

include hx in
theorem run_main : θ_run (Cert.KernelIdeal.defs (F := F)) (Cert.KernelIdeal.threads (F := F)) ⟨m, fun _ => 0, ρ⟩ (fun r =>
    (∀ d : Dev nD, r.2.mem ((d.tc : Thread nD τ).loc main_v68) = result m d
      ∧ r.2.mem ((d.tc : Thread nD τ).loc main_v69) = (broadcastInDim S1024x1 ![] bcast_S_S1024x1 (constant S_ .f32 0x00000000#32) : FVec F S1024x1 .f32)
      ∧ ∀ a ∈ args, r.2.mem ((d.tc : Thread nD τ).loc a) = m ((d.tc : Thread nD τ).loc a))
    ∧ r.2.sem = fun _ => 0) :=
  (θ_run _ _ _).mono (fun r h => ⟨fun d =>
      ⟨(h.1 d _ (args_ucRefs main_v68 (by decide))).trans (U₂_v68 m d),
        (h.1 d _ (args_ucRefs main_v69 (by decide))).trans (U₂_v69 m d),
        fun a ha => (h.1 d _ (args_ucRefs a (List.mem_cons_of_mem _ (List.mem_cons_of_mem _ ha)))).trans (U₂_arg m d a ha)⟩, h.2⟩)
    (run_of m ρ ops₁ ops₂ main_eq ops₁_sub ops₂_sub ops₁_fresh ops₂_fresh (fun d y => by
      have e : U₁ m ops₁ d c' = codes (at₀ m d main_arg0) := ops₁_v67 _
      rw [e]
      exact codes_lt (hx d) y))

end Cert.Proof

end
-- ==== Proof.RefValue.lean ====
/-
  What the reference leaves in its first result: at a node and a column, the sum of the nine rows the node's words name.
-/
module

public import proofs.«01_k».proof.Proof.Value
public import proofs.«01_k».proof.Proof.Gen.ReferenceIdeal.Run

@[expose] public section

noncomputable section

namespace Cert.Proof.Ref

open Cert.ReferenceIdeal Cert.ReferenceIdeal.Gen Cert.ReferenceIdeal.Value

open Idealize.ShloMosaic Idealize.ShloMosaic.ValueIdx Idealize.ShloMosaic.StableHlo Idealize.SL.Sem

variable {F : FTy → Type} [FloatOps F]

theorem tfN : TakeFacts 100000 :=
  ⟨bcast_S_S100000, bcast_S100000_S100000x1_0, bcast_S_S100000x1, bcast_S1_S1x1_1, bcast_S1x1_S100000x1_0_1, reducesTo_S100000x1_S100000_d1, h_S_, bcast_S100000_S100000x128_0, bcast_S_S100000x128⟩

/-- A column of the words, as a list. -/
theorem column (x : IVec S100000x9 32) (q : Fin 9) (hs : S100000x9.Slices ![0, q.val] S100000x1) (hc : S100000x1.ShapeCasts S100000) (n : Fin 100000) :
    shapeCast S100000 (extractStridedSlice S100000x1 ![0, q.val] x hs) hc (ix1 n) = x (ix2 n q) := by
  rw [shapeCast_apply _ hc (ix1 n) (ix2 n (0 : Fin 1)) (by
    rw [Shape.rowMajor_val_one, Shape.rowMajor_val_two]
    show n.val * 1 + 0 = n.val
    omega)]
  refine congrArg x (funext fun a => Fin.ext ?_)
  match a with
  | ⟨0, _⟩ => exact Nat.zero_add _
  | ⟨1, _⟩ => exact Nat.add_zero _

/-- A look-up by one column of the words. -/
theorem look {x : IVec S100000x9 32} (hx : OkWords x) (q : Fin 9) (idx : IVec (sW 100000) 32) (hi : ∀ n, idx (ix1 n) = x (ix2 n q))
    {R : ℕ} (hR : 2 ≤ R) (hR' : R < 2 ^ 31) (g : GatherDims (sR R) (sC 100000) (sR 100000)) (hoff : g.offsetDims = [1]) (hcoll : g.collapsedSliceDims = [0])
    (hob : g.operandBatchingDims = []) (hsim : g.startIndexMap = [0]) (hivd : g.indexVectorDim = 1)
    (k l : BitVec 32) (hl : l = BitVec.ofNat 32 (R - 1)) (tab : FVec F (sR R) .f32) (n : Fin 100000) (j : Fin 128) :
    takeVal tfN g k l tab idx (ix2 n j) = tab (ix2 (rowAt hR (digit hx n q)) j) :=
  takeVal_apply tfN idx (fun i => rowAt hR (digit hx i q)) (fun i => (hi i).trans (word_eq hx i q)) hR' g hoff hcoll hob hsim hivd k l hl tab n j

variable (V : Valuation τ sig (Elt F))

/-- The nine look-ups, summed. -/
def total : FVec F S100000x128 .f32 :=
  addf (addf (addf (addf (addf (addf (addf (addf (addf (broadcastInDim S100000x128 ![] bcast_S_S100000x128 (constant S_ .f32 0x00000000#32))
    (takeVal tfN gather_S119x128_S100000x1_S100000x128_1_0_n_n_0_1_1128 119#32 118#32 (V (Proc.devRef .tc main_arg6)) (res_main_v2 V)))
    (takeVal tfN gather_S4x128_S100000x1_S100000x128_1_0_n_n_0_1_1128 4#32 3#32 (V (Proc.devRef .tc main_arg7)) (res_main_v6 V)))
    (takeVal tfN gather_S12x128_S100000x1_S100000x128_1_0_n_n_0_1_1128 12#32 11#32 (V (Proc.devRef .tc main_arg8)) (res_main_v10 V)))
    (takeVal tfN gather_S12x128_S100000x1_S100000x128_1_0_n_n_0_1_1128 12#32 11#32 (V (Proc.devRef .tc main_arg9)) (res_main_v14 V)))
    (takeVal tfN gather_S10x128_S100000x1_S100000x128_1_0_n_n_0_1_1128 10#32 9#32 (V (Proc.devRef .tc main_arg10)) (res_main_v18 V)))
    (takeVal tfN gather_S6x128_S100000x1_S100000x128_1_0_n_n_0_1_1128 6#32 5#32 (V (Proc.devRef .tc main_arg11)) (res_main_v22 V)))
    (takeVal tfN gather_S6x128_S100000x1_S100000x128_1_0_n_n_0_1_1128 6#32 5#32 (V (Proc.devRef .tc main_arg12)) (res_main_v26 V)))
    (takeVal tfN gather_S2x128_S100000x1_S100000x128_1_0_n_n_0_1_1128 2#32 1#32 (V (Proc.devRef .tc main_arg13)) (res_main_v30 V)))
    (takeVal tfN gather_S2x128_S100000x1_S100000x128_1_0_n_n_0_1_1128 2#32 1#32 (V (Proc.devRef .tc main_arg14)) (res_main_v34 V))

set_option maxRecDepth 8192 in
theorem val1_total : val1 V (Proc.devRef .tc main_v36) = total V := by
  rw [val1_main_v36]
  unfold res_main_v28 res_main_call0_v5 res_main_call1_v5 res_main_call2_v5 res_main_call3_v5 res_main_call4_v5 res_main_call5_v5 res_main_call6_v5 res_main_call7_v5 res_main_call8_v5
  unfold total takeVal takeIx
  rfl

theorem total_apply (hx : OkWords (V (Proc.devRef .tc main_arg0))) (n : Fin 100000) (j : Fin 128) :
    total V (ix2 n j) = rowSum (V (Proc.devRef .tc main_arg6)) (V (Proc.devRef .tc main_arg7)) (V (Proc.devRef .tc main_arg8)) (V (Proc.devRef .tc main_arg9))
      (V (Proc.devRef .tc main_arg10)) (V (Proc.devRef .tc main_arg11)) (V (Proc.devRef .tc main_arg12)) (V (Proc.devRef .tc main_arg13)) (V (Proc.devRef .tc main_arg14))
      (digit hx n) j := by
  unfold total rowSum
  refine congrArg₂ FloatOps.addf ?_ (look hx 8 _ (fun n => column _ 8 _ _ n) (R := 2) (by norm_num) (by norm_num) _ rfl rfl rfl rfl rfl _ _ rfl _ n j)
  refine congrArg₂ FloatOps.addf ?_ (look hx 7 _ (fun n => column _ 7 _ _ n) (R := 2) (by norm_num) (by norm_num) _ rfl rfl rfl rfl rfl _ _ rfl _ n j)
  refine congrArg₂ FloatOps.addf ?_ (look hx 6 _ (fun n => column _ 6 _ _ n) (R := 6) (by norm_num) (by norm_num) _ rfl rfl rfl rfl rfl _ _ rfl _ n j)
  refine congrArg₂ FloatOps.addf ?_ (look hx 5 _ (fun n => column _ 5 _ _ n) (R := 6) (by norm_num) (by norm_num) _ rfl rfl rfl rfl rfl _ _ rfl _ n j)
  refine congrArg₂ FloatOps.addf ?_ (look hx 4 _ (fun n => column _ 4 _ _ n) (R := 10) (by norm_num) (by norm_num) _ rfl rfl rfl rfl rfl _ _ rfl _ n j)
  refine congrArg₂ FloatOps.addf ?_ (look hx 3 _ (fun n => column _ 3 _ _ n) (R := 12) (by norm_num) (by norm_num) _ rfl rfl rfl rfl rfl _ _ rfl _ n j)
  refine congrArg₂ FloatOps.addf ?_ (look hx 2 _ (fun n => column _ 2 _ _ n) (R := 12) (by norm_num) (by norm_num) _ rfl rfl rfl rfl rfl _ _ rfl _ n j)
  refine congrArg₂ FloatOps.addf ?_ (look hx 1 _ (fun n => column _ 1 _ _ n) (R := 4) (by norm_num) (by norm_num) _ rfl rfl rfl rfl rfl _ _ rfl _ n j)
  exact congrArg₂ FloatOps.addf rfl (look hx 0 _ (fun n => column _ 0 _ _ n) (R := 119) (by norm_num) (by norm_num) _ rfl rfl rfl rfl rfl _ _ rfl _ n j)

end Cert.Proof.Ref

end
-- ==== Proof.Claims.lean ====
/-
  The claims: the frames of the program, of its idealization and of the reference, and the equality of the two results.
-/
module

public import proofs.«01_k».proof.Proof.Run
public import proofs.«01_k».proof.Proof.RefValue
public import proofs.«01_k».proof.Proof.Gen.Kernel
public import proofs.«01_k».proof.Proof.Gen.Kernel.Skeleton
public import proofs.«01_k».proof.Proof.Gen.Pre_node_bits
public import Idealize.ShloMosaic.Adequacy
public import Idealize.ShloMosaic.Init

@[expose] public section

noncomputable section

namespace Cert.Proof

open Idealize.ShloMosaic Idealize.ShloMosaic.ValueIdx Idealize.ShloMosaic.StableHlo Idealize.SL.Sem

/-! ## The frames -/

theorem frame_ki : Cert.quiescent_KernelIdeal := fun m ρ hpre =>
  (θ_run Cert.KernelIdeal.defs _ _).mono (fun _ h => ⟨fun c => ⟨(h.1 c).2.2 Cert.KernelIdeal.main_arg0 (by decide), (h.1 c).2.2 Cert.KernelIdeal.main_arg1 (by decide), (h.1 c).2.2 Cert.KernelIdeal.main_arg2 (by decide), (h.1 c).2.2 Cert.KernelIdeal.main_arg3 (by decide), (h.1 c).2.2 Cert.KernelIdeal.main_arg4 (by decide), (h.1 c).2.2 Cert.KernelIdeal.main_arg5 (by decide), (h.1 c).2.2 Cert.KernelIdeal.main_arg6 (by decide), (h.1 c).2.2 Cert.KernelIdeal.main_arg7 (by decide), (h.1 c).2.2 Cert.KernelIdeal.main_arg8 (by decide), (h.1 c).2.2 Cert.KernelIdeal.main_arg9 (by decide), (h.1 c).2.2 Cert.KernelIdeal.main_arg10 (by decide), (h.1 c).2.2 Cert.KernelIdeal.main_arg11 (by decide), (h.1 c).2.2 Cert.KernelIdeal.main_arg12 (by decide), (h.1 c).2.2 Cert.KernelIdeal.main_arg13 (by decide), (h.1 c).2.2 Cert.KernelIdeal.main_arg14 (by decide)⟩, h.2⟩)
    (run_main (F := Ideal) m ρ fun d => ok_of_pre _ _ _ _ _ _ _ _ _ _ _ _ _ _ _ (hpre d))

set_option maxHeartbeats 8000000 in
theorem frame_k : Cert.quiescent_Kernel := fun m ρ hpre =>
  (θ_run Cert.KernelIdeal.defs _ _).mono (fun _ h => ⟨fun c => ⟨(h.1 c).2.2 Cert.KernelIdeal.main_arg0 (by decide), (h.1 c).2.2 Cert.KernelIdeal.main_arg1 (by decide), (h.1 c).2.2 Cert.KernelIdeal.main_arg2 (by decide), (h.1 c).2.2 Cert.KernelIdeal.main_arg3 (by decide), (h.1 c).2.2 Cert.KernelIdeal.main_arg4 (by decide), (h.1 c).2.2 Cert.KernelIdeal.main_arg5 (by decide), (h.1 c).2.2 Cert.KernelIdeal.main_arg6 (by decide), (h.1 c).2.2 Cert.KernelIdeal.main_arg7 (by decide), (h.1 c).2.2 Cert.KernelIdeal.main_arg8 (by decide), (h.1 c).2.2 Cert.KernelIdeal.main_arg9 (by decide), (h.1 c).2.2 Cert.KernelIdeal.main_arg10 (by decide), (h.1 c).2.2 Cert.KernelIdeal.main_arg11 (by decide), (h.1 c).2.2 Cert.KernelIdeal.main_arg12 (by decide), (h.1 c).2.2 Cert.KernelIdeal.main_arg13 (by decide), (h.1 c).2.2 Cert.KernelIdeal.main_arg14 (by decide)⟩, h.2⟩)
    (run_main (F := Bits) m ρ fun d => ok_of_pre _ _ _ _ _ _ _ _ _ _ _ _ _ _ _ (hpre d))

/-- The reference keeps its arguments from any memory; it has no semaphore. -/
theorem frame_r : Cert.quiescent_ReferenceIdeal := fun m ρ _ =>
  (θ_run Cert.ReferenceIdeal.defs _ _).mono (fun r h => ⟨fun c => (h c).2.2.2.2.2.2.2, sem_eq_zero_of_no_sems (by decide) r.2⟩)
    (Cert.ReferenceIdeal.Value.run (F := Ideal) m ρ)

theorem frame_r_pre : Cert.quiescent_ReferenceIdeal_pre_node_bits := fun m ρ _ => frame_r m ρ trivial

/-! ## The two results are equal -/

theorem algebraic : Cert.algebraic_KernelIdeal_ReferenceIdeal := by
  intro m ρ m' ρ' hpre hagree
  have hx : ∀ d, OkWords (at₀ m d Cert.KernelIdeal.main_arg0) := fun d => ok_of_pre _ _ _ _ _ _ _ _ _ _ _ _ _ _ _ (hpre d)
  refine ⟨fun c => result m c, fun c => m (c.tc.loc Cert.KernelIdeal.main_arg1), fun c => m (c.tc.loc Cert.KernelIdeal.main_arg2), fun c => m (c.tc.loc Cert.KernelIdeal.main_arg3),
    fun _ => (broadcastInDim Cert.KernelIdeal.S1024x1 ![] Cert.KernelIdeal.Gen.bcast_S_S1024x1 (constant Cert.KernelIdeal.S_ .f32 0x00000000#32) : FVec Ideal Cert.KernelIdeal.S1024x1 .f32),
    fun c => m (c.tc.loc Cert.KernelIdeal.main_arg4), fun c => m (c.tc.loc Cert.KernelIdeal.main_arg5), ?_, ?_⟩
  · exact (θ_run Cert.KernelIdeal.defs _ _).mono (fun _ h c => ⟨(h.1 c).1, (h.1 c).2.2 Cert.KernelIdeal.main_arg1 (by decide), (h.1 c).2.2 Cert.KernelIdeal.main_arg2 (by decide), (h.1 c).2.2 Cert.KernelIdeal.main_arg3 (by decide), (h.1 c).2.1, (h.1 c).2.2 Cert.KernelIdeal.main_arg4 (by decide), (h.1 c).2.2 Cert.KernelIdeal.main_arg5 (by decide), (h.1 c).2.2 Cert.KernelIdeal.main_arg0 (by decide), (h.1 c).2.2 Cert.KernelIdeal.main_arg1 (by decide), (h.1 c).2.2 Cert.KernelIdeal.main_arg2 (by decide), (h.1 c).2.2 Cert.KernelIdeal.main_arg3 (by decide), (h.1 c).2.2 Cert.KernelIdeal.main_arg4 (by decide), (h.1 c).2.2 Cert.KernelIdeal.main_arg5 (by decide), (h.1 c).2.2 Cert.KernelIdeal.main_arg6 (by decide), (h.1 c).2.2 Cert.KernelIdeal.main_arg7 (by decide), (h.1 c).2.2 Cert.KernelIdeal.main_arg8 (by decide), (h.1 c).2.2 Cert.KernelIdeal.main_arg9 (by decide), (h.1 c).2.2 Cert.KernelIdeal.main_arg10 (by decide), (h.1 c).2.2 Cert.KernelIdeal.main_arg11 (by decide), (h.1 c).2.2 Cert.KernelIdeal.main_arg12 (by decide), (h.1 c).2.2 Cert.KernelIdeal.main_arg13 (by decide), (h.1 c).2.2 Cert.KernelIdeal.main_arg14 (by decide)⟩)
      (run_main (F := Ideal) m ρ hx)
  · refine (θ_run Cert.ReferenceIdeal.defs _ _).mono (fun r h c => ?_) (Cert.ReferenceIdeal.Value.run (F := Ideal) m' ρ')
    obtain ⟨g0, g1, g2, g3, g4, g5, g6, g7, g8, g9, g10, g11, g12, g13, g14⟩ := hagree c
    obtain ⟨h36, h1, h2, h3, h37, h4, h5, hargs⟩ := h c
    refine ⟨(h36.trans (Cert.ReferenceIdeal.Value.val1_main_v36 _).symm).trans ?_, h1.trans g1, h2.trans g2, h3.trans g3, h37, h4.trans g4, h5.trans g5, hargs⟩
    rw [Ref.val1_total]
    funext k
    obtain ⟨n, j, rfl⟩ : ∃ (n : Fin 100000) (j : Fin 128), k = ix2 n j := ⟨k 0, k 1, eq_ix2 k⟩
    have hx' : OkWords (launchContents m' c (Proc.devRef .tc Cert.ReferenceIdeal.main_arg0)) := by
      rw [show launchContents m' c (Proc.devRef .tc Cert.ReferenceIdeal.main_arg0) = _ from g0]
      exact hx c
    refine (Ref.total_apply _ hx' n j).trans ?_
    unfold result
    refine Eq.trans ?_ (outVal_eq _ _ _ _ _ _ _ _ _ (hx c) n j).symm
    have hd : digit hx' n = digit (hx c) n := funext fun q => Fin.ext (congrArg (fun x : IVec Cert.KernelIdeal.S100000x9 32 => (x (ix2 n q)).toNat) g0)
    rw [hd]
    have e6 : launchContents m' c (Proc.devRef .tc Cert.ReferenceIdeal.main_arg6) = at₀ m c Cert.KernelIdeal.main_arg6 := g6
    have e7 : launchContents m' c (Proc.devRef .tc Cert.ReferenceIdeal.main_arg7) = at₀ m c Cert.KernelIdeal.main_arg7 := g7
    have e8 : launchContents m' c (Proc.devRef .tc Cert.ReferenceIdeal.main_arg8) = at₀ m c Cert.KernelIdeal.main_arg8 := g8
    have e9 : launchContents m' c (Proc.devRef .tc Cert.ReferenceIdeal.main_arg9) = at₀ m c Cert.KernelIdeal.main_arg9 := g9
    have e10 : launchContents m' c (Proc.devRef .tc Cert.ReferenceIdeal.main_arg10) = at₀ m c Cert.KernelIdeal.main_arg10 := g10
    have e11 : launchContents m' c (Proc.devRef .tc Cert.ReferenceIdeal.main_arg11) = at₀ m c Cert.KernelIdeal.main_arg11 := g11
    have e12 : launchContents m' c (Proc.devRef .tc Cert.ReferenceIdeal.main_arg12) = at₀ m c Cert.KernelIdeal.main_arg12 := g12
    have e13 : launchContents m' c (Proc.devRef .tc Cert.ReferenceIdeal.main_arg13) = at₀ m c Cert.KernelIdeal.main_arg13 := g13
    have e14 : launchContents m' c (Proc.devRef .tc Cert.ReferenceIdeal.main_arg14) = at₀ m c Cert.KernelIdeal.main_arg14 := g14
    rw [e6, e7, e8, e9, e10, e11, e12, e13, e14]

end Cert.Proof

end
-- ==== Proof.lean ====
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_node_bits
public import proofs.«01_k».proof.Proof.Claims
public import Idealize.ShloMosaic.Adequacy
public import Idealize.ShloMosaic.Init

@[expose] public section

noncomputable section

namespace Cert.Proof

/-- Everything the certificate claims. -/
theorem claim : Cert.Claim := ⟨Cert.Kernel.Gen.facts, Cert.KernelIdeal.Gen.facts, Cert.ReferenceIdeal.Gen.facts, Cert.Pre_node_bits.Gen.facts,
  frame_k, frame_ki, frame_r, frame_r_pre, trivial, algebraic⟩

end Cert.Proof

end
